-- ==== Defs.lean ====
def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadIdeal_targets_in_vocab [hPre_targets_in_vocab : Cert.Pre_targets_in_vocab.Facts] (m : (ℓ : Loc Cert.HeadIdeal.nD Cert.HeadIdeal.τ Cert.HeadIdeal.sig) → Buf (Elt Ideal) ℓ) : Prop :=
  ∀ c : Dev Cert.HeadIdeal.nD,
    (Cert.Pre_targets_in_vocab.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4))) = (fun _ => 1#1)

def Pre_HeadRefIdeal (m : (ℓ : Loc Cert.HeadRefIdeal.nD Cert.HeadRefIdeal.τ Cert.HeadRefIdeal.sig) → Buf (Elt Ideal) ℓ) : Prop :=
  True

def Pre_HeadRefIdeal_targets_in_vocab [hPre_targets_in_vocab : Cert.Pre_targets_in_vocab.Facts] (m : (ℓ : Loc Cert.HeadRefIdeal.nD Cert.HeadRefIdeal.τ Cert.HeadRefIdeal.sig) → Buf (Elt Ideal) ℓ) : Prop :=
  ∀ c : Dev Cert.HeadRefIdeal.nD,
    (Cert.Pre_targets_in_vocab.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4))) = (fun _ => 1#1)

def Pre_Xn (m : (ℓ : Loc Cert.Xn.nD Cert.Xn.τ Cert.Xn.sig) → Buf (Elt Bits) ℓ) : Prop :=
  True

def Pre_XnIdeal (m : (ℓ : Loc Cert.XnIdeal.nD Cert.XnIdeal.τ Cert.XnIdeal.sig) → Buf (Elt Ideal) ℓ) : Prop :=
  True

def Pre_XnIdeal_xn_weights_float [hPre_xn_weights_float : Cert.Pre_xn_weights_float.Facts] (m : (ℓ : Loc Cert.XnIdeal.nD Cert.XnIdeal.τ Cert.XnIdeal.sig) → Buf (Elt Ideal) ℓ) : Prop :=
  ∀ c : Dev Cert.XnIdeal.nD,
    (Cert.Pre_xn_weights_float.fn (F := Ideal) (m ((c.tc : Thread Cert.XnIdeal.nD Cert.XnIdeal.τ).loc Cert.XnIdeal.main_arg0)) (m ((c.tc : Thread Cert.XnIdeal.nD Cert.XnIdeal.τ).loc Cert.XnIdeal.main_arg1))) = (fun _ => 1#1)

def Pre_XnRefIdeal (m : (ℓ : Loc Cert.XnRefIdeal.nD Cert.XnRefIdeal.τ Cert.XnRefIdeal.sig) → Buf (Elt Ideal) ℓ) : Prop :=
  True

def Pre_XnRefIdeal_xn_weights_float [hPre_xn_weights_float : Cert.Pre_xn_weights_float.Facts] (m : (ℓ : Loc Cert.XnRefIdeal.nD Cert.XnRefIdeal.τ Cert.XnRefIdeal.sig) → Buf (Elt Ideal) ℓ) : Prop :=
  ∀ c : Dev Cert.XnRefIdeal.nD,
    (Cert.Pre_xn_weights_float.fn (F := Ideal) (m ((c.tc : Thread Cert.XnRefIdeal.nD Cert.XnRefIdeal.τ).loc Cert.XnRefIdeal.main_arg0)) (m ((c.tc : Thread Cert.XnRefIdeal.nD Cert.XnRefIdeal.τ).loc Cert.XnRefIdeal.main_arg1))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownIdeal_down_weights_float [hPre_down_weights_float : Cert.Pre_down_weights_float.Facts] (m : (ℓ : Loc Cert.DownIdeal.nD Cert.DownIdeal.τ Cert.DownIdeal.sig) → Buf (Elt Ideal) ℓ) : Prop :=
  ∀ c : Dev Cert.DownIdeal.nD,
    (Cert.Pre_down_weights_float.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5))) = (fun _ => 1#1)

def Pre_DownRefIdeal (m : (ℓ : Loc Cert.DownRefIdeal.nD Cert.DownRefIdeal.τ Cert.DownRefIdeal.sig) → Buf (Elt Ideal) ℓ) : Prop :=
  True

def Pre_DownRefIdeal_down_weights_float [hPre_down_weights_float : Cert.Pre_down_weights_float.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_down_weights_float.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4)) (m ((c.tc : Thread Cert.DownRefIdeal.nD Cert.DownRefIdeal.τ).loc Cert.DownRefIdeal.main_arg5))) = (fun _ => 1#1)

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpIdeal_gate_up_bounded [hPre_gate_up_bounded : Cert.Pre_gate_up_bounded.Facts] (m : (ℓ : Loc Cert.GateUpIdeal.nD Cert.GateUpIdeal.τ Cert.GateUpIdeal.sig) → Buf (Elt Ideal) ℓ) : Prop :=
  ∀ c : Dev Cert.GateUpIdeal.nD,
    (Cert.Pre_gate_up_bounded.fn (F := Ideal) (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2)) (m ((c.tc : Thread Cert.GateUpIdeal.nD Cert.GateUpIdeal.τ).loc Cert.GateUpIdeal.main_arg3)) (m ((c.tc : Thread Cert.GateUpIdeal.nD Cert.GateUpIdeal.τ).loc Cert.GateUpIdeal.main_arg4)) (m ((c.tc : Thread Cert.GateUpIdeal.nD Cert.GateUpIdeal.τ).loc Cert.GateUpIdeal.main_arg5))) = (fun _ => 1#1)

def Pre_GateUpRefIdeal (m : (ℓ : Loc Cert.GateUpRefIdeal.nD Cert.GateUpRefIdeal.τ Cert.GateUpRefIdeal.sig) → Buf (Elt Ideal) ℓ) : Prop :=
  True

def Pre_GateUpRefIdeal_gate_up_bounded [hPre_gate_up_bounded : Cert.Pre_gate_up_bounded.Facts] (m : (ℓ : Loc Cert.GateUpRefIdeal.nD Cert.GateUpRefIdeal.τ Cert.GateUpRefIdeal.sig) → Buf (Elt Ideal) ℓ) : Prop :=
  ∀ c : Dev Cert.GateUpRefIdeal.nD,
    (Cert.Pre_gate_up_bounded.fn (F := Ideal) (m ((c.tc : Thread Cert.GateUpRefIdeal.nD Cert.GateUpRefIdeal.τ).loc Cert.GateUpRefIdeal.main_arg0)) (m ((c.tc : Thread Cert.GateUpRefIdeal.nD Cert.GateUpRefIdeal.τ).loc Cert.GateUpRefIdeal.main_arg1)) (m ((c.tc : Thread Cert.GateUpRefIdeal.nD Cert.GateUpRefIdeal.τ).loc Cert.GateUpRefIdeal.main_arg2)) (m ((c.tc : Thread Cert.GateUpRefIdeal.nD Cert.GateUpRefIdeal.τ).loc Cert.GateUpRefIdeal.main_arg3)) (m ((c.tc : Thread Cert.GateUpRefIdeal.nD Cert.GateUpRefIdeal.τ).loc Cert.GateUpRefIdeal.main_arg4)) (m ((c.tc : Thread Cert.GateUpRefIdeal.nD Cert.GateUpRefIdeal.τ).loc Cert.GateUpRefIdeal.main_arg5))) = (fun _ => 1#1)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4))
      ∧ r.2.sem = fun _ => 0)

def quiescent_HeadIdeal_pre_targets_in_vocab [hHeadIdeal : Cert.HeadIdeal.Facts] [hPre_targets_in_vocab : Cert.Pre_targets_in_vocab.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal_targets_in_vocab m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4))
      ∧ r.2.sem = fun _ => 0)

def quiescent_HeadRefIdeal_pre_targets_in_vocab [hHeadRefIdeal : Cert.HeadRefIdeal.Facts] [hPre_targets_in_vocab : Cert.Pre_targets_in_vocab.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal_targets_in_vocab m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4))
      ∧ r.2.sem = fun _ => 0)

def quiescent_Xn [hXn : Cert.Xn.Facts] : Prop :=
  ∀ (m : (ℓ : Loc Cert.Xn.nD Cert.Xn.τ Cert.Xn.sig) → Buf (Elt Bits) ℓ) (g : Dev Cert.Xn.nD → PrngReg), Pre_Xn m →
    θ_run (Cert.Xn.defs (F := Bits)) (onTc (τ := Cert.Xn.τ) (Cert.Xn.main (F := Bits))) ⟨m, fun _ => 0, g⟩ (fun r => (∀ c : Dev Cert.Xn.nD,
      r.2.mem ((c.tc : Thread Cert.Xn.nD Cert.Xn.τ).loc Cert.Xn.main_arg0) = m ((c.tc : Thread Cert.Xn.nD Cert.Xn.τ).loc Cert.Xn.main_arg0)
      ∧ r.2.mem ((c.tc : Thread Cert.Xn.nD Cert.Xn.τ).loc Cert.Xn.main_arg1) = m ((c.tc : Thread Cert.Xn.nD Cert.Xn.τ).loc Cert.Xn.main_arg1))
      ∧ r.2.sem = fun _ => 0)

def quiescent_XnIdeal [hXnIdeal : Cert.XnIdeal.Facts] : Prop :=
  ∀ (m : (ℓ : Loc Cert.XnIdeal.nD Cert.XnIdeal.τ Cert.XnIdeal.sig) → Buf (Elt Ideal) ℓ) (g : Dev Cert.XnIdeal.nD → PrngReg), Pre_XnIdeal m →
    θ_run (Cert.XnIdeal.defs (F := Ideal)) (onTc (τ := Cert.XnIdeal.τ) (Cert.XnIdeal.main (F := Ideal))) ⟨m, fun _ => 0, g⟩ (fun r => (∀ c : Dev Cert.XnIdeal.nD,
      r.2.mem ((c.tc : Thread Cert.XnIdeal.nD Cert.XnIdeal.τ).loc Cert.XnIdeal.main_arg0) = m ((c.tc : Thread Cert.XnIdeal.nD Cert.XnIdeal.τ).loc Cert.XnIdeal.main_arg0)
      ∧ r.2.mem ((c.tc : Thread Cert.XnIdeal.nD Cert.XnIdeal.τ).loc Cert.XnIdeal.main_arg1) = m ((c.tc : Thread Cert.XnIdeal.nD Cert.XnIdeal.τ).loc Cert.XnIdeal.main_arg1))
      ∧ r.2.sem = fun _ => 0)

def quiescent_XnIdeal_pre_xn_weights_float [hXnIdeal : Cert.XnIdeal.Facts] [hPre_xn_weights_float : Cert.Pre_xn_weights_float.Facts] : Prop :=
  ∀ (m : (ℓ : Loc Cert.XnIdeal.nD Cert.XnIdeal.τ Cert.XnIdeal.sig) → Buf (Elt Ideal) ℓ) (g : Dev Cert.XnIdeal.nD → PrngReg), Pre_XnIdeal_xn_weights_float m →
    θ_run (Cert.XnIdeal.defs (F := Ideal)) (onTc (τ := Cert.XnIdeal.τ) (Cert.XnIdeal.main (F := Ideal))) ⟨m, fun _ => 0, g⟩ (fun r => (∀ c : Dev Cert.XnIdeal.nD,
      r.2.mem ((c.tc : Thread Cert.XnIdeal.nD Cert.XnIdeal.τ).loc Cert.XnIdeal.main_arg0) = m ((c.tc : Thread Cert.XnIdeal.nD Cert.XnIdeal.τ).loc Cert.XnIdeal.main_arg0)
      ∧ r.2.mem ((c.tc : Thread Cert.XnIdeal.nD Cert.XnIdeal.τ).loc Cert.XnIdeal.main_arg1) = m ((c.tc : Thread Cert.XnIdeal.nD Cert.XnIdeal.τ).loc Cert.XnIdeal.main_arg1))
      ∧ r.2.sem = fun _ => 0)

def quiescent_XnRefIdeal [hXnRefIdeal : Cert.XnRefIdeal.Facts] : Prop :=
  ∀ (m : (ℓ : Loc Cert.XnRefIdeal.nD Cert.XnRefIdeal.τ Cert.XnRefIdeal.sig) → Buf (Elt Ideal) ℓ) (g : Dev Cert.XnRefIdeal.nD → PrngReg), Pre_XnRefIdeal m →
    θ_run (Cert.XnRefIdeal.defs (F := Ideal)) (onTc (τ := Cert.XnRefIdeal.τ) (Cert.XnRefIdeal.main (F := Ideal))) ⟨m, fun _ => 0, g⟩ (fun r => (∀ c : Dev Cert.XnRefIdeal.nD,
      r.2.mem ((c.tc : Thread Cert.XnRefIdeal.nD Cert.XnRefIdeal.τ).loc Cert.XnRefIdeal.main_arg0) = m ((c.tc : Thread Cert.XnRefIdeal.nD Cert.XnRefIdeal.τ).loc Cert.XnRefIdeal.main_arg0)
      ∧ r.2.mem ((c.tc : Thread Cert.XnRefIdeal.nD Cert.XnRefIdeal.τ).loc Cert.XnRefIdeal.main_arg1) = m ((c.tc : Thread Cert.XnRefIdeal.nD Cert.XnRefIdeal.τ).loc Cert.XnRefIdeal.main_arg1))
      ∧ r.2.sem = fun _ => 0)

def quiescent_XnRefIdeal_pre_xn_weights_float [hXnRefIdeal : Cert.XnRefIdeal.Facts] [hPre_xn_weights_float : Cert.Pre_xn_weights_float.Facts] : Prop :=
  ∀ (m : (ℓ : Loc Cert.XnRefIdeal.nD Cert.XnRefIdeal.τ Cert.XnRefIdeal.sig) → Buf (Elt Ideal) ℓ) (g : Dev Cert.XnRefIdeal.nD → PrngReg), Pre_XnRefIdeal_xn_weights_float m →
    θ_run (Cert.XnRefIdeal.defs (F := Ideal)) (onTc (τ := Cert.XnRefIdeal.τ) (Cert.XnRefIdeal.main (F := Ideal))) ⟨m, fun _ => 0, g⟩ (fun r => (∀ c : Dev Cert.XnRefIdeal.nD,
      r.2.mem ((c.tc : Thread Cert.XnRefIdeal.nD Cert.XnRefIdeal.τ).loc Cert.XnRefIdeal.main_arg0) = m ((c.tc : Thread Cert.XnRefIdeal.nD Cert.XnRefIdeal.τ).loc Cert.XnRefIdeal.main_arg0)
      ∧ r.2.mem ((c.tc : Thread Cert.XnRefIdeal.nD Cert.XnRefIdeal.τ).loc Cert.XnRefIdeal.main_arg1) = m ((c.tc : Thread Cert.XnRefIdeal.nD Cert.XnRefIdeal.τ).loc Cert.XnRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownIdeal_pre_down_weights_float [hDownIdeal : Cert.DownIdeal.Facts] [hPre_down_weights_float : Cert.Pre_down_weights_float.Facts] : Prop :=
  ∀ (m : (ℓ : Loc Cert.DownIdeal.nD Cert.DownIdeal.τ Cert.DownIdeal.sig) → Buf (Elt Ideal) ℓ) (g : Dev Cert.DownIdeal.nD → PrngReg), Pre_DownIdeal_down_weights_float m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5))
      ∧ r.2.sem = fun _ => 0)

def quiescent_DownRefIdeal_pre_down_weights_float [hDownRefIdeal : Cert.DownRefIdeal.Facts] [hPre_down_weights_float : Cert.Pre_down_weights_float.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal_down_weights_float m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ r.2.sem = fun _ => 0)

def quiescent_GateUpIdeal_pre_gate_up_bounded [hGateUpIdeal : Cert.GateUpIdeal.Facts] [hPre_gate_up_bounded : Cert.Pre_gate_up_bounded.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal_gate_up_bounded m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4)
      ∧ r.2.mem ((c.tc : Thread Cert.GateUpRefIdeal.nD Cert.GateUpRefIdeal.τ).loc Cert.GateUpRefIdeal.main_arg5) = m ((c.tc : Thread Cert.GateUpRefIdeal.nD Cert.GateUpRefIdeal.τ).loc Cert.GateUpRefIdeal.main_arg5))
      ∧ r.2.sem = fun _ => 0)

def quiescent_GateUpRefIdeal_pre_gate_up_bounded [hGateUpRefIdeal : Cert.GateUpRefIdeal.Facts] [hPre_gate_up_bounded : Cert.Pre_gate_up_bounded.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal_gate_up_bounded m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4)
      ∧ r.2.mem ((c.tc : Thread Cert.GateUpRefIdeal.nD Cert.GateUpRefIdeal.τ).loc Cert.GateUpRefIdeal.main_arg5) = m ((c.tc : Thread Cert.GateUpRefIdeal.nD Cert.GateUpRefIdeal.τ).loc Cert.GateUpRefIdeal.main_arg5))
      ∧ r.2.sem = fun _ => 0)

def preserves_Head_HeadIdeal : Prop :=
  IdealRules.named_const.Statement Cert.HeadIdeal.κ "log2e" .f32 0x3FB8AA3B#32 (((Real.log 2)⁻¹ : ℝ) : EReal)

def algebraic_HeadIdeal_HeadRefIdeal_pre_targets_in_vocab [hHeadIdeal : Cert.HeadIdeal.Facts] [hHeadRefIdeal : Cert.HeadRefIdeal.Facts] [hPre_targets_in_vocab : Cert.Pre_targets_in_vocab.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal_targets_in_vocab m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)) →
    ∃ (v0 : (c : Dev Cert.HeadIdeal.nD) → Buf (Elt Ideal) ((c.tc : Thread Cert.HeadIdeal.nD Cert.HeadIdeal.τ).loc Cert.HeadIdeal.main_v2_0)) (v1 : (c : Dev Cert.HeadIdeal.nD) → Buf (Elt Ideal) ((c.tc : Thread Cert.HeadIdeal.nD Cert.HeadIdeal.τ).loc Cert.HeadIdeal.main_v2_1)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v2_0) = v0 c
          ∧ r.2.mem ((c.tc : Thread Cert.HeadIdeal.nD Cert.HeadIdeal.τ).loc Cert.HeadIdeal.main_v2_1) = v1 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v19) = v0 c
          ∧ r.2.mem ((c.tc : Thread Cert.HeadRefIdeal.nD Cert.HeadRefIdeal.τ).loc Cert.HeadRefIdeal.main_v23) = v1 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4))

def preserves_Xn_XnIdeal : Prop :=
  True

def algebraic_XnIdeal_XnRefIdeal_pre_xn_weights_float [hXnIdeal : Cert.XnIdeal.Facts] [hXnRefIdeal : Cert.XnRefIdeal.Facts] [hPre_xn_weights_float : Cert.Pre_xn_weights_float.Facts] : Prop :=
  ∀ (m : (ℓ : Loc Cert.XnIdeal.nD Cert.XnIdeal.τ Cert.XnIdeal.sig) → Buf (Elt Ideal) ℓ) (g : Dev Cert.XnIdeal.nD → PrngReg)
    (m' : (ℓ : Loc Cert.XnRefIdeal.nD Cert.XnRefIdeal.τ Cert.XnRefIdeal.sig) → Buf (Elt Ideal) ℓ) (g' : Dev Cert.XnRefIdeal.nD → PrngReg), Pre_XnIdeal_xn_weights_float m →
    (∀ c : Dev Cert.XnIdeal.nD,
      m' ((c.tc : Thread Cert.XnRefIdeal.nD Cert.XnRefIdeal.τ).loc Cert.XnRefIdeal.main_arg0) = m ((c.tc : Thread Cert.XnIdeal.nD Cert.XnIdeal.τ).loc Cert.XnIdeal.main_arg0)
      ∧ m' ((c.tc : Thread Cert.XnRefIdeal.nD Cert.XnRefIdeal.τ).loc Cert.XnRefIdeal.main_arg1) = m ((c.tc : Thread Cert.XnIdeal.nD Cert.XnIdeal.τ).loc Cert.XnIdeal.main_arg1)) →
    ∃ (v0 : (c : Dev Cert.XnIdeal.nD) → Buf (Elt Ideal) ((c.tc : Thread Cert.XnIdeal.nD Cert.XnIdeal.τ).loc Cert.XnIdeal.main_v2_0)) (v1 : (c : Dev Cert.XnIdeal.nD) → Buf (Elt Ideal) ((c.tc : Thread Cert.XnIdeal.nD Cert.XnIdeal.τ).loc Cert.XnIdeal.main_v2_1)),
      θ_run (Cert.XnIdeal.defs (F := Ideal)) (onTc (τ := Cert.XnIdeal.τ) (Cert.XnIdeal.main (F := Ideal))) ⟨m, fun _ => 0, g⟩ (fun r => ∀ c : Dev Cert.XnIdeal.nD,
          r.2.mem ((c.tc : Thread Cert.XnIdeal.nD Cert.XnIdeal.τ).loc Cert.XnIdeal.main_v2_0) = v0 c
          ∧ r.2.mem ((c.tc : Thread Cert.XnIdeal.nD Cert.XnIdeal.τ).loc Cert.XnIdeal.main_v2_1) = v1 c
          ∧ r.2.mem ((c.tc : Thread Cert.XnIdeal.nD Cert.XnIdeal.τ).loc Cert.XnIdeal.main_arg0) = m ((c.tc : Thread Cert.XnIdeal.nD Cert.XnIdeal.τ).loc Cert.XnIdeal.main_arg0)
          ∧ r.2.mem ((c.tc : Thread Cert.XnIdeal.nD Cert.XnIdeal.τ).loc Cert.XnIdeal.main_arg1) = m ((c.tc : Thread Cert.XnIdeal.nD Cert.XnIdeal.τ).loc Cert.XnIdeal.main_arg1))
      ∧ θ_run (Cert.XnRefIdeal.defs (F := Ideal)) (onTc (τ := Cert.XnRefIdeal.τ) (Cert.XnRefIdeal.main (F := Ideal))) ⟨m', fun _ => 0, g'⟩ (fun r => ∀ c : Dev Cert.XnRefIdeal.nD,
          r.2.mem ((c.tc : Thread Cert.XnRefIdeal.nD Cert.XnRefIdeal.τ).loc Cert.XnRefIdeal.main_v43_0) = v0 c
          ∧ r.2.mem ((c.tc : Thread Cert.XnRefIdeal.nD Cert.XnRefIdeal.τ).loc Cert.XnRefIdeal.main_v44) = v1 c
          ∧ r.2.mem ((c.tc : Thread Cert.XnRefIdeal.nD Cert.XnRefIdeal.τ).loc Cert.XnRefIdeal.main_arg0) = m' ((c.tc : Thread Cert.XnRefIdeal.nD Cert.XnRefIdeal.τ).loc Cert.XnRefIdeal.main_arg0)
          ∧ r.2.mem ((c.tc : Thread Cert.XnRefIdeal.nD Cert.XnRefIdeal.τ).loc Cert.XnRefIdeal.main_arg1) = m' ((c.tc : Thread Cert.XnRefIdeal.nD Cert.XnRefIdeal.τ).loc Cert.XnRefIdeal.main_arg1))

def preserves_Down_DownIdeal : Prop :=
  True

def algebraic_DownIdeal_DownRefIdeal_pre_down_weights_float [hDownIdeal : Cert.DownIdeal.Facts] [hDownRefIdeal : Cert.DownRefIdeal.Facts] [hPre_down_weights_float : Cert.Pre_down_weights_float.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal_down_weights_float m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v3_0)) (v1 : (c : Dev Cert.DownIdeal.nD) → Buf (Elt Ideal) ((c.tc : Thread Cert.DownIdeal.nD Cert.DownIdeal.τ).loc Cert.DownIdeal.main_v3_1)) (v2 : (c : Dev Cert.DownIdeal.nD) → Buf (Elt Ideal) ((c.tc : Thread Cert.DownIdeal.nD Cert.DownIdeal.τ).loc Cert.DownIdeal.main_v3_2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3_0) = v0 c
          ∧ r.2.mem ((c.tc : Thread Cert.DownIdeal.nD Cert.DownIdeal.τ).loc Cert.DownIdeal.main_v3_1) = v1 c
          ∧ r.2.mem ((c.tc : Thread Cert.DownIdeal.nD Cert.DownIdeal.τ).loc Cert.DownIdeal.main_v3_2) = v2 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v9) = v0 c
          ∧ r.2.mem ((c.tc : Thread Cert.DownRefIdeal.nD Cert.DownRefIdeal.τ).loc Cert.DownRefIdeal.main_v52_0) = v1 c
          ∧ r.2.mem ((c.tc : Thread Cert.DownRefIdeal.nD Cert.DownRefIdeal.τ).loc Cert.DownRefIdeal.main_v53) = v2 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5))

def preserves_GateUp_GateUpIdeal : Prop :=
  True

def algebraic_GateUpIdeal_GateUpRefIdeal_pre_gate_up_bounded [hGateUpIdeal : Cert.GateUpIdeal.Facts] [hGateUpRefIdeal : Cert.GateUpRefIdeal.Facts] [hPre_gate_up_bounded : Cert.Pre_gate_up_bounded.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal_gate_up_bounded m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)
      ∧ m' ((c.tc : Thread Cert.GateUpRefIdeal.nD Cert.GateUpRefIdeal.τ).loc Cert.GateUpRefIdeal.main_arg4) = m ((c.tc : Thread Cert.GateUpIdeal.nD Cert.GateUpIdeal.τ).loc Cert.GateUpIdeal.main_arg4)
      ∧ m' ((c.tc : Thread Cert.GateUpRefIdeal.nD Cert.GateUpRefIdeal.τ).loc Cert.GateUpRefIdeal.main_arg5) = m ((c.tc : Thread Cert.GateUpIdeal.nD Cert.GateUpIdeal.τ).loc Cert.GateUpIdeal.main_arg5)) →
    ∃ (v0 : (c : Dev Cert.GateUpIdeal.nD) → Buf (Elt Ideal) ((c.tc : Thread Cert.GateUpIdeal.nD Cert.GateUpIdeal.τ).loc Cert.GateUpIdeal.main_v5_0)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v5_0) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
          ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v44_0) = v0 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3)
          ∧ r.2.mem ((c.tc : Thread Cert.GateUpRefIdeal.nD Cert.GateUpRefIdeal.τ).loc Cert.GateUpRefIdeal.main_arg4) = m' ((c.tc : Thread Cert.GateUpRefIdeal.nD Cert.GateUpRefIdeal.τ).loc Cert.GateUpRefIdeal.main_arg4)
          ∧ r.2.mem ((c.tc : Thread Cert.GateUpRefIdeal.nD Cert.GateUpRefIdeal.τ).loc Cert.GateUpRefIdeal.main_arg5) = m' ((c.tc : Thread Cert.GateUpRefIdeal.nD Cert.GateUpRefIdeal.τ).loc Cert.GateUpRefIdeal.main_arg5))

def Claim : Prop :=
  ∃ (hHead : Cert.Head.Facts) (hHeadIdeal : Cert.HeadIdeal.Facts) (hHeadRefIdeal : Cert.HeadRefIdeal.Facts) (hXn : Cert.Xn.Facts) (hXnIdeal : Cert.XnIdeal.Facts) (hXnRefIdeal : Cert.XnRefIdeal.Facts) (hDown : Cert.Down.Facts) (hDownIdeal : Cert.DownIdeal.Facts) (hDownRefIdeal : Cert.DownRefIdeal.Facts) (hGateUp : Cert.GateUp.Facts) (hGateUpIdeal : Cert.GateUpIdeal.Facts) (hGateUpRefIdeal : Cert.GateUpRefIdeal.Facts) (hPre_targets_in_vocab : Cert.Pre_targets_in_vocab.Facts) (hPre_xn_weights_float : Cert.Pre_xn_weights_float.Facts) (hPre_down_weights_float : Cert.Pre_down_weights_float.Facts) (hPre_gate_up_bounded : Cert.Pre_gate_up_bounded.Facts),
    quiescent_Head (hHead := hHead)
    ∧ quiescent_HeadIdeal (hHeadIdeal := hHeadIdeal)
    ∧ quiescent_HeadIdeal_pre_targets_in_vocab (hHeadIdeal := hHeadIdeal) (hPre_targets_in_vocab := hPre_targets_in_vocab)
    ∧ quiescent_HeadRefIdeal (hHeadRefIdeal := hHeadRefIdeal)
    ∧ quiescent_HeadRefIdeal_pre_targets_in_vocab (hHeadRefIdeal := hHeadRefIdeal) (hPre_targets_in_vocab := hPre_targets_in_vocab)
    ∧ quiescent_Xn (hXn := hXn)
    ∧ quiescent_XnIdeal (hXnIdeal := hXnIdeal)
    ∧ quiescent_XnIdeal_pre_xn_weights_float (hXnIdeal := hXnIdeal) (hPre_xn_weights_float := hPre_xn_weights_float)
    ∧ quiescent_XnRefIdeal (hXnRefIdeal := hXnRefIdeal)
    ∧ quiescent_XnRefIdeal_pre_xn_weights_float (hXnRefIdeal := hXnRefIdeal) (hPre_xn_weights_float := hPre_xn_weights_float)
    ∧ quiescent_Down (hDown := hDown)
    ∧ quiescent_DownIdeal (hDownIdeal := hDownIdeal)
    ∧ quiescent_DownIdeal_pre_down_weights_float (hDownIdeal := hDownIdeal) (hPre_down_weights_float := hPre_down_weights_float)
    ∧ quiescent_DownRefIdeal (hDownRefIdeal := hDownRefIdeal)
    ∧ quiescent_DownRefIdeal_pre_down_weights_float (hDownRefIdeal := hDownRefIdeal) (hPre_down_weights_float := hPre_down_weights_float)
    ∧ quiescent_GateUp (hGateUp := hGateUp)
    ∧ quiescent_GateUpIdeal (hGateUpIdeal := hGateUpIdeal)
    ∧ quiescent_GateUpIdeal_pre_gate_up_bounded (hGateUpIdeal := hGateUpIdeal) (hPre_gate_up_bounded := hPre_gate_up_bounded)
    ∧ quiescent_GateUpRefIdeal (hGateUpRefIdeal := hGateUpRefIdeal)
    ∧ quiescent_GateUpRefIdeal_pre_gate_up_bounded (hGateUpRefIdeal := hGateUpRefIdeal) (hPre_gate_up_bounded := hPre_gate_up_bounded)
    ∧ preserves_Head_HeadIdeal
    ∧ algebraic_HeadIdeal_HeadRefIdeal_pre_targets_in_vocab (hHeadIdeal := hHeadIdeal) (hHeadRefIdeal := hHeadRefIdeal) (hPre_targets_in_vocab := hPre_targets_in_vocab)
    ∧ preserves_Xn_XnIdeal
    ∧ algebraic_XnIdeal_XnRefIdeal_pre_xn_weights_float (hXnIdeal := hXnIdeal) (hXnRefIdeal := hXnRefIdeal) (hPre_xn_weights_float := hPre_xn_weights_float)
    ∧ preserves_Down_DownIdeal
    ∧ algebraic_DownIdeal_DownRefIdeal_pre_down_weights_float (hDownIdeal := hDownIdeal) (hDownRefIdeal := hDownRefIdeal) (hPre_down_weights_float := hPre_down_weights_float)
    ∧ preserves_GateUp_GateUpIdeal
    ∧ algebraic_GateUpIdeal_GateUpRefIdeal_pre_gate_up_bounded (hGateUpIdeal := hGateUpIdeal) (hGateUpRefIdeal := hGateUpRefIdeal) (hPre_gate_up_bounded := hPre_gate_up_bounded)
-- ==== Pre_down_weights_float.lean ====
abbrev S24576x8192 : Shape := ⟨2, ![24576, 8192]⟩
abbrev S24576x1 : Shape := ⟨2, ![24576, 1]⟩
abbrev S8192x2048 : Shape := ⟨2, ![8192, 2048]⟩
abbrev S2048 : Shape := ⟨1, ![2048]⟩
abbrev S16x1536x2048 : Shape := ⟨3, ![16, 1536, 2048]⟩
abbrev S_ : Shape := ⟨0, ![]⟩

class Facts : Prop where
  bcast_S_S2048 : S_.BroadcastsInDim S2048 (![] : Fin 0 → Fin S2048.rank)

variable [Facts]

def fn {F : FTy → Type} [FloatOps F] (main_arg0 : FVec F S24576x8192 .fp8e4m3) (main_arg1 : FVec F S24576x1 .f32) (main_arg2 : FVec F S8192x2048 .fp8e4m3) (main_arg3 : FVec F S2048 .f32) (main_arg4 : FVec F S16x1536x2048 .bf16) (main_arg5 : FVec F S2048 .f32) : IVec S2048 1 :=
  let main_v0 : FVec F S2048 .f32 := Host.absf main_arg5
  let main_cst : FVec F S_ .f32 := constant S_ .f32 0x7F7FFFFF#32
  let main_v1 : FVec F S2048 .f32 := broadcastInDim S2048 ![] bcast_S_S2048 main_cst
  let main_v2 : IVec S2048 1 := cmpf .ole main_v0 main_v1
  let main_v3 : FVec F S2048 .f32 := Host.absf main_arg5
  let main_cst_0 : FVec F S_ .f32 := constant S_ .f32 0x7F800000#32
  let main_v4 : FVec F S2048 .f32 := broadcastInDim S2048 ![] bcast_S_S2048 main_cst_0
  let main_v5 : IVec S2048 1 := cmpf .oeq main_v3 main_v4
  let main_v6 : IVec S2048 1 := ori main_v2 main_v5
  main_v6
-- ==== Pre_gate_up_bounded.lean ====
abbrev S24576x2048 : Shape := ⟨2, ![24576, 2048]⟩
abbrev S24576x1 : Shape := ⟨2, ![24576, 1]⟩
abbrev S2048x8192 : Shape := ⟨2, ![2048, 8192]⟩
abbrev S8192 : Shape := ⟨1, ![8192]⟩
abbrev S_ : Shape := ⟨0, ![]⟩

class Facts : Prop where
  reducesTo_S24576x2048_S_d0_1 : S24576x2048.ReducesTo [0, 1] S_
  h_S_ : 0 < S_.numel
  reducesTo_S2048x8192_S_d0_1 : S2048x8192.ReducesTo [0, 1] S_
  reducesTo_S24576x1_S_d0_1 : S24576x1.ReducesTo [0, 1] S_
  reducesTo_S8192_S_d0 : S8192.ReducesTo [0] S_

variable [Facts]

def fn_part1 {F : FTy → Type} [FloatOps F] (main_arg5 : FVec F S8192 .f32) (main_v14 : IVec S_ 1) (main_v15 : FVec F S8192 .f32) : IVec S_ 1 :=
  let main_cst_7 : FVec F S_ .f32 := constant S_ .f32 0xFF800000#32
  let main_v16 : FVec F S_ .f32 := (fun x v => Host.reduce FloatOps.maximumf x v reducesTo_S8192_S_d0 h_S_) main_v15 main_cst_7
  let main_cst_8 : FVec F S_ .f32 := constant S_ .f32 0x47800000#32
  let main_v17 : IVec S_ 1 := cmpf .ole main_v16 main_cst_8
  let main_v18 : IVec S_ 1 := andi main_v14 main_v17
  let main_v19 : FVec F S8192 .f32 := Host.absf main_arg5
  let main_cst_9 : FVec F S_ .f32 := constant S_ .f32 0xFF800000#32
  let main_v20 : FVec F S_ .f32 := (fun x v => Host.reduce FloatOps.maximumf x v reducesTo_S8192_S_d0 h_S_) main_v19 main_cst_9
  let main_cst_10 : FVec F S_ .f32 := constant S_ .f32 0x47800000#32
  let main_v21 : IVec S_ 1 := cmpf .ole main_v20 main_cst_10
  let main_v22 : IVec S_ 1 := andi main_v18 main_v21
  main_v22

def fn {F : FTy → Type} [FloatOps F] (main_arg0 : FVec F S24576x2048 .f32) (main_arg1 : FVec F S24576x1 .f32) (main_arg2 : FVec F S2048x8192 .f32) (main_arg3 : FVec F S8192 .f32) (main_arg4 : FVec F S2048x8192 .f32) (main_arg5 : FVec F S8192 .f32) : IVec S_ 1 :=
  let main_v0 : FVec F S24576x2048 .f32 := Host.absf main_arg0
  let main_cst : FVec F S_ .f32 := constant S_ .f32 0xFF800000#32
  let main_v1 : FVec F S_ .f32 := (fun x v => Host.reduce FloatOps.maximumf x v reducesTo_S24576x2048_S_d0_1 h_S_) main_v0 main_cst
  let main_cst_0 : FVec F S_ .f32 := constant S_ .f32 0x43E00000#32
  let main_v2 : IVec S_ 1 := cmpf .ole main_v1 main_cst_0
  let main_v3 : FVec F S2048x8192 .f32 := Host.absf main_arg2
  let main_cst_1 : FVec F S_ .f32 := constant S_ .f32 0xFF800000#32
  let main_v4 : FVec F S_ .f32 := (fun x v => Host.reduce FloatOps.maximumf x v reducesTo_S2048x8192_S_d0_1 h_S_) main_v3 main_cst_1
  let main_cst_2 : FVec F S_ .f32 := constant S_ .f32 0x43E00000#32
  let main_v5 : IVec S_ 1 := cmpf .ole main_v4 main_cst_2
  let main_v6 : IVec S_ 1 := andi main_v2 main_v5
  let main_v7 : FVec F S2048x8192 .f32 := Host.absf main_arg4
  let main_cst_3 : FVec F S_ .f32 := constant S_ .f32 0xFF800000#32
  let main_v8 : FVec F S_ .f32 := (fun x v => Host.reduce FloatOps.maximumf x v reducesTo_S2048x8192_S_d0_1 h_S_) main_v7 main_cst_3
  let main_cst_4 : FVec F S_ .f32 := constant S_ .f32 0x43E00000#32
  let main_v9 : IVec S_ 1 := cmpf .ole main_v8 main_cst_4
  let main_v10 : IVec S_ 1 := andi main_v6 main_v9
  let main_v11 : FVec F S24576x1 .f32 := Host.absf main_arg1
  let main_cst_5 : FVec F S_ .f32 := constant S_ .f32 0xFF800000#32
  let main_v12 : FVec F S_ .f32 := (fun x v => Host.reduce FloatOps.maximumf x v reducesTo_S24576x1_S_d0_1 h_S_) main_v11 main_cst_5
  let main_cst_6 : FVec F S_ .f32 := constant S_ .f32 0x47800000#32
  let main_v13 : IVec S_ 1 := cmpf .ole main_v12 main_cst_6
  let main_v14 : IVec S_ 1 := andi main_v10 main_v13
  let main_v15 : FVec F S8192 .f32 := Host.absf main_arg3
  fn_part1 (F := F) main_arg5 main_v14 main_v15
-- ==== Pre_targets_in_vocab.lean ====
abbrev S24576x2048 : Shape := ⟨2, ![24576, 2048]⟩
abbrev S24576x1 : Shape := ⟨2, ![24576, 1]⟩
abbrev S49152x2048 : Shape := ⟨2, ![49152, 2048]⟩
abbrev S49152 : Shape := ⟨1, ![49152]⟩
abbrev S24576 : Shape := ⟨1, ![24576]⟩
abbrev S_ : Shape := ⟨0, ![]⟩

class Facts : Prop where
  bcast_S_S24576 : S_.BroadcastsInDim S24576 (![] : Fin 0 → Fin S24576.rank)

variable [Facts]

def fn {F : FTy → Type} [FloatOps F] (main_arg0 : FVec F S24576x2048 .fp8e4m3) (main_arg1 : FVec F S24576x1 .f32) (main_arg2 : FVec F S49152x2048 .fp8e4m3) (main_arg3 : FVec F S49152 .f32) (main_arg4 : IVec S24576 32) : IVec S24576 1 :=
  let main_c : IVec S_ 32 := constantI S_ 32 0#32
  let main_v0 : IVec S24576 32 := broadcastInDim S24576 ![] bcast_S_S24576 main_c
  let main_v1 : IVec S24576 1 := cmpi .sge main_arg4 main_v0
  let main_c_0 : IVec S_ 32 := constantI S_ 32 49152#32
  let main_v2 : IVec S24576 32 := broadcastInDim S24576 ![] bcast_S_S24576 main_c_0
  let main_v3 : IVec S24576 1 := cmpi .slt main_arg4 main_v2
  let main_v4 : IVec S24576 1 := andi main_v1 main_v3
  main_v4
-- ==== Pre_xn_weights_float.lean ====
abbrev S16x1536x2048 : Shape := ⟨3, ![16, 1536, 2048]⟩
abbrev S2048 : Shape := ⟨1, ![2048]⟩
abbrev S_ : Shape := ⟨0, ![]⟩

class Facts : Prop where
  bcast_S_S2048 : S_.BroadcastsInDim S2048 (![] : Fin 0 → Fin S2048.rank)

variable [Facts]

def fn {F : FTy → Type} [FloatOps F] (main_arg0 : FVec F S16x1536x2048 .bf16) (main_arg1 : FVec F S2048 .f32) : IVec S2048 1 :=
  let main_v0 : FVec F S2048 .f32 := Host.absf main_arg1
  let main_cst : FVec F S_ .f32 := constant S_ .f32 0x7F7FFFFF#32
  let main_v1 : FVec F S2048 .f32 := broadcastInDim S2048 ![] bcast_S_S2048 main_cst
  let main_v2 : IVec S2048 1 := cmpf .ole main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .oeq main_v3 main_v4
  let main_v6 : IVec S2048 1 := ori main_v2 main_v5
  main_v6
-- ==== Head.lean ====
abbrev S24576x2048 : Shape := ⟨2, ![24576, 2048]⟩
abbrev S24576x1 : Shape := ⟨2, ![24576, 1]⟩
abbrev S49152x2048 : Shape := ⟨2, ![49152, 2048]⟩
abbrev S49152 : Shape := ⟨1, ![49152]⟩
abbrev S24576 : Shape := ⟨1, ![24576]⟩
abbrev S1x49152 : Shape := ⟨2, ![1, 49152]⟩
abbrev S1024x2048 : Shape := ⟨2, ![1024, 2048]⟩
abbrev S1024x1 : Shape := ⟨2, ![1024, 1]⟩
abbrev S1x1024 : Shape := ⟨2, ![1, 1024]⟩
abbrev S1024x128 : Shape := ⟨2, ![1024, 128]⟩
abbrev S1024x1024 : Shape := ⟨2, ![1024, 1024]⟩
abbrev S1024 : Shape := ⟨1, ![1024]⟩

abbrev nBuf : Space → Nat
  | .hbm => 9
  | .vmem => 17
  | .smem => 0
  | _ => 0

abbrev bufTy : (tb : Table) → Fin (tcTables nBuf tb) → BufTy
  | .hbm, ⟨0, _⟩ => ⟨S24576x2048, .fp8e4m3⟩
  | .hbm, ⟨1, _⟩ => ⟨S24576x1, .f32⟩
  | .hbm, ⟨2, _⟩ => ⟨S49152x2048, .fp8e4m3⟩
  | .hbm, ⟨3, _⟩ => ⟨S49152, .f32⟩
  | .hbm, ⟨4, _⟩ => ⟨S24576, .i32⟩
  | .hbm, ⟨5, _⟩ => ⟨S1x49152, .f32⟩
  | .hbm, ⟨6, _⟩ => ⟨S24576x1, .i32⟩
  | .hbm, ⟨7, _⟩ => ⟨S24576x1, .f32⟩
  | .hbm, ⟨8, _⟩ => ⟨S24576x1, .f32⟩
  | .local _ .vmem, ⟨0, _⟩ => ⟨S1024x2048, .fp8e4m3⟩
  | .local _ .vmem, ⟨1, _⟩ => ⟨S1024x2048, .fp8e4m3⟩
  | .local _ .vmem, ⟨2, _⟩ => ⟨S1024x1, .f32⟩
  | .local _ .vmem, ⟨3, _⟩ => ⟨S1024x1, .f32⟩
  | .local _ .vmem, ⟨4, _⟩ => ⟨S1024x2048, .fp8e4m3⟩
  | .local _ .vmem, ⟨5, _⟩ => ⟨S1024x2048, .fp8e4m3⟩
  | .local _ .vmem, ⟨6, _⟩ => ⟨S1x1024, .f32⟩
  | .local _ .vmem, ⟨7, _⟩ => ⟨S1x1024, .f32⟩
  | .local _ .vmem, ⟨8, _⟩ => ⟨S1024x1, .i32⟩
  | .local _ .vmem, ⟨9, _⟩ => ⟨S1024x1, .i32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | _, _ => ⟨S24576x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![24, 48], ![false, false]⟩

def k0_cond2 (i : grid0.Coords) : BitVec 1 :=
  let arg1 : BitVec 32 := BitVec.ofNat 32 (i 1).val
  let c47_i32 : BitVec 32 := 47#32
  let v134 : BitVec 1 := Scalar.cmpi .eq arg1 c47_i32
  let v135 : BitVec 32 := Scalar.extui v134
  let c0_i32_33 : BitVec 32 := 0#32
  let v136 : BitVec 1 := Scalar.cmpi .ne v135 c0_i32_33
  v136

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== HeadIdeal.lean ====
variable {F : FTy → Type} [FloatOps F] [Named F]
def κ : String → Option EReal := fun
  | "log2e" => some (((Real.log 2)⁻¹ : ℝ) : EReal)
  | _ => none
-- ==== HeadRefIdeal.lean ====
abbrev S24576x2048 : Shape := ⟨2, ![24576, 2048]⟩
abbrev S24576x1 : Shape := ⟨2, ![24576, 1]⟩
abbrev S49152x2048 : Shape := ⟨2, ![49152, 2048]⟩
abbrev S49152 : Shape := ⟨1, ![49152]⟩
abbrev S24576 : Shape := ⟨1, ![24576]⟩
abbrev S24576x49152 : Shape := ⟨2, ![24576, 49152]⟩
abbrev S1x49152 : Shape := ⟨2, ![1, 49152]⟩
abbrev S_ : Shape := ⟨0, ![]⟩
abbrev S24576x1x1 : Shape := ⟨3, ![24576, 1, 1]⟩
abbrev S1 : Shape := ⟨1, ![1]⟩
abbrev S1x1x1 : Shape := ⟨3, ![1, 1, 1]⟩

abbrev nBuf : Space → Nat
  | .hbm => 54
  | .vmem => 3
  | .smem => 0
  | _ => 0

abbrev bufTy : (tb : Table) → Fin (tcTables nBuf tb) → BufTy
  | .hbm, ⟨0, _⟩ => ⟨S24576x2048, .fp8e4m3⟩
  | .hbm, ⟨1, _⟩ => ⟨S24576x1, .f32⟩
  | .hbm, ⟨2, _⟩ => ⟨S49152x2048, .fp8e4m3⟩
  | .hbm, ⟨3, _⟩ => ⟨S49152, .f32⟩
  | .hbm, ⟨4, _⟩ => ⟨S24576, .i32⟩
  | .hbm, ⟨5, _⟩ => ⟨S24576x49152, .f32⟩
  | .hbm, ⟨6, _⟩ => ⟨S24576x49152, .f32⟩
  | .hbm, ⟨7, _⟩ => ⟨S24576x49152, .f32⟩
  | .hbm, ⟨8, _⟩ => ⟨S1x49152, .f32⟩
  | .hbm, ⟨9, _⟩ => ⟨S24576x49152, .f32⟩
  | .hbm, ⟨10, _⟩ => ⟨S24576x49152, .f32⟩
  | .hbm, ⟨11, _⟩ => ⟨S_, .f32⟩
  | .hbm, ⟨12, _⟩ => ⟨S24576, .f32⟩
  | .hbm, ⟨13, _⟩ => ⟨S24576x1, .f32⟩
  | .hbm, ⟨14, _⟩ => ⟨S24576x49152, .f32⟩
  | .hbm, ⟨15, _⟩ => ⟨S24576x49152, .f32⟩
  | .hbm, ⟨16, _⟩ => ⟨S24576x49152, .f32⟩
  | .hbm, ⟨17, _⟩ => ⟨S_, .f32⟩
  | .hbm, ⟨18, _⟩ => ⟨S24576, .f32⟩
  | .hbm, ⟨19, _⟩ => ⟨S24576, .f32⟩
  | .hbm, ⟨20, _⟩ => ⟨S24576, .f32⟩
  | .hbm, ⟨21, _⟩ => ⟨S24576x1, .i32⟩
  | .hbm, ⟨22, _⟩ => ⟨S_, .i32⟩
  | .hbm, ⟨23, _⟩ => ⟨S24576x1, .i32⟩
  | .hbm, ⟨24, _⟩ => ⟨S24576x1, .i1⟩
  | .hbm, ⟨25, _⟩ => ⟨S_, .i32⟩
  | .hbm, ⟨26, _⟩ => ⟨S24576x1, .i32⟩
  | .hbm, ⟨27, _⟩ => ⟨S24576x1, .i32⟩
  | .hbm, ⟨28, _⟩ => ⟨S24576x1, .i32⟩
  | .hbm, ⟨29, _⟩ => ⟨S24576x1x1, .i32⟩
  | .hbm, ⟨30, _⟩ => ⟨S1, .i32⟩
  | .hbm, ⟨31, _⟩ => ⟨S_, .i32⟩
  | .hbm, ⟨32, _⟩ => ⟨S24576x1x1, .i32⟩
  | .hbm, ⟨33, _⟩ => ⟨S24576x1x1, .i1⟩
  | .hbm, ⟨34, _⟩ => ⟨S1x1x1, .i32⟩
  | .hbm, ⟨35, _⟩ => ⟨S24576x1x1, .i32⟩
  | .hbm, ⟨36, _⟩ => ⟨S24576x1x1, .i1⟩
  | .hbm, ⟨37, _⟩ => ⟨S24576x1x1, .i1⟩
  | .hbm, ⟨38, _⟩ => ⟨S_, .i1⟩
  | .hbm, ⟨39, _⟩ => ⟨S24576x1, .i1⟩
  | .hbm, ⟨40, _⟩ => ⟨S24576x1, .f32⟩
  | .hbm, ⟨41, _⟩ => ⟨S_, .f32⟩
  | .hbm, ⟨42, _⟩ => ⟨S24576x1, .f32⟩
  | .hbm, ⟨43, _⟩ => ⟨S24576x1, .f32⟩
  | .hbm, ⟨44, _⟩ => ⟨S24576, .f32⟩
  | .hbm, ⟨45, _⟩ => ⟨S_, .f32⟩
  | .hbm, ⟨46, _⟩ => ⟨S24576, .f32⟩
  | .hbm, ⟨47, _⟩ => ⟨S24576, .f32⟩
  | .hbm, ⟨48, _⟩ => ⟨S24576x1, .f32⟩
  | .hbm, ⟨49, _⟩ => ⟨S24576, .f32⟩
  | .hbm, ⟨50, _⟩ => ⟨S_, .f32⟩
  | .hbm, ⟨51, _⟩ => ⟨S24576, .f32⟩
  | .hbm, ⟨52, _⟩ => ⟨S24576, .f32⟩
  | .hbm, ⟨53, _⟩ => ⟨S24576x1, .f32⟩
  | .local _ .vmem, ⟨0, _⟩ => ⟨S24576x2048, .fp8e4m3⟩
  | .local _ .vmem, ⟨1, _⟩ => ⟨S49152x2048, .fp8e4m3⟩
  | .local _ .vmem, ⟨2, _⟩ => ⟨S24576x49152, .f32⟩
  | _, _ => ⟨S24576x2048, .fp8e4m3⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_cst : Ref sig .tc := ⟨.hbm, 41, rfl⟩
abbrev main_call0_v14 : Ref sig .tc := ⟨.hbm, 42, rfl⟩
abbrev main_v15 : Ref sig .tc := ⟨.hbm, 43, rfl⟩
abbrev main_v16 : Ref sig .tc := ⟨.hbm, 44, rfl⟩
abbrev main_cst_1 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_cst_2 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S24576x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S49152x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24576x49152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Xn.lean ====
abbrev S16x1536x2048 : Shape := ⟨3, ![16, 1536, 2048]⟩
abbrev S2048 : Shape := ⟨1, ![2048]⟩
abbrev S24576x2048 : Shape := ⟨2, ![24576, 2048]⟩
abbrev S1x2048 : Shape := ⟨2, ![1, 2048]⟩
abbrev S24576x1 : Shape := ⟨2, ![24576, 1]⟩
abbrev S512x2048 : Shape := ⟨2, ![512, 2048]⟩
abbrev S512x1 : Shape := ⟨2, ![512, 1]⟩
abbrev S512 : Shape := ⟨1, ![512]⟩
abbrev S512x256 : Shape := ⟨2, ![512, 256]⟩

abbrev nBuf : Space → Nat
  | .hbm => 6
  | .vmem => 7
  | .smem => 0
  | _ => 0

abbrev bufTy : (tb : Table) → Fin (tcTables nBuf tb) → BufTy
  | .hbm, ⟨0, _⟩ => ⟨S16x1536x2048, .bf16⟩
  | .hbm, ⟨1, _⟩ => ⟨S2048, .f32⟩
  | .hbm, ⟨2, _⟩ => ⟨S24576x2048, .bf16⟩
  | .hbm, ⟨3, _⟩ => ⟨S1x2048, .f32⟩
  | .hbm, ⟨4, _⟩ => ⟨S24576x2048, .fp8e4m3⟩
  | .hbm, ⟨5, _⟩ => ⟨S24576x1, .f32⟩
  | .local _ .vmem, ⟨0, _⟩ => ⟨S512x2048, .bf16⟩
  | .local _ .vmem, ⟨1, _⟩ => ⟨S512x2048, .bf16⟩
  | .local _ .vmem, ⟨2, _⟩ => ⟨S1x2048, .f32⟩
  | .local _ .vmem, ⟨3, _⟩ => ⟨S512x2048, .fp8e4m3⟩
  | .local _ .vmem, ⟨4, _⟩ => ⟨S512x2048, .fp8e4m3⟩
  | .local _ .vmem, ⟨5, _⟩ => ⟨S512x1, .f32⟩
  | .local _ .vmem, ⟨6, _⟩ => ⟨S512x1, .f32⟩
  | _, _ => ⟨S16x1536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== XnRefIdeal.lean ====
abbrev S16x1536x2048 : Shape := ⟨3, ![16, 1536, 2048]⟩
abbrev S2048 : Shape := ⟨1, ![2048]⟩
abbrev S24576x2048 : Shape := ⟨2, ![24576, 2048]⟩
abbrev S_ : Shape := ⟨0, ![]⟩
abbrev S24576 : Shape := ⟨1, ![24576]⟩
abbrev S24576x1 : Shape := ⟨2, ![24576, 1]⟩
abbrev S1x2048 : Shape := ⟨2, ![1, 2048]⟩

abbrev nBuf : Space → Nat
  | .hbm => 69
  | .vmem => 0
  | .smem => 0
  | _ => 0

abbrev bufTy : (tb : Table) → Fin (tcTables nBuf tb) → BufTy
  | .hbm, ⟨0, _⟩ => ⟨S16x1536x2048, .bf16⟩
  | .hbm, ⟨1, _⟩ => ⟨S2048, .f32⟩
  | .hbm, ⟨2, _⟩ => ⟨S24576x2048, .bf16⟩
  | .hbm, ⟨3, _⟩ => ⟨S24576x2048, .f32⟩
  | .hbm, ⟨4, _⟩ => ⟨S24576x2048, .f32⟩
  | .hbm, ⟨5, _⟩ => ⟨S_, .f32⟩
  | .hbm, ⟨6, _⟩ => ⟨S24576, .f32⟩
  | .hbm, ⟨7, _⟩ => ⟨S24576x1, .f32⟩
  | .hbm, ⟨8, _⟩ => ⟨S_, .f32⟩
  | .hbm, ⟨9, _⟩ => ⟨S24576x1, .f32⟩
  | .hbm, ⟨10, _⟩ => ⟨S24576x1, .f32⟩
  | .hbm, ⟨11, _⟩ => ⟨S_, .f32⟩
  | .hbm, ⟨12, _⟩ => ⟨S24576x1, .f32⟩
  | .hbm, ⟨13, _⟩ => ⟨S24576x1, .f32⟩
  | .hbm, ⟨14, _⟩ => ⟨S24576x1, .f32⟩
  | .hbm, ⟨15, _⟩ => ⟨S24576x2048, .f32⟩
  | .hbm, ⟨16, _⟩ => ⟨S24576x2048, .f32⟩
  | .hbm, ⟨17, _⟩ => ⟨S1x2048, .f32⟩
  | .hbm, ⟨18, _⟩ => ⟨S24576x2048, .f32⟩
  | .hbm, ⟨19, _⟩ => ⟨S24576x2048, .f32⟩
  | .hbm, ⟨20, _⟩ => ⟨S24576x2048, .f32⟩
  | .hbm, ⟨21, _⟩ => ⟨S_, .f32⟩
  | .hbm, ⟨22, _⟩ => ⟨S24576, .f32⟩
  | .hbm, ⟨23, _⟩ => ⟨S_, .f32⟩
  | .hbm, ⟨24, _⟩ => ⟨S24576, .f32⟩
  | .hbm, ⟨25, _⟩ => ⟨S24576, .f32⟩
  | .hbm, ⟨26, _⟩ => ⟨S24576, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S24576, .f32⟩
  | .hbm, ⟨31, _⟩ => ⟨S24576, .f32⟩
  | .hbm, ⟨32, _⟩ => ⟨S24576, .f32⟩
  | .hbm, ⟨33, _⟩ => ⟨S_, .f32⟩
  | .hbm, ⟨34, _⟩ => ⟨S24576, .f32⟩
  | .hbm, ⟨35, _⟩ => ⟨S24576, .f32⟩
  | .hbm, ⟨36, _⟩ => ⟨S_, .f32⟩
  | .hbm, ⟨37, _⟩ => ⟨S24576, .f32⟩
  | .hbm, ⟨38, _⟩ => ⟨S24576, .i1⟩
  | .hbm, ⟨39, _⟩ => ⟨S_, .f32⟩
  | .hbm, ⟨40, _⟩ => ⟨S24576, .f32⟩
  | .hbm, ⟨41, _⟩ => ⟨S24576, .i1⟩
  | .hbm, ⟨42, _⟩ => ⟨S24576, .i1⟩
  | .hbm, ⟨43, _⟩ => ⟨S_, .f32⟩
  | .hbm, ⟨44, _⟩ => ⟨S_, .f32⟩
  | .hbm, ⟨45, _⟩ => ⟨S24576, .f32⟩
  | .hbm, ⟨46, _⟩ => ⟨S24576, .f32⟩
  | .hbm, ⟨47, _⟩ => ⟨S_, .f32⟩
  | .hbm, ⟨48, _⟩ => ⟨S24576, .f32⟩
  | .hbm, ⟨49, _⟩ => ⟨S24576, .f32⟩
  | .hbm, ⟨50, _⟩ => ⟨S24576, .f32⟩
  | .hbm, ⟨51, _⟩ => ⟨S_, .f32⟩
  | .hbm, ⟨52, _⟩ => ⟨S24576, .f32⟩
  | .hbm, ⟨53, _⟩ => ⟨S24576, .f32⟩
  | .hbm, ⟨54, _⟩ => ⟨S24576x1, .f32⟩
  | .hbm, ⟨55, _⟩ => ⟨S24576x2048, .f32⟩
  | .hbm, ⟨56, _⟩ => ⟨S24576x2048, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S24576x2048, .f32⟩
  | .hbm, ⟨61, _⟩ => ⟨S24576x2048, .f32⟩
  | .hbm, ⟨62, _⟩ => ⟨S_, .f32⟩
  | .hbm, ⟨63, _⟩ => ⟨S24576x2048, .f32⟩
  | .hbm, ⟨64, _⟩ => ⟨S24576x2048, .f32⟩
  | .hbm, ⟨65, _⟩ => ⟨S24576x2048, .fp8e4m3⟩
  | .hbm, ⟨66, _⟩ => ⟨S24576x2048, .fp8e4m3⟩
  | .hbm, ⟨67, _⟩ => ⟨S24576, .f32⟩
  | .hbm, ⟨68, _⟩ => ⟨S24576x1, .f32⟩
  | _, _ => ⟨S16x1536x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩
abbrev main_v28 : Ref sig .tc := ⟨.hbm, 38, rfl⟩
abbrev main_cst_7 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_8 : Ref sig .tc := ⟨.hbm, 43, rfl⟩
abbrev main_call0_v0 : Ref sig .tc := ⟨.hbm, 44, rfl⟩
abbrev main_call0_v1 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_10 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_11 : Ref sig .tc := ⟨.hbm, 57, rfl⟩
abbrev main_cst_12 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_v41 : Ref sig .tc := ⟨.hbm, 64, rfl⟩
abbrev main_v42 : Ref sig .tc := ⟨.hbm, 65, rfl⟩
abbrev main_v43_0 : Ref sig .tc := ⟨.hbm, 66, rfl⟩
abbrev main_v43_1 : Ref sig .tc := ⟨.hbm, 67, rfl⟩
abbrev main_v44 : Ref sig .tc := ⟨.hbm, 68, rfl⟩

abbrev nD : Nat := 1
abbrev τ : Topo := Topo.v7x

variable {F : FTy → Type} [FloatOps F]
-- ==== Down.lean ====
abbrev S24576x8192 : Shape := ⟨2, ![24576, 8192]⟩
abbrev S24576x1 : Shape := ⟨2, ![24576, 1]⟩
abbrev S8192x2048 : Shape := ⟨2, ![8192, 2048]⟩
abbrev S2048 : Shape := ⟨1, ![2048]⟩
abbrev S16x1536x2048 : Shape := ⟨3, ![16, 1536, 2048]⟩
abbrev S24576x2048 : Shape := ⟨2, ![24576, 2048]⟩
abbrev S1x2048 : Shape := ⟨2, ![1, 2048]⟩
abbrev S512x8192 : Shape := ⟨2, ![512, 8192]⟩
abbrev S512x1 : Shape := ⟨2, ![512, 1]⟩
abbrev S512x2048 : Shape := ⟨2, ![512, 2048]⟩
abbrev S512 : Shape := ⟨1, ![512]⟩
abbrev S512x256 : Shape := ⟨2, ![512, 256]⟩

abbrev nBuf : Space → Nat
  | .hbm => 12
  | .vmem => 15
  | .smem => 0
  | _ => 0

abbrev bufTy : (tb : Table) → Fin (tcTables nBuf tb) → BufTy
  | .hbm, ⟨0, _⟩ => ⟨S24576x8192, .fp8e4m3⟩
  | .hbm, ⟨1, _⟩ => ⟨S24576x1, .f32⟩
  | .hbm, ⟨2, _⟩ => ⟨S8192x2048, .fp8e4m3⟩
  | .hbm, ⟨3, _⟩ => ⟨S2048, .f32⟩
  | .hbm, ⟨4, _⟩ => ⟨S16x1536x2048, .bf16⟩
  | .hbm, ⟨5, _⟩ => ⟨S2048, .f32⟩
  | .hbm, ⟨6, _⟩ => ⟨S24576x2048, .bf16⟩
  | .hbm, ⟨7, _⟩ => ⟨S1x2048, .f32⟩
  | .hbm, ⟨8, _⟩ => ⟨S1x2048, .f32⟩
  | .hbm, ⟨9, _⟩ => ⟨S24576x2048, .bf16⟩
  | .hbm, ⟨10, _⟩ => ⟨S24576x2048, .fp8e4m3⟩
  | .hbm, ⟨11, _⟩ => ⟨S24576x1, .f32⟩
  | .local _ .vmem, ⟨0, _⟩ => ⟨S512x8192, .fp8e4m3⟩
  | .local _ .vmem, ⟨1, _⟩ => ⟨S512x8192, .fp8e4m3⟩
  | .local _ .vmem, ⟨2, _⟩ => ⟨S512x1, .f32⟩
  | .local _ .vmem, ⟨3, _⟩ => ⟨S512x1, .f32⟩
  | .local _ .vmem, ⟨4, _⟩ => ⟨S8192x2048, .fp8e4m3⟩
  | .local _ .vmem, ⟨5, _⟩ => ⟨S1x2048, .f32⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S512x2048, .bf16⟩
  | .local _ .vmem, ⟨10, _⟩ => ⟨S512x2048, .bf16⟩
  | .local _ .vmem, ⟨11, _⟩ => ⟨S512x2048, .fp8e4m3⟩
  | .local _ .vmem, ⟨12, _⟩ => ⟨S512x2048, .fp8e4m3⟩
  | .local _ .vmem, ⟨13, _⟩ => ⟨S512x1, .f32⟩
  | .local _ .vmem, ⟨14, _⟩ => ⟨S512x1, .f32⟩
  | _, _ => ⟨S24576x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8192 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== DownRefIdeal.lean ====
abbrev S24576x8192 : Shape := ⟨2, ![24576, 8192]⟩
abbrev S24576x1 : Shape := ⟨2, ![24576, 1]⟩
abbrev S8192x2048 : Shape := ⟨2, ![8192, 2048]⟩
abbrev S2048 : Shape := ⟨1, ![2048]⟩
abbrev S16x1536x2048 : Shape := ⟨3, ![16, 1536, 2048]⟩
abbrev S24576x2048 : Shape := ⟨2, ![24576, 2048]⟩
abbrev S1x2048 : Shape := ⟨2, ![1, 2048]⟩
abbrev S_ : Shape := ⟨0, ![]⟩
abbrev S24576 : Shape := ⟨1, ![24576]⟩

abbrev nBuf : Space → Nat
  | .hbm => 82
  | .vmem => 3
  | .smem => 0
  | _ => 0

abbrev bufTy : (tb : Table) → Fin (tcTables nBuf tb) → BufTy
  | .hbm, ⟨0, _⟩ => ⟨S24576x8192, .fp8e4m3⟩
  | .hbm, ⟨1, _⟩ => ⟨S24576x1, .f32⟩
  | .hbm, ⟨2, _⟩ => ⟨S8192x2048, .fp8e4m3⟩
  | .hbm, ⟨3, _⟩ => ⟨S2048, .f32⟩
  | .hbm, ⟨4, _⟩ => ⟨S16x1536x2048, .bf16⟩
  | .hbm, ⟨5, _⟩ => ⟨S2048, .f32⟩
  | .hbm, ⟨6, _⟩ => ⟨S24576x2048, .bf16⟩
  | .hbm, ⟨7, _⟩ => ⟨S24576x2048, .f32⟩
  | .hbm, ⟨8, _⟩ => ⟨S24576x2048, .f32⟩
  | .hbm, ⟨9, _⟩ => ⟨S24576x2048, .f32⟩
  | .hbm, ⟨10, _⟩ => ⟨S24576x2048, .f32⟩
  | .hbm, ⟨11, _⟩ => ⟨S1x2048, .f32⟩
  | .hbm, ⟨12, _⟩ => ⟨S24576x2048, .f32⟩
  | .hbm, ⟨13, _⟩ => ⟨S24576x2048, .f32⟩
  | .hbm, ⟨14, _⟩ => ⟨S24576x2048, .f32⟩
  | .hbm, ⟨15, _⟩ => ⟨S24576x2048, .bf16⟩
  | .hbm, ⟨16, _⟩ => ⟨S24576x2048, .f32⟩
  | .hbm, ⟨17, _⟩ => ⟨S24576x2048, .f32⟩
  | .hbm, ⟨18, _⟩ => ⟨S_, .f32⟩
  | .hbm, ⟨19, _⟩ => ⟨S24576, .f32⟩
  | .hbm, ⟨20, _⟩ => ⟨S24576x1, .f32⟩
  | .hbm, ⟨21, _⟩ => ⟨S_, .f32⟩
  | .hbm, ⟨22, _⟩ => ⟨S24576x1, .f32⟩
  | .hbm, ⟨23, _⟩ => ⟨S24576x1, .f32⟩
  | .hbm, ⟨24, _⟩ => ⟨S_, .f32⟩
  | .hbm, ⟨25, _⟩ => ⟨S24576x1, .f32⟩
  | .hbm, ⟨26, _⟩ => ⟨S24576x1, .f32⟩
  | .hbm, ⟨27, _⟩ => ⟨S24576x1, .f32⟩
  | .hbm, ⟨28, _⟩ => ⟨S24576x2048, .f32⟩
  | .hbm, ⟨29, _⟩ => ⟨S24576x2048, .f32⟩
  | .hbm, ⟨30, _⟩ => ⟨S1x2048, .f32⟩
  | .hbm, ⟨31, _⟩ => ⟨S24576x2048, .f32⟩
  | .hbm, ⟨32, _⟩ => ⟨S24576x2048, .f32⟩
  | .hbm, ⟨33, _⟩ => ⟨S24576x2048, .f32⟩
  | .hbm, ⟨34, _⟩ => ⟨S_, .f32⟩
  | .hbm, ⟨35, _⟩ => ⟨S24576, .f32⟩
  | .hbm, ⟨36, _⟩ => ⟨S_, .f32⟩
  | .hbm, ⟨37, _⟩ => ⟨S24576, .f32⟩
  | .hbm, ⟨38, _⟩ => ⟨S24576, .f32⟩
  | .hbm, ⟨39, _⟩ => ⟨S24576, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S24576, .f32⟩
  | .hbm, ⟨44, _⟩ => ⟨S24576, .f32⟩
  | .hbm, ⟨45, _⟩ => ⟨S24576, .f32⟩
  | .hbm, ⟨46, _⟩ => ⟨S_, .f32⟩
  | .hbm, ⟨47, _⟩ => ⟨S24576, .f32⟩
  | .hbm, ⟨48, _⟩ => ⟨S24576, .f32⟩
  | .hbm, ⟨49, _⟩ => ⟨S_, .f32⟩
  | .hbm, ⟨50, _⟩ => ⟨S24576, .f32⟩
  | .hbm, ⟨51, _⟩ => ⟨S24576, .i1⟩
  | .hbm, ⟨52, _⟩ => ⟨S_, .f32⟩
  | .hbm, ⟨53, _⟩ => ⟨S24576, .f32⟩
  | .hbm, ⟨54, _⟩ => ⟨S24576, .i1⟩
  | .hbm, ⟨55, _⟩ => ⟨S24576, .i1⟩
  | .hbm, ⟨56, _⟩ => ⟨S_, .f32⟩
  | .hbm, ⟨57, _⟩ => ⟨S_, .f32⟩
  | .hbm, ⟨58, _⟩ => ⟨S24576, .f32⟩
  | .hbm, ⟨59, _⟩ => ⟨S24576, .f32⟩
  | .hbm, ⟨60, _⟩ => ⟨S_, .f32⟩
  | .hbm, ⟨61, _⟩ => ⟨S24576, .f32⟩
  | .hbm, ⟨62, _⟩ => ⟨S24576, .f32⟩
  | .hbm, ⟨63, _⟩ => ⟨S24576, .f32⟩
  | .hbm, ⟨64, _⟩ => ⟨S_, .f32⟩
  | .hbm, ⟨65, _⟩ => ⟨S24576, .f32⟩
  | .hbm, ⟨66, _⟩ => ⟨S24576, .f32⟩
  | .hbm, ⟨67, _⟩ => ⟨S24576x1, .f32⟩
  | .hbm, ⟨68, _⟩ => ⟨S24576x2048, .f32⟩
  | .hbm, ⟨69, _⟩ => ⟨S24576x2048, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S24576x2048, .f32⟩
  | .hbm, ⟨74, _⟩ => ⟨S24576x2048, .f32⟩
  | .hbm, ⟨75, _⟩ => ⟨S_, .f32⟩
  | .hbm, ⟨76, _⟩ => ⟨S24576x2048, .f32⟩
  | .hbm, ⟨77, _⟩ => ⟨S24576x2048, .f32⟩
  | .hbm, ⟨78, _⟩ => ⟨S24576x2048, .fp8e4m3⟩
  | .hbm, ⟨79, _⟩ => ⟨S24576x2048, .fp8e4m3⟩
  | .hbm, ⟨80, _⟩ => ⟨S24576, .f32⟩
  | .hbm, ⟨81, _⟩ => ⟨S24576x1, .f32⟩
  | .local _ .vmem, ⟨0, _⟩ => ⟨S24576x8192, .fp8e4m3⟩
  | .local _ .vmem, ⟨1, _⟩ => ⟨S8192x2048, .fp8e4m3⟩
  | .local _ .vmem, ⟨2, _⟩ => ⟨S24576x2048, .f32⟩
  | _, _ => ⟨S24576x8192, .fp8e4m3⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_call0_v0 : Ref sig .tc := ⟨.hbm, 57, rfl⟩
abbrev main_call0_v1 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_11 : Ref sig .tc := ⟨.hbm, 70, rfl⟩
abbrev main_cst_12 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_v50 : Ref sig .tc := ⟨.hbm, 77, rfl⟩
abbrev main_v51 : Ref sig .tc := ⟨.hbm, 78, rfl⟩
abbrev main_v52_0 : Ref sig .tc := ⟨.hbm, 79, rfl⟩
abbrev main_v52_1 : Ref sig .tc := ⟨.hbm, 80, rfl⟩
abbrev main_v53 : Ref sig .tc := ⟨.hbm, 81, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S24576x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24576x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== GateUp.lean ====
abbrev S24576x2048 : Shape := ⟨2, ![24576, 2048]⟩
abbrev S24576x1 : Shape := ⟨2, ![24576, 1]⟩
abbrev S2048x8192 : Shape := ⟨2, ![2048, 8192]⟩
abbrev S8192 : Shape := ⟨1, ![8192]⟩
abbrev S1x8192 : Shape := ⟨2, ![1, 8192]⟩
abbrev S24576x8192 : Shape := ⟨2, ![24576, 8192]⟩
abbrev S512x2048 : Shape := ⟨2, ![512, 2048]⟩
abbrev S512x1 : Shape := ⟨2, ![512, 1]⟩
abbrev S2048x512 : Shape := ⟨2, ![2048, 512]⟩
abbrev S1x512 : Shape := ⟨2, ![1, 512]⟩
abbrev S512x512 : Shape := ⟨2, ![512, 512]⟩
abbrev S16x512x512 : Shape := ⟨3, ![16, 512, 512]⟩
abbrev S512x128 : Shape := ⟨2, ![512, 128]⟩
abbrev S512 : Shape := ⟨1, ![512]⟩
abbrev S512x256 : Shape := ⟨2, ![512, 256]⟩
abbrev S1x512x128 : Shape := ⟨3, ![1, 512, 128]⟩
abbrev S1x512x512 : Shape := ⟨3, ![1, 512, 512]⟩

abbrev nBuf : Space → Nat
  | .hbm => 13
  | .vmem => 19
  | .smem => 0
  | _ => 0

abbrev bufTy : (tb : Table) → Fin (tcTables nBuf tb) → BufTy
  | .hbm, ⟨0, _⟩ => ⟨S24576x2048, .f32⟩
  | .hbm, ⟨1, _⟩ => ⟨S24576x1, .f32⟩
  | .hbm, ⟨2, _⟩ => ⟨S2048x8192, .f32⟩
  | .hbm, ⟨3, _⟩ => ⟨S8192, .f32⟩
  | .hbm, ⟨4, _⟩ => ⟨S2048x8192, .f32⟩
  | .hbm, ⟨5, _⟩ => ⟨S8192, .f32⟩
  | .hbm, ⟨6, _⟩ => ⟨S24576x2048, .fp8e4m3⟩
  | .hbm, ⟨7, _⟩ => ⟨S2048x8192, .fp8e4m3⟩
  | .hbm, ⟨8, _⟩ => ⟨S2048x8192, .fp8e4m3⟩
  | .hbm, ⟨9, _⟩ => ⟨S1x8192, .f32⟩
  | .hbm, ⟨10, _⟩ => ⟨S1x8192, .f32⟩
  | .hbm, ⟨11, _⟩ => ⟨S24576x8192, .fp8e4m3⟩
  | .hbm, ⟨12, _⟩ => ⟨S24576x1, .f32⟩
  | .local _ .vmem, ⟨0, _⟩ => ⟨S512x2048, .fp8e4m3⟩
  | .local _ .vmem, ⟨1, _⟩ => ⟨S512x2048, .fp8e4m3⟩
  | .local _ .vmem, ⟨2, _⟩ => ⟨S512x1, .f32⟩
  | .local _ .vmem, ⟨3, _⟩ => ⟨S512x1, .f32⟩
  | .local _ .vmem, ⟨4, _⟩ => ⟨S2048x512, .fp8e4m3⟩
  | .local _ .vmem, ⟨5, _⟩ => ⟨S2048x512, .fp8e4m3⟩
  | .local _ .vmem, ⟨6, _⟩ => ⟨S1x512, .f32⟩
  | .local _ .vmem, ⟨7, _⟩ => ⟨S1x512, .f32⟩
  | .local _ .vmem, ⟨8, _⟩ => ⟨S2048x512, .fp8e4m3⟩
  | .local _ .vmem, ⟨9, _⟩ => ⟨S2048x512, .fp8e4m3⟩
  | .local _ .vmem, ⟨10, _⟩ => ⟨S1x512, .f32⟩
  | .local _ .vmem, ⟨11, _⟩ => ⟨S1x512, .f32⟩
  | .local _ .vmem, ⟨12, _⟩ => ⟨S512x512, .fp8e4m3⟩
  | .local _ .vmem, ⟨13, _⟩ => ⟨S512x512, .fp8e4m3⟩
  | .local _ .vmem, ⟨14, _⟩ => ⟨S512x1, .f32⟩
  | .local _ .vmem, ⟨15, _⟩ => ⟨S512x1, .f32⟩
  | .local _ .vmem, ⟨16, _⟩ => ⟨S16x512x512, .f32⟩
  | .local _ .vmem, ⟨17, _⟩ => ⟨S512x128, .f32⟩
  | .local _ .vmem, ⟨18, _⟩ => ⟨S512x128, .f32⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![49, 16], ![false, false]⟩

def k0_cond3 (i : grid0.Coords) : BitVec 1 :=
  let arg0 : BitVec 32 := BitVec.ofNat 32 (i 0).val
  let c48_i32 : BitVec 32 := 48#32
  let v8 : BitVec 1 := Scalar.cmpi .eq arg0 c48_i32
  let v9 : BitVec 32 := Scalar.extui v8
  let c0_i32_4 : BitVec 32 := 0#32
  let v10 : BitVec 1 := Scalar.cmpi .ne v9 c0_i32_4
  v10

def k0_off1 (i : grid0.Coords) : Fin 3 → Nat :=
  let arg1 : BitVec 32 := BitVec.ofNat 32 (i 1).val
  let v15 : Index := Scalar.indexCast arg1
  let c0_8 : Index := 0#32
  let c0_9 : Index := 0#32
  ![v15.toNat, 0, 0]
def k0_off2 (i : grid0.Coords) : Fin 3 → Nat :=
  let arg1 : BitVec 32 := BitVec.ofNat 32 (i 1).val
  let v25 : Index := Scalar.indexCast arg1
  let c0_13 : Index := 0#32
  let c128 : Index := 128#32
  ![v25.toNat, 0, 128]
def k0_off3 (i : grid0.Coords) : Fin 3 → Nat :=
  let arg1 : BitVec 32 := BitVec.ofNat 32 (i 1).val
  let v35 : Index := Scalar.indexCast arg1
  let c0_18 : Index := 0#32
  let c256 : Index := 256#32
  ![v35.toNat, 0, 256]
def k0_off4 (i : grid0.Coords) : Fin 3 → Nat :=
  let arg1 : BitVec 32 := BitVec.ofNat 32 (i 1).val
  let v45 : Index := Scalar.indexCast arg1
  let c0_23 : Index := 0#32
  let c384 : Index := 384#32
  ![v45.toNat, 0, 384]
def k0_cond4 (i : grid0.Coords) : BitVec 1 :=
  let arg0 : BitVec 32 := BitVec.ofNat 32 (i 0).val
  let c48_i32_5 : BitVec 32 := 48#32
  let v11 : BitVec 1 := Scalar.cmpi .slt arg0 c48_i32_5
  let v12 : BitVec 32 := Scalar.extui v11
  let c0_i32_6 : BitVec 32 := 0#32
  let v13 : BitVec 1 := Scalar.cmpi .ne v12 c0_i32_6
  v13

def k0_off5 (i : grid0.Coords) : Fin 3 → Nat :=
  let arg1 : BitVec 32 := BitVec.ofNat 32 (i 1).val
  let v15 : Index := Scalar.indexCast arg1
  let c0_8 : Index := 0#32
  let c0_9 : Index := 0#32
  ![v15.toNat, 0, 0]
def k0_off6 (i : grid0.Coords) : Fin 3 → Nat :=
  let arg1 : BitVec 32 := BitVec.ofNat 32 (i 1).val
  let v25 : Index := Scalar.indexCast arg1
  let c0_13 : Index := 0#32
  let c128 : Index := 128#32
  ![v25.toNat, 0, 128]
def k0_off7 (i : grid0.Coords) : Fin 3 → Nat :=
  let arg1 : BitVec 32 := BitVec.ofNat 32 (i 1).val
  let v35 : Index := Scalar.indexCast arg1
  let c0_18 : Index := 0#32
  let c256 : Index := 256#32
  ![v35.toNat, 0, 256]
def k0_off8 (i : grid0.Coords) : Fin 3 → Nat :=
  let arg1 : BitVec 32 := BitVec.ofNat 32 (i 1).val
  let v45 : Index := Scalar.indexCast arg1
  let c0_23 : Index := 0#32
  let c384 : Index := 384#32
  ![v45.toNat, 0, 384]
def k0_off9 (i : grid0.Coords) : Fin 3 → Nat :=
  let arg1 : BitVec 32 := BitVec.ofNat 32 (i 1).val
  let v79 : Index := Scalar.indexCast arg1
  let c0_42 : Index := 0#32
  let c0_43 : Index := 0#32
  ![v79.toNat, 0, 0]
def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c47_i32 : BitVec 32 := 47#32
  let v0 : BitVec 32 := Scalar.minsi arg0 c47_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c47_i32 : BitVec 32 := 47#32
  let v0 : BitVec 32 := Scalar.minsi arg0 c47_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 1 := Scalar.cmpi .slt arg0 c48_i32
  let c15_i32 : BitVec 32 := 15#32
  let v1 : BitVec 32 := Scalar.select v0 arg1 c15_i32
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 1 := Scalar.cmpi .slt arg0 c48_i32
  let c15_i32 : BitVec 32 := 15#32
  let v1 : BitVec 32 := Scalar.select v0 arg1 c15_i32
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 1 := Scalar.cmpi .slt arg0 c48_i32
  let c15_i32 : BitVec 32 := 15#32
  let v1 : BitVec 32 := Scalar.select v0 arg1 c15_i32
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 1 := Scalar.cmpi .slt arg0 c48_i32
  let c15_i32 : BitVec 32 := 15#32
  let v1 : BitVec 32 := Scalar.select v0 arg1 c15_i32
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  ![v1.toNat, arg1.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== GateUpRefIdeal.lean ====
abbrev S24576x2048 : Shape := ⟨2, ![24576, 2048]⟩
abbrev S24576x1 : Shape := ⟨2, ![24576, 1]⟩
abbrev S2048x8192 : Shape := ⟨2, ![2048, 8192]⟩
abbrev S8192 : Shape := ⟨1, ![8192]⟩
abbrev S24576x8192 : Shape := ⟨2, ![24576, 8192]⟩
abbrev S1x8192 : Shape := ⟨2, ![1, 8192]⟩
abbrev S_ : Shape := ⟨0, ![]⟩
abbrev S24576 : Shape := ⟨1, ![24576]⟩

abbrev nBuf : Space → Nat
  | .hbm => 79
  | .vmem => 5
  | .smem => 0
  | _ => 0

abbrev bufTy : (tb : Table) → Fin (tcTables nBuf tb) → BufTy
  | .hbm, ⟨0, _⟩ => ⟨S24576x2048, .f32⟩
  | .hbm, ⟨1, _⟩ => ⟨S24576x1, .f32⟩
  | .hbm, ⟨2, _⟩ => ⟨S2048x8192, .f32⟩
  | .hbm, ⟨3, _⟩ => ⟨S8192, .f32⟩
  | .hbm, ⟨4, _⟩ => ⟨S2048x8192, .f32⟩
  | .hbm, ⟨5, _⟩ => ⟨S8192, .f32⟩
  | .hbm, ⟨6, _⟩ => ⟨S24576x2048, .fp8e4m3⟩
  | .hbm, ⟨7, _⟩ => ⟨S2048x8192, .fp8e4m3⟩
  | .hbm, ⟨8, _⟩ => ⟨S2048x8192, .fp8e4m3⟩
  | .hbm, ⟨9, _⟩ => ⟨S24576x8192, .f32⟩
  | .hbm, ⟨10, _⟩ => ⟨S24576x8192, .f32⟩
  | .hbm, ⟨11, _⟩ => ⟨S24576x8192, .f32⟩
  | .hbm, ⟨12, _⟩ => ⟨S24576x8192, .f32⟩
  | .hbm, ⟨13, _⟩ => ⟨S1x8192, .f32⟩
  | .hbm, ⟨14, _⟩ => ⟨S24576x8192, .f32⟩
  | .hbm, ⟨15, _⟩ => ⟨S24576x8192, .f32⟩
  | .hbm, ⟨16, _⟩ => ⟨S24576x8192, .f32⟩
  | .hbm, ⟨17, _⟩ => ⟨S24576x8192, .f32⟩
  | .hbm, ⟨18, _⟩ => ⟨S1x8192, .f32⟩
  | .hbm, ⟨19, _⟩ => ⟨S24576x8192, .f32⟩
  | .hbm, ⟨20, _⟩ => ⟨S24576x8192, .f32⟩
  | .hbm, ⟨21, _⟩ => ⟨S24576x8192, .f32⟩
  | .hbm, ⟨22, _⟩ => ⟨S24576x8192, .f32⟩
  | .hbm, ⟨23, _⟩ => ⟨S_, .f32⟩
  | .hbm, ⟨24, _⟩ => ⟨S24576x8192, .f32⟩
  | .hbm, ⟨25, _⟩ => ⟨S24576x8192, .f32⟩
  | .hbm, ⟨26, _⟩ => ⟨S_, .f32⟩
  | .hbm, ⟨27, _⟩ => ⟨S24576x8192, .f32⟩
  | .hbm, ⟨28, _⟩ => ⟨S24576x8192, .f32⟩
  | .hbm, ⟨29, _⟩ => ⟨S24576x8192, .f32⟩
  | .hbm, ⟨30, _⟩ => ⟨S24576x8192, .f32⟩
  | .hbm, ⟨31, _⟩ => ⟨S24576x8192, .f32⟩
  | .hbm, ⟨32, _⟩ => ⟨S_, .f32⟩
  | .hbm, ⟨33, _⟩ => ⟨S24576, .f32⟩
  | .hbm, ⟨34, _⟩ => ⟨S_, .f32⟩
  | .hbm, ⟨35, _⟩ => ⟨S24576, .f32⟩
  | .hbm, ⟨36, _⟩ => ⟨S24576, .f32⟩
  | .hbm, ⟨37, _⟩ => ⟨S24576, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S24576, .f32⟩
  | .hbm, ⟨42, _⟩ => ⟨S24576, .f32⟩
  | .hbm, ⟨43, _⟩ => ⟨S24576, .f32⟩
  | .hbm, ⟨44, _⟩ => ⟨S_, .f32⟩
  | .hbm, ⟨45, _⟩ => ⟨S24576, .f32⟩
  | .hbm, ⟨46, _⟩ => ⟨S24576, .f32⟩
  | .hbm, ⟨47, _⟩ => ⟨S_, .f32⟩
  | .hbm, ⟨48, _⟩ => ⟨S24576, .f32⟩
  | .hbm, ⟨49, _⟩ => ⟨S24576, .i1⟩
  | .hbm, ⟨50, _⟩ => ⟨S_, .f32⟩
  | .hbm, ⟨51, _⟩ => ⟨S24576, .f32⟩
  | .hbm, ⟨52, _⟩ => ⟨S24576, .i1⟩
  | .hbm, ⟨53, _⟩ => ⟨S24576, .i1⟩
  | .hbm, ⟨54, _⟩ => ⟨S_, .f32⟩
  | .hbm, ⟨55, _⟩ => ⟨S_, .f32⟩
  | .hbm, ⟨56, _⟩ => ⟨S24576, .f32⟩
  | .hbm, ⟨57, _⟩ => ⟨S24576, .f32⟩
  | .hbm, ⟨58, _⟩ => ⟨S_, .f32⟩
  | .hbm, ⟨59, _⟩ => ⟨S24576, .f32⟩
  | .hbm, ⟨60, _⟩ => ⟨S24576, .f32⟩
  | .hbm, ⟨61, _⟩ => ⟨S24576, .f32⟩
  | .hbm, ⟨62, _⟩ => ⟨S_, .f32⟩
  | .hbm, ⟨63, _⟩ => ⟨S24576, .f32⟩
  | .hbm, ⟨64, _⟩ => ⟨S24576, .f32⟩
  | .hbm, ⟨65, _⟩ => ⟨S24576x1, .f32⟩
  | .hbm, ⟨66, _⟩ => ⟨S24576x8192, .f32⟩
  | .hbm, ⟨67, _⟩ => ⟨S24576x8192, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S24576x8192, .f32⟩
  | .hbm, ⟨72, _⟩ => ⟨S24576x8192, .f32⟩
  | .hbm, ⟨73, _⟩ => ⟨S_, .f32⟩
  | .hbm, ⟨74, _⟩ => ⟨S24576x8192, .f32⟩
  | .hbm, ⟨75, _⟩ => ⟨S24576x8192, .f32⟩
  | .hbm, ⟨76, _⟩ => ⟨S24576x8192, .fp8e4m3⟩
  | .hbm, ⟨77, _⟩ => ⟨S24576x8192, .fp8e4m3⟩
  | .hbm, ⟨78, _⟩ => ⟨S24576, .f32⟩
  | .local _ .vmem, ⟨0, _⟩ => ⟨S24576x2048, .fp8e4m3⟩
  | .local _ .vmem, ⟨1, _⟩ => ⟨S2048x8192, .fp8e4m3⟩
  | .local _ .vmem, ⟨2, _⟩ => ⟨S2048x8192, .fp8e4m3⟩
  | .local _ .vmem, ⟨3, _⟩ => ⟨S24576x8192, .f32⟩
  | .local _ .vmem, ⟨4, _⟩ => ⟨S24576x8192, .f32⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_cst_0 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_2 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_5 : Ref sig .tc := ⟨.hbm, 54, rfl⟩
abbrev main_call1_v0 : Ref sig .tc := ⟨.hbm, 55, rfl⟩
abbrev main_call1_v1 : Ref sig .tc := ⟨.hbm, 56, rfl⟩
abbrev main_v33 : Ref sig .tc := ⟨.hbm, 57, rfl⟩
abbrev main_cst_6 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_7 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_8 : Ref sig .tc := ⟨.hbm, 68, rfl⟩
abbrev main_cst_9 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_v42 : Ref sig .tc := ⟨.hbm, 75, rfl⟩
abbrev main_v43 : Ref sig .tc := ⟨.hbm, 76, rfl⟩
abbrev main_v44_0 : Ref sig .tc := ⟨.hbm, 77, rfl⟩
abbrev main_v44_1 : Ref sig .tc := ⟨.hbm, 78, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S24576x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24576x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.GateUpRuns.lean ====
/- THE FRAME OF `GateUp`, Runs: the memory the body of the kernel works on at a grid point, and what its five cases share.
   What the body leaves in its output blocks is not stated here. -/
module

public import proofs.«01_k».proof.Proof.Gen.GateUp.Launch
public import proofs.«01_k».proof.Proof.Gen.GateUp.Skeleton
public import proofs.«01_k».proof.Proof.Gen.GateUp.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.GateUp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_GateUp`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 784 = 0 :=
  (fun t => by
    have ht : t.val < 784 := Nat.lt_of_lt_of_eq t.isLt N_0
    have e0 : (grid0.coords t 0).val = t.val / 16 % 49 := Pipeline.Grid.coords_val t 0 (by decide) rfl
    have e1 : (grid0.coords t 1).val = t.val / 1 % 16 := Pipeline.Grid.coords_val t 1 (by decide) rfl
    simp only [cond0_0, e0, e1]
    word_cmp
   : ∀ t : Fin grid0.N, cond0_0 (grid0.coords t) ↔ t.val % 784 = 0)

/-- The condition of the body's `scf.if` 1 (`k0_h2`), from the grid coordinates (the skeleton's scalar
    chain substituted). -/
abbrev cond0_1 (i : grid0.Coords) : Prop := k0_cond2 i = 1#1
/-- It holds at the points ≡ 0 (mod 16) — by arithmetic of the point. -/
theorem hcond0_1 : ∀ t : Fin cfg0.N, cond0_1 (grid0.coords t) ↔ t.val % 16 = 0 :=
  (fun t => by
    have ht : t.val < 784 := Nat.lt_of_lt_of_eq t.isLt N_0
    have e0 : (grid0.coords t 0).val = t.val / 16 % 49 := Pipeline.Grid.coords_val t 0 (by decide) rfl
    have e1 : (grid0.coords t 1).val = t.val / 1 % 16 := Pipeline.Grid.coords_val t 1 (by decide) rfl
    simp only [cond0_1, k0_cond2, e0, e1]
    word_cmp
   : ∀ t : Fin grid0.N, cond0_1 (grid0.coords t) ↔ t.val % 16 = 0)

/-- The condition of the body's `scf.if` 2 (`k0_h3`), from the grid coordinates (the skeleton's scalar
    chain substituted). -/
abbrev cond0_2 (i : grid0.Coords) : Prop := k0_cond3 i = 1#1
/-- It holds at the points from point 768 on — by arithmetic of the point. -/
theorem hcond0_2 : ∀ t : Fin cfg0.N, cond0_2 (grid0.coords t) ↔ 768 ≤ t.val :=
  (fun t => by
    have ht : t.val < 784 := Nat.lt_of_lt_of_eq t.isLt N_0
    have e0 : (grid0.coords t 0).val = t.val / 16 % 49 := Pipeline.Grid.coords_val t 0 (by decide) rfl
    have e1 : (grid0.coords t 1).val = t.val / 1 % 16 := Pipeline.Grid.coords_val t 1 (by decide) rfl
    simp only [cond0_2, k0_cond3, e0, e1]
    word_cmp
   : ∀ t : Fin grid0.N, cond0_2 (grid0.coords t) ↔ 768 ≤ t.val)

/-- The condition of the body's `scf.if` 3 (`k0_h4`), from the grid coordinates (the skeleton's scalar
    chain substituted). -/
abbrev cond0_3 (i : grid0.Coords) : Prop := k0_cond4 i = 1#1
/-- It holds at the points before point 768 — decided over the grid. -/
theorem hcond0_3 : ∀ t : Fin cfg0.N, cond0_3 (grid0.coords t) ↔ t.val < 768 :=
  (by decide +kernel : ∀ t : Fin grid0.N, cond0_3 (grid0.coords t) ↔ t.val < 768)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x2048 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x512 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S16x512x512 .f32 := Memref.whole cc0_scratch0
abbrev scM0_1 : Memref sig .tc .vmem S512x128 .f32 := Memref.whole cc0_scratch1
abbrev scM0_2 : Memref sig .tc .vmem S512x128 .f32 := Memref.whole cc0_scratch2
/-- The scratch `arg11` the kernel carries between points, as a view: what it holds is stated through it. -/
abbrev VS0_1 : View sig .tc .vmem S512x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.GateUp.Gen

end
-- ==== Proof.GateUpRunA.lean ====
/- THE FRAME OF `GateUp`, RunA: the run of the body in case A (`scf.if` 0 taken, `scf.if` 1 taken, `scf.if` 2 not taken, `scf.if` 3 taken: points 0).
   What the body leaves in its output blocks is not stated here. -/
module

public import proofs.«01_k».proof.Proof.GateUpRuns

@[expose] public section

-- membership in a rectangle of production extents (`View.cover_of_tiled`): the elaborator's structural look
-- recurses once per coordinate of the long axes
set_option maxRecDepth 16384

noncomputable section

namespace Cert.GateUp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 taken, `scf.if` 2 not taken, `scf.if` 3 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6, 7) at anything, handed back at some contents nothing names. -/
noncomputable def kernelRun0_A (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : cond0_0 i) (hc1 : cond0_1 i) (hc2 : ¬cond0_2 i) (hc3 : cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) :
    { LS1 : List (View.Piece (Elt F) S512x128 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ f, arg11.view.loc (c : Thread nD τ) ↦[arg11.view.set]{fullShare} arg11.view.writes (Elt F) f LS1) ∗ (∃ d, owns (c : Thread nD τ) arg12 fullShare d)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0_gate_up_eq_skeleton]; unfold cc0_gate_up_skel
    simp only [k0_part1_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]; · iexists _; iexact HS1
    iexists _, _; isplitr; swap; · iexact HS2
    ipureintro; rfl

end Cert.GateUp.Gen

end
-- ==== Proof.GateUpRunB.lean ====
/- THE FRAME OF `GateUp`, RunB: the run of the body in case B (`scf.if` 0 not taken, `scf.if` 1 not taken, `scf.if` 2 not taken, `scf.if` 3 taken: points 1, 2, … 767: 720 of 784).
   What the body leaves in its output blocks is not stated here. -/
module

public import proofs.«01_k».proof.Proof.GateUpRunA

@[expose] public section

-- membership in a rectangle of production extents (`View.cover_of_tiled`): the elaborator's structural look
-- recurses once per coordinate of the long axes
set_option maxRecDepth 16384

noncomputable section

namespace Cert.GateUp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken, `scf.if` 2 not taken, `scf.if` 3 taken: points 1, 2, … 767: 720 of 784), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6, 7) at anything, handed back at some contents nothing names. -/
noncomputable def kernelRun0_B (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : ¬cond0_1 i) (hc2 : ¬cond0_2 i) (hc3 : cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) (xs1 : Vec F S512x128 .f32) :
    { LS1 : List (View.Piece (Elt F) S512x128 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs1 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ f, arg11.view.loc (c : Thread nD τ) ↦[arg11.view.set]{fullShare} arg11.view.writes (Elt F) f LS1) ∗ (∃ d, owns (c : Thread nD τ) arg12 fullShare d)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0_gate_up_eq_skeleton]; unfold cc0_gate_up_skel
    simp only [k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%fs1, %hfs1, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hfs1
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]; · iexists _; iexact HS1
    iexists _, _; isplitr; swap; · iexact HS2
    ipureintro; rfl

end Cert.GateUp.Gen

end
-- ==== Proof.GateUpRunC.lean ====
/- THE FRAME OF `GateUp`, RunC: the run of the body in case C (`scf.if` 0 not taken, `scf.if` 1 taken, `scf.if` 2 not taken, `scf.if` 3 taken: points 16, 32, … 752: 47 of 784).
   What the body leaves in its output blocks is not stated here. -/
module

public import proofs.«01_k».proof.Proof.GateUpRunB

@[expose] public section

-- membership in a rectangle of production extents (`View.cover_of_tiled`): the elaborator's structural look
-- recurses once per coordinate of the long axes
set_option maxRecDepth 16384

noncomputable section

namespace Cert.GateUp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 not taken, `scf.if` 3 taken: points 16, 32, … 752: 47 of 784), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6, 7) at anything, handed back at some contents nothing names. -/
noncomputable def kernelRun0_C (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i) (hc2 : ¬cond0_2 i) (hc3 : cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) (xs1 : Vec F S512x128 .f32) :
    { LS1 : List (View.Piece (Elt F) S512x128 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs1 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ f, arg11.view.loc (c : Thread nD τ) ↦[arg11.view.set]{fullShare} arg11.view.writes (Elt F) f LS1) ∗ (∃ d, owns (c : Thread nD τ) arg12 fullShare d)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0_gate_up_eq_skeleton]; unfold cc0_gate_up_skel
    simp only [k0_part1_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%fs1, %hfs1, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hfs1
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]; · iexists _; iexact HS1
    iexists _, _; isplitr; swap; · iexact HS2
    ipureintro; rfl

end Cert.GateUp.Gen

end
-- ==== Proof.GateUpRunD.lean ====
/- THE FRAME OF `GateUp`, RunD: the run of the body in case D (`scf.if` 0 not taken, `scf.if` 1 taken, `scf.if` 2 taken, `scf.if` 3 not taken: points 768).
   What the body leaves in its output blocks is not stated here. -/
module

public import proofs.«01_k».proof.Proof.GateUpRunC

@[expose] public section

-- membership in a rectangle of production extents (`View.cover_of_tiled`): the elaborator's structural look
-- recurses once per coordinate of the long axes
set_option maxRecDepth 16384

noncomputable section

namespace Cert.GateUp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE D (`scf.if` 0 not taken, `scf.if` 1 taken, `scf.if` 2 taken, `scf.if` 3 not taken: points 768), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6, 7) at anything, handed back at some contents nothing names. -/
noncomputable def kernelRun0_D (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i) (hc2 : cond0_2 i) (hc3 : ¬cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) (xs1 : Vec F S512x128 .f32) :
    { LS1 : List (View.Piece (Elt F) S512x128 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs1 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ f, arg11.view.loc (c : Thread nD τ) ↦[arg11.view.set]{fullShare} arg11.view.writes (Elt F) f LS1) ∗ (∃ d, owns (c : Thread nD τ) arg12 fullShare d)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0_gate_up_eq_skeleton]; unfold cc0_gate_up_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%fs1, %hfs1, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hfs1
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]; · iexists _; iexact HS1
    iexists _, _; isplitr; swap; · iexact HS2
    ipureintro; rfl

end Cert.GateUp.Gen

end
-- ==== Proof.GateUpRunE.lean ====
/- THE FRAME OF `GateUp`, RunE: the run of the body in case E (`scf.if` 0 not taken, `scf.if` 1 not taken, `scf.if` 2 taken, `scf.if` 3 not taken: points 769, 770, … 783: 15 of 784).
   What the body leaves in its output blocks is not stated here. -/
module

public import proofs.«01_k».proof.Proof.GateUpRunD

@[expose] public section

-- membership in a rectangle of production extents (`View.cover_of_tiled`): the elaborator's structural look
-- recurses once per coordinate of the long axes
set_option maxRecDepth 16384

noncomputable section

namespace Cert.GateUp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE E (`scf.if` 0 not taken, `scf.if` 1 not taken, `scf.if` 2 taken, `scf.if` 3 not taken: points 769, 770, … 783: 15 of 784), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6, 7) at anything, handed back at some contents nothing names. -/
noncomputable def kernelRun0_E (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : ¬cond0_1 i) (hc2 : cond0_2 i) (hc3 : ¬cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) (xs1 : Vec F S512x128 .f32) :
    { LS1 : List (View.Piece (Elt F) S512x128 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs1 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs1 ∗ (∃ d, owns (c : Thread nD τ) arg12 fullShare d)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11 arg12 harg12) K } := by
  refine ⟨[], fun E K => ?run⟩
  case run =>
    simp only [cc0_gate_up_eq_skeleton]; unfold cc0_gate_up_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%fs1, %hfs1, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hfs1
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _; isplitr; · ipureintro; exact harg11.read_unread _
      iexact HS1
    iexists _, _; isplitr; swap; · iexact HS2
    ipureintro; rfl

end Cert.GateUp.Gen

end
-- ==== Proof.GateUpFrame.lean ====
/- THE FRAME OF `GateUp`, Frame: from the five cases, the obligation of the body at every grid point, the run of the program, and its frame: it terminates without a fault, its arguments unchanged.
   What the body leaves in its output blocks is not stated here. -/
module

public import proofs.«01_k».proof.Proof.GateUpRunE
public import Idealize.ShloMosaic.Lib.Claim

@[expose] public section

-- membership in a rectangle of production extents (`View.cover_of_tiled`): the elaborator's structural look
-- recurses once per coordinate of the long axes
set_option maxRecDepth 16384

noncomputable section

namespace Cert.GateUp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- Case A's pieces for scratch `arg11`, which the kernel carries between points, cover it: 3 pieces of `S512x128` tiling it (Lib/Ring.lean `Piece.tiledL`). -/
theorem scover0_A_1 (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : cond0_0 i) (hc1 : cond0_1 i) (hc2 : ¬cond0_2 i) (hc3 : cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) (y : S512x128.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5).1 S512x128.size (by sl_kernel_rfl) y

/-- What case A leaves in scratch `arg11`: its pieces read back over junk. -/
def sout0_A_1 (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : cond0_0 i) (hc1 : cond0_1 i) (hc2 : ¬cond0_2 i) (hc3 : cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) : Vec F S512x128 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5).1)

/-- Case B's pieces for scratch `arg11`, which the kernel carries between points, cover it: 1 piece of `S512x128` tiling it (Lib/Ring.lean `Piece.tiledL`). -/
theorem scover0_B_1 (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : ¬cond0_1 i) (hc2 : ¬cond0_2 i) (hc3 : cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) (xs1 : Vec F S512x128 .f32) (y : S512x128.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs1).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs1).1 S512x128.size (by sl_kernel_rfl) y

/-- What case B leaves in scratch `arg11`: its pieces read back over junk. -/
def sout0_B_1 (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : ¬cond0_1 i) (hc2 : ¬cond0_2 i) (hc3 : cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) (xs1 : Vec F S512x128 .f32) : Vec F S512x128 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs1).1)

/-- Case C's pieces for scratch `arg11`, which the kernel carries between points, cover it: 2 pieces of `S512x128` tiling it (Lib/Ring.lean `Piece.tiledL`). -/
theorem scover0_C_1 (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i) (hc2 : ¬cond0_2 i) (hc3 : cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) (xs1 : Vec F S512x128 .f32) (y : S512x128.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs1).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs1).1 S512x128.size (by sl_kernel_rfl) y

/-- What case C leaves in scratch `arg11`: its pieces read back over junk. -/
def sout0_C_1 (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i) (hc2 : ¬cond0_2 i) (hc3 : cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) (xs1 : Vec F S512x128 .f32) : Vec F S512x128 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs1).1)

/-- Case D's pieces for scratch `arg11`, which the kernel carries between points, cover it: 1 piece of `S512x128` tiling it (Lib/Ring.lean `Piece.tiledL`). -/
theorem scover0_D_1 (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i) (hc2 : cond0_2 i) (hc3 : ¬cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) (xs1 : Vec F S512x128 .f32) (y : S512x128.Idx) :
    ∃ pc ∈ (kernelRun0_D c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs1).1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs1).1 S512x128.size (by sl_kernel_rfl) y

/-- What case D leaves in scratch `arg11`: its pieces read back over junk. -/
def sout0_D_1 (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i) (hc2 : cond0_2 i) (hc3 : ¬cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) (xs1 : Vec F S512x128 .f32) : Vec F S512x128 .f32 :=
  VS0_1.read (Elt F) (VS0_1.writes (Elt F) VS0_1.junk (kernelRun0_D c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs1).1)

/-- Case E stores nothing into scratch `arg11`: it holds what the point before left. -/
def sout0_E_1 (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : ¬cond0_1 i) (hc2 : cond0_2 i) (hc3 : ¬cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) (xs1 : Vec F S512x128 .f32) : Vec F S512x128 .f32 := xs1

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x128 .f32
  | 0, hn => sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) ((hcond0_3 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
  | n + 1, hn =>
    if h0 : (n + 1) % 784 = 0 then
      if h1 : (n + 1) % 16 = 0 then
        if h2 : 768 ≤ (n + 1) then
          False.elim (by have hN : n + 1 < 784 := lt_of_lt_of_eq hn (show cfg0.N = 784 from N_0); omega)
        else
          if h3 : (n + 1) < 768 then
            sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
          else
            False.elim (by have hN : n + 1 < 784 := lt_of_lt_of_eq hn (show cfg0.N = 784 from N_0); omega)
      else
        False.elim (by have hN : n + 1 < 784 := lt_of_lt_of_eq hn (show cfg0.N = 784 from N_0); omega)
    else
      if h1 : (n + 1) % 16 = 0 then
        if h2 : 768 ≤ (n + 1) then
          if h3 : (n + 1) < 768 then
            False.elim (by have hN : n + 1 < 784 := lt_of_lt_of_eq hn (show cfg0.N = 784 from N_0); omega)
          else
            sout0_D_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn))
        else
          if h3 : (n + 1) < 768 then
            sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn))
          else
            False.elim (by have hN : n + 1 < 784 := lt_of_lt_of_eq hn (show cfg0.N = 784 from N_0); omega)
      else
        if h2 : 768 ≤ (n + 1) then
          if h3 : (n + 1) < 768 then
            False.elim (by have hN : n + 1 < 784 := lt_of_lt_of_eq hn (show cfg0.N = 784 from N_0); omega)
          else
            sout0_E_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn))
        else
          if h3 : (n + 1) < 768 then
            sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn))
          else
            False.elim (by have hN : n + 1 < 784 := lt_of_lt_of_eq hn (show cfg0.N = 784 from N_0); omega)

/-- `outsAt0` at a point of case A: that case's contents. -/
theorem outsAt0_A (c : Dev nD) (t : Fin cfg0.N) (h0 : t.val % 784 = 0) (h1 : t.val % 16 = 0) (h2 : ¬768 ≤ t.val) (h3 : t.val < 768) :
    outsAt0 m c t.val t.isLt = sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) ((hcond0_1 t).mpr h1) (fun h => h2 ((hcond0_2 t).mp h)) ((hcond0_3 t).mpr h3) (iblk m c 0 t) (iblk m c 1 t) (iblk m c 2 t) (iblk m c 3 t) (iblk m c 4 t) (iblk m c 5 t) := by
  obtain ⟨n, hn⟩ := t
  cases n with
  | zero => exact rfl
  | succ n => exact (dif_pos h0).trans ((dif_pos h1).trans ((dif_neg h2).trans ((dif_pos h3).trans rfl)))

/-- `outsAt0` at a point of case B: that case's contents, over what the point before left. -/
theorem outsAt0_B (c : Dev nD) (t : Fin cfg0.N) (h0 : ¬t.val % 784 = 0) (h1 : ¬t.val % 16 = 0) (h2 : ¬768 ≤ t.val) (h3 : t.val < 768) :
    outsAt0 m c t.val t.isLt = sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans rfl)))

/-- `outsAt0` at a point of case C: that case's contents, over what the point before left. -/
theorem outsAt0_C (c : Dev nD) (t : Fin cfg0.N) (h0 : ¬t.val % 784 = 0) (h1 : t.val % 16 = 0) (h2 : ¬768 ≤ t.val) (h3 : t.val < 768) :
    outsAt0 m c t.val t.isLt = sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (iblk m c 4 t) (iblk m c 5 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans ((dif_neg h2).trans ((dif_pos h3).trans rfl)))

/-- `outsAt0` at a point of case D: that case's contents, over what the point before left. -/
theorem outsAt0_D (c : Dev nD) (t : Fin cfg0.N) (h0 : ¬t.val % 784 = 0) (h1 : t.val % 16 = 0) (h2 : 768 ≤ t.val) (h3 : ¬t.val < 768) :
    outsAt0 m c t.val t.isLt = sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans ((dif_pos h2).trans ((dif_neg h3).trans rfl)))

/-- `outsAt0` at a point of case E: that case's contents, over what the point before left. -/
theorem outsAt0_E (c : Dev nD) (t : Fin cfg0.N) (h0 : ¬t.val % 784 = 0) (h1 : ¬t.val % 16 = 0) (h2 : 768 ≤ t.val) (h3 : ¬t.val < 768) :
    outsAt0 m c t.val t.isLt = sout0_E_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans rfl)))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp (MT nD τ sig Unit (Elt F) ℕ (UR sig nD τ) ℕ)
  | 0, _ => Pipeline.ΦA spec0 c
  | n + 1, hn => iprop(iprop((∃ d, owns (c : Thread nD τ) scM0_0 fullShare d) ∗ owns (c : Thread nD τ) scM0_1 fullShare ((outsAt0 m c n hn)) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn)) ∗ (∃ d, owns (c : Thread nD τ) scM0_2 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega))) ∗ (∃ d, owns (c : Thread nD τ) scM0_2 fullShare d)) ∗ (∃ r, prngReg c r)) := by
  cases n with
  | zero => exact absurd rfl hz
  | succ n => rfl

/-! ## The pipeline's proof data -/

/-- The output windows this certificate FORGETS (6, 7): nothing reads what the kernel leaves in them, so nothing
    of it is named (Lib/Pipeline/Dat.lean `Dat.toRForget`). -/
def forgets0 : Fin 8 → Bool := fun w => w.val == 6 || w.val == 7

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d)
    ∗ (∃ d, owns (c : Thread nD τ) (ms0_7 t) fullShare d))

set_option maxHeartbeats 16000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 784 := lt_of_lt_of_eq t.isLt (show cfg0.N = 784 from N_0)
  by_cases h0 : t.val % 784 = 0
  · by_cases h1 : t.val % 16 = 0
    · by_cases h2 : 768 ≤ t.val
      · exfalso; omega
      · by_cases h3 : t.val < 768
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          by_cases hz : t.val = 0
          · rw [PhiS_castSucc m c t, PhiS_zero m c _ _ hz, PhiA0_eq]
            rw [outsAt0_A m c t h0 h1 h2 h3]
            unfold sout0_A_1
            iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
            iapply ((kernelRun0_A c (grid0.coords t) _ _ _ _ _ _ _ _ _ _ _ _ _ _ _ _ _ _ _ _ _ _ ((hcond0_0 t).mpr h0) ((hcond0_1 t).mpr h1) (fun h => h2 ((hcond0_2 t).mp h)) ((hcond0_3 t).mpr h3) (iblk m c 0 t) (iblk m c 1 t) (iblk m c 2 t) (iblk m c 3 t) (iblk m c 4 t) (iblk m c 5 t)).2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            isplitl [H7]; · iexists _; iexact H7
            isplitl [HS0]; · iexact HS0
            isplitl [HS1]; · iexact HS1
            isplitl [HS2]; · iexact HS2
            iintro ⟨H0, H1, H2, H3, H4, H5, H6, H7, HS0, ⟨%es1, HS1⟩, HS2⟩
            isplitl [HS0 HS1 HS2 Hg]
            · isplitl [HS0 HS1 HS2]
              · isplitl [HS0]
                · iexact HS0
                isplitl [HS1]
                · unfold owns; iexists _; isplitr
                  swap; · iexact HS1
                  ipureintro; exact View.read_writes_of_cover _ _ _ _ _ (scover0_A_1 c _ _ _ _ _ _ _ _ _ _ _ _ _ _ _ _ _ _ _ _ _ _ _ _ _ _ _ _ _ _ _ _ _)
                iexact HS2
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            iexact H7
          · exfalso; have hN : t.val < 784 := lt_of_lt_of_eq t.isLt (show cfg0.N = 784 from N_0); omega
        · exfalso; omega
    · exfalso; omega
  · by_cases h1 : t.val % 16 = 0
    · by_cases h2 : 768 ≤ t.val
      · by_cases h3 : t.val < 768
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          by_cases hz : t.val = 0
          · exfalso; have hN : t.val < 784 := lt_of_lt_of_eq t.isLt (show cfg0.N = 784 from N_0); omega
          · rw [PhiS_castSucc m c t, PhiS_pos m c _ _ hz]
            rw [outsAt0_D m c t h0 h1 h2 h3]
            unfold sout0_D_1
            iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
            iapply ((kernelRun0_D c (grid0.coords t) _ _ _ _ _ _ _ _ _ _ _ _ _ _ _ _ _ _ _ _ _ _ (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) _).2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            isplitl [H7]; · iexists _; iexact H7
            isplitl [HS0]; · iexact HS0
            isplitl [HS1]; · iexact HS1
            isplitl [HS2]; · iexact HS2
            iintro ⟨H0, H1, H2, H3, H4, H5, H6, H7, HS0, ⟨%es1, HS1⟩, HS2⟩
            isplitl [HS0 HS1 HS2 Hg]
            · isplitl [HS0 HS1 HS2]
              · isplitl [HS0]
                · iexact HS0
                isplitl [HS1]
                · unfold owns; iexists _; isplitr
                  swap; · iexact HS1
                  ipureintro; exact View.read_writes_of_cover _ _ _ _ _ (scover0_D_1 c _ _ _ _ _ _ _ _ _ _ _ _ _ _ _ _ _ _ _ _ _ _ _ _ _ _ _ _ _ _ _ _ _ _)
                iexact HS2
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            iexact H7
      · by_cases h3 : t.val < 768
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          by_cases hz : t.val = 0
          · exfalso; have hN : t.val < 784 := lt_of_lt_of_eq t.isLt (show cfg0.N = 784 from N_0); omega
          · rw [PhiS_castSucc m c t, PhiS_pos m c _ _ hz]
            rw [outsAt0_C m c t h0 h1 h2 h3]
            unfold sout0_C_1
            iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
            iapply ((kernelRun0_C c (grid0.coords t) _ _ _ _ _ _ _ _ _ _ _ _ _ _ _ _ _ _ _ _ _ _ (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (iblk m c 4 t) (iblk m c 5 t) _).2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            isplitl [H7]; · iexists _; iexact H7
            isplitl [HS0]; · iexact HS0
            isplitl [HS1]; · iexact HS1
            isplitl [HS2]; · iexact HS2
            iintro ⟨H0, H1, H2, H3, H4, H5, H6, H7, HS0, ⟨%es1, HS1⟩, HS2⟩
            isplitl [HS0 HS1 HS2 Hg]
            · isplitl [HS0 HS1 HS2]
              · isplitl [HS0]
                · iexact HS0
                isplitl [HS1]
                · unfold owns; iexists _; isplitr
                  swap; · iexact HS1
                  ipureintro; exact View.read_writes_of_cover _ _ _ _ _ (scover0_C_1 c _ _ _ _ _ _ _ _ _ _ _ _ _ _ _ _ _ _ _ _ _ _ _ _ _ _ _ _ _ _ _ _ _ _)
                iexact HS2
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            iexact H7
        · exfalso; omega
    · by_cases h2 : 768 ≤ t.val
      · by_cases h3 : t.val < 768
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          by_cases hz : t.val = 0
          · exfalso; have hN : t.val < 784 := lt_of_lt_of_eq t.isLt (show cfg0.N = 784 from N_0); omega
          · rw [PhiS_castSucc m c t, PhiS_pos m c _ _ hz]
            rw [outsAt0_E m c t h0 h1 h2 h3]
            unfold sout0_E_1
            iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
            iapply ((kernelRun0_E c (grid0.coords t) _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) _).2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            isplitl [H7]; · iexists _; iexact H7
            isplitl [HS0]; · iexact HS0
            isplitl [HS1]; · iexact HS1
            isplitl [HS2]; · iexact HS2
            iintro ⟨H0, H1, H2, H3, H4, H5, H6, H7, HS0, HS1, HS2⟩
            isplitl [HS0 HS1 HS2 Hg]
            · isplitl [HS0 HS1 HS2]
              · isplitl [HS0]
                · iexact HS0
                isplitl [HS1]
                · iexact HS1
                iexact HS2
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            iexact H7
      · by_cases h3 : t.val < 768
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          by_cases hz : t.val = 0
          · exfalso; have hN : t.val < 784 := lt_of_lt_of_eq t.isLt (show cfg0.N = 784 from N_0); omega
          · rw [PhiS_castSucc m c t, PhiS_pos m c _ _ hz]
            rw [outsAt0_B m c t h0 h1 h2 h3]
            unfold sout0_B_1
            iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
            iapply ((kernelRun0_B c (grid0.coords t) _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) _).2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            isplitl [H7]; · iexists _; iexact H7
            isplitl [HS0]; · iexact HS0
            isplitl [HS1]; · iexact HS1
            isplitl [HS2]; · iexact HS2
            iintro ⟨H0, H1, H2, H3, H4, H5, H6, H7, HS0, ⟨%es1, HS1⟩, HS2⟩
            isplitl [HS0 HS1 HS2 Hg]
            · isplitl [HS0 HS1 HS2]
              · isplitl [HS0]
                · iexact HS0
                isplitl [HS1]
                · unfold owns; iexists _; isplitr
                  swap; · iexact HS1
                  ipureintro; exact View.read_writes_of_cover _ _ _ _ _ (scover0_B_1 c _ _ _ _ _ _ _ _ _ _ _ _ _ _ _ _ _ _ _ _ _ _ _ _ _ _ _ _ _ _ _ _ _ _)
                iexact HS2
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            iexact H7
        · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexact HS0
    isplitl [HS1]
    · iexists _; iexact HS1
    iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 784 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 6, 7) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- THE FRAME: `Cert.quiescent_GateUp`'s statement (Defs.lean) at any `F` — Proof.lean cites it at `Bits`:
    `theorem Cert.Proof.claim : Cert.Claim := ⟨Cert.GateUp.Gen.facts, fun m ρ _ => Cert.GateUp.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.GateUp.Gen

end
-- ==== Proof.GateUpIdealRuns.lean ====
/- THE FRAME OF `GateUpIdeal`, Runs: the memory the body of the kernel works on at a grid point, and what its five cases share.
   What the body leaves in the block of codes is named, what it leaves in the block of scales is not. -/
module

public import proofs.«01_k».proof.Proof.Gen.GateUpIdeal.Launch
public import proofs.«01_k».proof.Proof.Gen.GateUpIdeal.Skeleton
public import proofs.«01_k».proof.Proof.Gen.GateUpIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_GateUpIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 784 = 0 :=
  (fun t => by
    have ht : t.val < 784 := Nat.lt_of_lt_of_eq t.isLt N_0
    have e0 : (grid0.coords t 0).val = t.val / 16 % 49 := Pipeline.Grid.coords_val t 0 (by decide) rfl
    have e1 : (grid0.coords t 1).val = t.val / 1 % 16 := Pipeline.Grid.coords_val t 1 (by decide) rfl
    simp only [cond0_0, e0, e1]
    word_cmp
   : ∀ t : Fin grid0.N, cond0_0 (grid0.coords t) ↔ t.val % 784 = 0)

/-- The condition of the body's `scf.if` 1 (`k0_h2`), from the grid coordinates (the skeleton's scalar
    chain substituted). -/
abbrev cond0_1 (i : grid0.Coords) : Prop := k0_cond2 i = 1#1
/-- It holds at the points ≡ 0 (mod 16) — by arithmetic of the point. -/
theorem hcond0_1 : ∀ t : Fin cfg0.N, cond0_1 (grid0.coords t) ↔ t.val % 16 = 0 :=
  (fun t => by
    have ht : t.val < 784 := Nat.lt_of_lt_of_eq t.isLt N_0
    have e0 : (grid0.coords t 0).val = t.val / 16 % 49 := Pipeline.Grid.coords_val t 0 (by decide) rfl
    have e1 : (grid0.coords t 1).val = t.val / 1 % 16 := Pipeline.Grid.coords_val t 1 (by decide) rfl
    simp only [cond0_1, k0_cond2, e0, e1]
    word_cmp
   : ∀ t : Fin grid0.N, cond0_1 (grid0.coords t) ↔ t.val % 16 = 0)

/-- The condition of the body's `scf.if` 2 (`k0_h3`), from the grid coordinates (the skeleton's scalar
    chain substituted). -/
abbrev cond0_2 (i : grid0.Coords) : Prop := k0_cond3 i = 1#1
/-- It holds at the points from point 768 on — by arithmetic of the point. -/
theorem hcond0_2 : ∀ t : Fin cfg0.N, cond0_2 (grid0.coords t) ↔ 768 ≤ t.val :=
  (fun t => by
    have ht : t.val < 784 := Nat.lt_of_lt_of_eq t.isLt N_0
    have e0 : (grid0.coords t 0).val = t.val / 16 % 49 := Pipeline.Grid.coords_val t 0 (by decide) rfl
    have e1 : (grid0.coords t 1).val = t.val / 1 % 16 := Pipeline.Grid.coords_val t 1 (by decide) rfl
    simp only [cond0_2, k0_cond3, e0, e1]
    word_cmp
   : ∀ t : Fin grid0.N, cond0_2 (grid0.coords t) ↔ 768 ≤ t.val)

/-- The condition of the body's `scf.if` 3 (`k0_h4`), from the grid coordinates (the skeleton's scalar
    chain substituted). -/
abbrev cond0_3 (i : grid0.Coords) : Prop := k0_cond4 i = 1#1
/-- It holds at the points before point 768 — decided over the grid. -/
theorem hcond0_3 : ∀ t : Fin cfg0.N, cond0_3 (grid0.coords t) ↔ t.val < 768 :=
  (by decide +kernel : ∀ t : Fin grid0.N, cond0_3 (grid0.coords t) ↔ t.val < 768)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! A case with many branch conditions on the grid states them as ONE proposition, its `Decidable` instance assembled
one condition at a time: the facts below about that case's points are decided under it and restated with one premise
per condition, so that the instance `decide` searches for does not grow with their number. -/

/-- Case A's branch conditions on the grid, as one proposition. -/
abbrev conds0_A (i : grid0.Coords) : Prop := cond0_0 i ∧ cond0_1 i ∧ ¬cond0_2 i ∧ cond0_3 i
instance conds0_A.dec (i : grid0.Coords) : Decidable (conds0_A i) :=
  @instDecidableAnd _ _ inferInstance (@instDecidableAnd _ _ inferInstance (@instDecidableAnd _ _ inferInstance inferInstance))
/-- Case B's branch conditions on the grid, as one proposition. -/
abbrev conds0_B (i : grid0.Coords) : Prop := ¬cond0_0 i ∧ ¬cond0_1 i ∧ ¬cond0_2 i ∧ cond0_3 i
instance conds0_B.dec (i : grid0.Coords) : Decidable (conds0_B i) :=
  @instDecidableAnd _ _ inferInstance (@instDecidableAnd _ _ inferInstance (@instDecidableAnd _ _ inferInstance inferInstance))
/-- Case C's branch conditions on the grid, as one proposition. -/
abbrev conds0_C (i : grid0.Coords) : Prop := ¬cond0_0 i ∧ cond0_1 i ∧ ¬cond0_2 i ∧ cond0_3 i
instance conds0_C.dec (i : grid0.Coords) : Decidable (conds0_C i) :=
  @instDecidableAnd _ _ inferInstance (@instDecidableAnd _ _ inferInstance (@instDecidableAnd _ _ inferInstance inferInstance))
/-- Case D's branch conditions on the grid, as one proposition. -/
abbrev conds0_D (i : grid0.Coords) : Prop := ¬cond0_0 i ∧ cond0_1 i ∧ cond0_2 i ∧ ¬cond0_3 i
instance conds0_D.dec (i : grid0.Coords) : Decidable (conds0_D i) :=
  @instDecidableAnd _ _ inferInstance (@instDecidableAnd _ _ inferInstance (@instDecidableAnd _ _ inferInstance inferInstance))
/-- Case E's branch conditions on the grid, as one proposition. -/
abbrev conds0_E (i : grid0.Coords) : Prop := ¬cond0_0 i ∧ ¬cond0_1 i ∧ cond0_2 i ∧ ¬cond0_3 i
instance conds0_E.dec (i : grid0.Coords) : Decidable (conds0_E i) :=
  @instDecidableAnd _ _ inferInstance (@instDecidableAnd _ _ inferInstance (@instDecidableAnd _ _ inferInstance inferInstance))
/-- At the points of case A the printed configuration (`Cfg.idle`) calls output 6 live: the case stores into it. -/
theorem liveAt0_6_A : ∀ t : Fin cfg0.N, cond0_0 (grid0.coords t) → cond0_1 (grid0.coords t) → ¬cond0_2 (grid0.coords t) → cond0_3 (grid0.coords t) → cfg0.idle 6 (grid0.coords t) = false :=
  fun t h0 h1 h2 h3 => (by decide +kernel : ∀ t : Fin cfg0.N, conds0_A (grid0.coords t) → cfg0.idle 6 (grid0.coords t) = false) t ⟨h0, h1, h2, h3⟩
/-- At the points of case B the printed configuration (`Cfg.idle`) calls output 6 live: the case stores into it. -/
theorem liveAt0_6_B : ∀ t : Fin cfg0.N, ¬cond0_0 (grid0.coords t) → ¬cond0_1 (grid0.coords t) → ¬cond0_2 (grid0.coords t) → cond0_3 (grid0.coords t) → cfg0.idle 6 (grid0.coords t) = false :=
  fun t h0 h1 h2 h3 => (by decide +kernel : ∀ t : Fin cfg0.N, conds0_B (grid0.coords t) → cfg0.idle 6 (grid0.coords t) = false) t ⟨h0, h1, h2, h3⟩
/-- At the points of case C the printed configuration (`Cfg.idle`) calls output 6 live: the case stores into it. -/
theorem liveAt0_6_C : ∀ t : Fin cfg0.N, ¬cond0_0 (grid0.coords t) → cond0_1 (grid0.coords t) → ¬cond0_2 (grid0.coords t) → cond0_3 (grid0.coords t) → cfg0.idle 6 (grid0.coords t) = false :=
  fun t h0 h1 h2 h3 => (by decide +kernel : ∀ t : Fin cfg0.N, conds0_C (grid0.coords t) → cfg0.idle 6 (grid0.coords t) = false) t ⟨h0, h1, h2, h3⟩
/-- At the points of case D the printed configuration (`Cfg.idle`) calls output 6 live: the case stores into it. -/
theorem liveAt0_6_D : ∀ t : Fin cfg0.N, ¬cond0_0 (grid0.coords t) → cond0_1 (grid0.coords t) → cond0_2 (grid0.coords t) → ¬cond0_3 (grid0.coords t) → cfg0.idle 6 (grid0.coords t) = false :=
  fun t h0 h1 h2 h3 => (by decide +kernel : ∀ t : Fin cfg0.N, conds0_D (grid0.coords t) → cfg0.idle 6 (grid0.coords t) = false) t ⟨h0, h1, h2, h3⟩
/-- At the points of case E the printed configuration (`Cfg.idle`) calls output 6 live: the case stores into it. -/
theorem liveAt0_6_E : ∀ t : Fin cfg0.N, ¬cond0_0 (grid0.coords t) → ¬cond0_1 (grid0.coords t) → cond0_2 (grid0.coords t) → ¬cond0_3 (grid0.coords t) → cfg0.idle 6 (grid0.coords t) = false :=
  fun t h0 h1 h2 h3 => (by decide +kernel : ∀ t : Fin cfg0.N, conds0_E (grid0.coords t) → cfg0.idle 6 (grid0.coords t) = false) t ⟨h0, h1, h2, h3⟩

/-! ## The kernel body on any staging memrefs: a subtype the run finds -/

/-- One staging buffer of output window 6, through which its contents are stated (`View.read_writes_of_cover`: the
    choice does not matter). -/
abbrev VO0_6 : View sig .tc .vmem S512x512 .fp8e4m3 := (Memref.whole cc0_stg6_0 : Memref sig .tc .vmem S512x512 .fp8e4m3).view
/-- Each window's current staging memref at point `t`, spelled as the pipeline passes it (`bodyAt0`), and its wholeness. -/
abbrev ms0_0 (t : Fin cfg0.N) : Memref sig .tc .vmem S512x2048 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x512 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S16x512x512 .f32 := Memref.whole cc0_scratch0
abbrev scM0_1 : Memref sig .tc .vmem S512x128 .f32 := Memref.whole cc0_scratch1
abbrev scM0_2 : Memref sig .tc .vmem S512x128 .f32 := Memref.whole cc0_scratch2
/-- The scratch `arg10` the kernel carries between points, as a view: what it holds is stated through it. -/
abbrev VS0_0 : View sig .tc .vmem S16x512x512 .f32 := scM0_0.view
/-- The scratch `arg11` the kernel carries between points, as a view: what it holds is stated through it. -/
abbrev VS0_1 : View sig .tc .vmem S512x128 .f32 := scM0_1.view
/-- The scratch `arg12` the kernel carries between points, as a view: what it holds is stated through it. -/
abbrev VS0_2 : View sig .tc .vmem S512x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.GateUpIdeal.Gen

end
-- ==== Proof.GateUpIdealRunA.lean ====
/- THE FRAME OF `GateUpIdeal`, RunA: the run of the body in case A (`scf.if` 0 taken, `scf.if` 1 taken, `scf.if` 2 not taken, `scf.if` 3 taken: points 0).
   What the body leaves in the block of codes is named, what it leaves in the block of scales is not. -/
module

public import proofs.«01_k».proof.Proof.GateUpIdealRuns

@[expose] public section

-- membership in a rectangle of production extents (`View.cover_of_tiled`): the elaborator's structural look
-- recurses once per coordinate of the long axes
set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 taken, `scf.if` 2 not taken, `scf.if` 3 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (7) at anything, handed back at some contents nothing names. -/
noncomputable def kernelRun0_A (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : cond0_0 i) (hc1 : cond0_1 i) (hc2 : ¬cond0_2 i) (hc3 : cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) :
    Σ' (L6 : List (View.Piece (Elt F) S512x512 .fp8e4m3)), Σ' (LS0 : List (View.Piece (Elt F) S16x512x512 .f32)), Σ' (LS1 : List (View.Piece (Elt F) S512x128 .f32)), { LS2 : List (View.Piece (Elt F) S512x128 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ d, owns (c : Thread nD τ) arg9 fullShare d) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_gate_up_eq_skeleton]; unfold cc0_gate_up_skel
    simp only [k0_part1_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _, _; isplitr; swap; · iexact H7
      ipureintro; rfl
    isplitl [HS0]; · iexists _; iexact HS0
    isplitl [HS1]; · iexists _; iexact HS1
    iexists _; iexact HS2

end Cert.GateUpIdeal.Gen

end
-- ==== Proof.GateUpIdealRunB.lean ====
/- THE FRAME OF `GateUpIdeal`, RunB: the run of the body in case B (`scf.if` 0 not taken, `scf.if` 1 not taken, `scf.if` 2 not taken, `scf.if` 3 taken: points 1, 2, … 767: 720 of 784).
   What the body leaves in the block of codes is named, what it leaves in the block of scales is not. -/
module

public import proofs.«01_k».proof.Proof.GateUpIdealRunA

@[expose] public section

-- membership in a rectangle of production extents (`View.cover_of_tiled`): the elaborator's structural look
-- recurses once per coordinate of the long axes
set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1200000 in
/-- What the body's stores leave in each output's staging memref, as pieces (last first) IN CASE B (`scf.if` 0 not taken, `scf.if` 1 not taken, `scf.if` 2 not taken, `scf.if` 3 taken: points 1, 2, … 767: 720 of 784), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (7) at anything, handed back at some contents nothing names. -/
noncomputable def kernelRun0_B (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : ¬cond0_1 i) (hc2 : ¬cond0_2 i) (hc3 : cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) (xs0 : Vec F S16x512x512 .f32) (xs1 : Vec F S512x128 .f32) (xs2 : Vec F S512x128 .f32) :
    Σ' (L6 : List (View.Piece (Elt F) S512x512 .fp8e4m3)), Σ' (LS0 : List (View.Piece (Elt F) S16x512x512 .f32)), Σ' (LS1 : List (View.Piece (Elt F) S512x128 .f32)), { LS2 : List (View.Piece (Elt F) S512x128 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ owns (c : Thread nD τ) arg12 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ d, owns (c : Thread nD τ) arg9 fullShare d) ∗ (arg10.view.loc (c : Thread nD τ) ↦[arg10.view.set]{fullShare} arg10.view.writes (Elt F) (harg10.unread xs0) LS0) ∗ (∃ f, arg11.view.loc (c : Thread nD τ) ↦[arg11.view.set]{fullShare} arg11.view.writes (Elt F) f LS1) ∗ owns (c : Thread nD τ) arg12 fullShare xs2) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11 arg12 harg12) K } := by
  refine ⟨?_, ?_, ?_, [], fun E K => ?run⟩
  case run =>
    simp only [cc0_gate_up_eq_skeleton]; unfold cc0_gate_up_skel
    simp only [k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1; obtain rfl := harg12.eq_unread hfs2
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _, _; isplitr; swap; · iexact H7
      ipureintro; rfl
    isplitl [HS0]; · iexact HS0
    isplitl [HS1]; · iexists _; iexact HS1
    iexists _; isplitr; · ipureintro; exact harg12.read_unread _
    iexact HS2

end Cert.GateUpIdeal.Gen

end
-- ==== Proof.GateUpIdealRunC.lean ====
/- THE FRAME OF `GateUpIdeal`, RunC: the run of the body in case C (`scf.if` 0 not taken, `scf.if` 1 taken, `scf.if` 2 not taken, `scf.if` 3 taken: points 16, 32, … 752: 47 of 784).
   What the body leaves in the block of codes is named, what it leaves in the block of scales is not. -/
module

public import proofs.«01_k».proof.Proof.GateUpIdealRunB

@[expose] public section

-- membership in a rectangle of production extents (`View.cover_of_tiled`): the elaborator's structural look
-- recurses once per coordinate of the long axes
set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 not taken, `scf.if` 3 taken: points 16, 32, … 752: 47 of 784), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (7) at anything, handed back at some contents nothing names. -/
noncomputable def kernelRun0_C (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i) (hc2 : ¬cond0_2 i) (hc3 : cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) (xs0 : Vec F S16x512x512 .f32) (xs1 : Vec F S512x128 .f32) :
    Σ' (L6 : List (View.Piece (Elt F) S512x512 .fp8e4m3)), Σ' (LS0 : List (View.Piece (Elt F) S16x512x512 .f32)), Σ' (LS1 : List (View.Piece (Elt F) S512x128 .f32)), { LS2 : List (View.Piece (Elt F) S512x128 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ d, owns (c : Thread nD τ) arg9 fullShare d) ∗ (arg10.view.loc (c : Thread nD τ) ↦[arg10.view.set]{fullShare} arg10.view.writes (Elt F) (harg10.unread xs0) LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_gate_up_eq_skeleton]; unfold cc0_gate_up_skel
    simp only [k0_part1_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _, _; isplitr; swap; · iexact H7
      ipureintro; rfl
    isplitl [HS0]; · iexact HS0
    isplitl [HS1]; · iexists _; iexact HS1
    iexists _; iexact HS2

end Cert.GateUpIdeal.Gen

end
-- ==== Proof.GateUpIdealRunD.lean ====
/- THE FRAME OF `GateUpIdeal`, RunD: the run of the body in case D (`scf.if` 0 not taken, `scf.if` 1 taken, `scf.if` 2 taken, `scf.if` 3 not taken: points 768).
   What the body leaves in the block of codes is named, what it leaves in the block of scales is not. -/
module

public import proofs.«01_k».proof.Proof.GateUpIdealRunC

@[expose] public section

-- membership in a rectangle of production extents (`View.cover_of_tiled`): the elaborator's structural look
-- recurses once per coordinate of the long axes
set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE D (`scf.if` 0 not taken, `scf.if` 1 taken, `scf.if` 2 taken, `scf.if` 3 not taken: points 768), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (7) at anything, handed back at some contents nothing names. -/
noncomputable def kernelRun0_D (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i) (hc2 : cond0_2 i) (hc3 : ¬cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) (xs0 : Vec F S16x512x512 .f32) (xs1 : Vec F S512x128 .f32) :
    Σ' (L6 : List (View.Piece (Elt F) S512x512 .fp8e4m3)), Σ' (LS0 : List (View.Piece (Elt F) S16x512x512 .f32)), Σ' (LS1 : List (View.Piece (Elt F) S512x128 .f32)), { LS2 : List (View.Piece (Elt F) S512x128 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ d, owns (c : Thread nD τ) arg9 fullShare d) ∗ owns (c : Thread nD τ) arg10 fullShare xs0 ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11 arg12 harg12) K } := by
  refine ⟨?_, [], ?_, ?_, fun E K => ?run⟩
  case run =>
    simp only [cc0_gate_up_eq_skeleton]; unfold cc0_gate_up_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _, _; isplitr; swap; · iexact H7
      ipureintro; rfl
    isplitl [HS0]
    · iexists _; isplitr; · ipureintro; exact harg10.read_unread _
      iexact HS0
    isplitl [HS1]; · iexists _; iexact HS1
    iexists _; iexact HS2

end Cert.GateUpIdeal.Gen

end
-- ==== Proof.GateUpIdealRunE.lean ====
/- THE FRAME OF `GateUpIdeal`, RunE: the run of the body in case E (`scf.if` 0 not taken, `scf.if` 1 not taken, `scf.if` 2 taken, `scf.if` 3 not taken: points 769, 770, … 783: 15 of 784).
   What the body leaves in the block of codes is named, what it leaves in the block of scales is not. -/
module

public import proofs.«01_k».proof.Proof.GateUpIdealRunD

@[expose] public section

-- membership in a rectangle of production extents (`View.cover_of_tiled`): the elaborator's structural look
-- recurses once per coordinate of the long axes
set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE E (`scf.if` 0 not taken, `scf.if` 1 not taken, `scf.if` 2 taken, `scf.if` 3 not taken: points 769, 770, … 783: 15 of 784), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (7) at anything, handed back at some contents nothing names. -/
noncomputable def kernelRun0_E (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : ¬cond0_1 i) (hc2 : cond0_2 i) (hc3 : ¬cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) (xs0 : Vec F S16x512x512 .f32) (xs1 : Vec F S512x128 .f32) (xs2 : Vec F S512x128 .f32) :
    Σ' (L6 : List (View.Piece (Elt F) S512x512 .fp8e4m3)), Σ' (LS0 : List (View.Piece (Elt F) S16x512x512 .f32)), Σ' (LS1 : List (View.Piece (Elt F) S512x128 .f32)), { LS2 : List (View.Piece (Elt F) S512x128 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ owns (c : Thread nD τ) arg12 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ d, owns (c : Thread nD τ) arg9 fullShare d) ∗ owns (c : Thread nD τ) arg10 fullShare xs0 ∗ owns (c : Thread nD τ) arg11 fullShare xs1 ∗ owns (c : Thread nD τ) arg12 fullShare xs2) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11 arg12 harg12) K } := by
  refine ⟨?_, [], [], [], fun E K => ?run⟩
  case run =>
    simp only [cc0_gate_up_eq_skeleton]; unfold cc0_gate_up_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1; obtain rfl := harg12.eq_unread hfs2
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _, _; isplitr; swap; · iexact H7
      ipureintro; rfl
    isplitl [HS0]
    · iexists _; isplitr; · ipureintro; exact harg10.read_unread _
      iexact HS0
    isplitl [HS1]
    · iexists _; isplitr; · ipureintro; exact harg11.read_unread _
      iexact HS1
    iexists _; isplitr; · ipureintro; exact harg12.read_unread _
    iexact HS2

end Cert.GateUpIdeal.Gen

end
-- ==== Proof.GateUpIdealFrame.lean ====
/- THE FRAME OF `GateUpIdeal`, Frame: from the five cases, the obligation of the body at every grid point, the run of the program, and its frame: it terminates without a fault, its arguments unchanged.
   What the body leaves in the block of codes is named, what it leaves in the block of scales is not. -/
module

public import proofs.«01_k».proof.Proof.GateUpIdealRunE
public import Idealize.ShloMosaic.Lib.Claim

@[expose] public section

-- membership in a rectangle of production extents (`View.cover_of_tiled`): the elaborator's structural look
-- recurses once per coordinate of the long axes
set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- Case A's pieces for output 6 tile its block (4 stores of `S512x128`, checked by the kernel's evaluation: Lib/Ring.lean `Piece.tiledL`, linear in the pieces, through a loop's `@[irreducible]` trip theorem too), so they cover it. -/
theorem cover0_A_6 (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : cond0_0 i) (hc1 : cond0_1 i) (hc2 : ¬cond0_2 i) (hc3 : cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) (y : S512x512.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5).1 S512x128.size (by sl_kernel_rfl) y

/-- What case A leaves in output 6's staging buffer: its pieces read back over junk. -/
def out0_A_6 (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : cond0_0 i) (hc1 : cond0_1 i) (hc2 : ¬cond0_2 i) (hc3 : cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) : Vec F S512x512 .fp8e4m3 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5).1)

/-- Case A's pieces for scratch `arg10`, which the kernel carries between points, cover it: one of them a store of the WHOLE buffer (Lib/Ring.lean `sl_whole_mem`). -/
theorem scover0_A_0 (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : cond0_0 i) (hc1 : cond0_1 i) (hc2 : ¬cond0_2 i) (hc3 : cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) (y : S16x512x512.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5).2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5).2.1 (by sl_whole_mem) y

/-- What case A leaves in scratch `arg10`: its pieces read back over junk. -/
def sout0_A_0 (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : cond0_0 i) (hc1 : cond0_1 i) (hc2 : ¬cond0_2 i) (hc3 : cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) : Vec F S16x512x512 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5).2.1)

/-- Case A's pieces for scratch `arg11`, which the kernel carries between points, cover it: 3 pieces of `S512x128` tiling it (Lib/Ring.lean `Piece.tiledL`). -/
theorem scover0_A_1 (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : cond0_0 i) (hc1 : cond0_1 i) (hc2 : ¬cond0_2 i) (hc3 : cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) (y : S512x128.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5).2.2.1 S512x128.size (by sl_kernel_rfl) y

/-- What case A leaves in scratch `arg11`: its pieces read back over junk. -/
def sout0_A_1 (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : cond0_0 i) (hc1 : cond0_1 i) (hc2 : ¬cond0_2 i) (hc3 : cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) : Vec F S512x128 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5).2.2.1)

/-- Case A's pieces for scratch `arg12`, which the kernel carries between points, cover it: 1 piece of `S512x128` tiling it (Lib/Ring.lean `Piece.tiledL`). -/
theorem scover0_A_2 (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : cond0_0 i) (hc1 : cond0_1 i) (hc2 : ¬cond0_2 i) (hc3 : cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) (y : S512x128.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5).2.2.2.1 S512x128.size (by sl_kernel_rfl) y

/-- What case A leaves in scratch `arg12`: its pieces read back over junk. -/
def sout0_A_2 (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : cond0_0 i) (hc1 : cond0_1 i) (hc2 : ¬cond0_2 i) (hc3 : cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) : Vec F S512x128 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5).2.2.2.1)

/-- Case B's pieces for output 6 tile its block (4 stores of `S512x128`, checked by the kernel's evaluation: Lib/Ring.lean `Piece.tiledL`, linear in the pieces, through a loop's `@[irreducible]` trip theorem too), so they cover it. -/
theorem cover0_B_6 (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : ¬cond0_1 i) (hc2 : ¬cond0_2 i) (hc3 : cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) (xs0 : Vec F S16x512x512 .f32) (xs1 : Vec F S512x128 .f32) (xs2 : Vec F S512x128 .f32) (y : S512x512.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 xs2).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 xs2).1 S512x128.size (by sl_kernel_rfl) y

/-- What case B leaves in output 6's staging buffer: its pieces read back over junk. -/
def out0_B_6 (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : ¬cond0_1 i) (hc2 : ¬cond0_2 i) (hc3 : cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) (xs0 : Vec F S16x512x512 .f32) (xs1 : Vec F S512x128 .f32) (xs2 : Vec F S512x128 .f32) : Vec F S512x512 .fp8e4m3 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 xs2).1)

/-- What case B leaves in scratch `arg10`: its pieces (stores, a counted loop's segment) read back over what the point before left there, which it read first. -/
def sout0_B_0 (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : ¬cond0_1 i) (hc2 : ¬cond0_2 i) (hc3 : cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) (xs0 : Vec F S16x512x512 .f32) (xs1 : Vec F S512x128 .f32) (xs2 : Vec F S512x128 .f32) : Vec F S16x512x512 .f32 :=
  arg10.view.read (Elt F) (arg10.view.writes (Elt F) (harg10.unread xs0) (kernelRun0_B c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 xs2).2.1)

/-- Case B's pieces for scratch `arg11`, which the kernel carries between points, cover it: 1 piece of `S512x128` tiling it (Lib/Ring.lean `Piece.tiledL`). -/
theorem scover0_B_1 (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : ¬cond0_1 i) (hc2 : ¬cond0_2 i) (hc3 : cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) (xs0 : Vec F S16x512x512 .f32) (xs1 : Vec F S512x128 .f32) (xs2 : Vec F S512x128 .f32) (y : S512x128.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 xs2).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 xs2).2.2.1 S512x128.size (by sl_kernel_rfl) y

/-- What case B leaves in scratch `arg11`: its pieces read back over junk. -/
def sout0_B_1 (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : ¬cond0_1 i) (hc2 : ¬cond0_2 i) (hc3 : cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) (xs0 : Vec F S16x512x512 .f32) (xs1 : Vec F S512x128 .f32) (xs2 : Vec F S512x128 .f32) : Vec F S512x128 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 xs2).2.2.1)

/-- Case B stores nothing into scratch `arg12`: it holds what the point before left. -/
def sout0_B_2 (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : ¬cond0_1 i) (hc2 : ¬cond0_2 i) (hc3 : cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) (xs0 : Vec F S16x512x512 .f32) (xs1 : Vec F S512x128 .f32) (xs2 : Vec F S512x128 .f32) : Vec F S512x128 .f32 := xs2

/-- Case C's pieces for output 6 tile its block (4 stores of `S512x128`, checked by the kernel's evaluation: Lib/Ring.lean `Piece.tiledL`, linear in the pieces, through a loop's `@[irreducible]` trip theorem too), so they cover it. -/
theorem cover0_C_6 (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i) (hc2 : ¬cond0_2 i) (hc3 : cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) (xs0 : Vec F S16x512x512 .f32) (xs1 : Vec F S512x128 .f32) (y : S512x512.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1).1 S512x128.size (by sl_kernel_rfl) y

/-- What case C leaves in output 6's staging buffer: its pieces read back over junk. -/
def out0_C_6 (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i) (hc2 : ¬cond0_2 i) (hc3 : cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) (xs0 : Vec F S16x512x512 .f32) (xs1 : Vec F S512x128 .f32) : Vec F S512x512 .fp8e4m3 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1).1)

/-- What case C leaves in scratch `arg10`: its pieces (stores, a counted loop's segment) read back over what the point before left there, which it read first. -/
def sout0_C_0 (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i) (hc2 : ¬cond0_2 i) (hc3 : cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) (xs0 : Vec F S16x512x512 .f32) (xs1 : Vec F S512x128 .f32) : Vec F S16x512x512 .f32 :=
  arg10.view.read (Elt F) (arg10.view.writes (Elt F) (harg10.unread xs0) (kernelRun0_C c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1).2.1)

/-- Case C's pieces for scratch `arg11`, which the kernel carries between points, cover it: 2 pieces of `S512x128` tiling it (Lib/Ring.lean `Piece.tiledL`). -/
theorem scover0_C_1 (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i) (hc2 : ¬cond0_2 i) (hc3 : cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) (xs0 : Vec F S16x512x512 .f32) (xs1 : Vec F S512x128 .f32) (y : S512x128.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1).2.2.1 S512x128.size (by sl_kernel_rfl) y

/-- What case C leaves in scratch `arg11`: its pieces read back over junk. -/
def sout0_C_1 (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i) (hc2 : ¬cond0_2 i) (hc3 : cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) (xs0 : Vec F S16x512x512 .f32) (xs1 : Vec F S512x128 .f32) : Vec F S512x128 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1).2.2.1)

/-- Case C's pieces for scratch `arg12`, which the kernel carries between points, cover it: 1 piece of `S512x128` tiling it (Lib/Ring.lean `Piece.tiledL`). -/
theorem scover0_C_2 (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i) (hc2 : ¬cond0_2 i) (hc3 : cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) (xs0 : Vec F S16x512x512 .f32) (xs1 : Vec F S512x128 .f32) (y : S512x128.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1).2.2.2.1 S512x128.size (by sl_kernel_rfl) y

/-- What case C leaves in scratch `arg12`: its pieces read back over junk. -/
def sout0_C_2 (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i) (hc2 : ¬cond0_2 i) (hc3 : cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) (xs0 : Vec F S16x512x512 .f32) (xs1 : Vec F S512x128 .f32) : Vec F S512x128 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1).2.2.2.1)

/-- Case D's pieces for output 6 tile its block (4 stores of `S512x128`, checked by the kernel's evaluation: Lib/Ring.lean `Piece.tiledL`, linear in the pieces, through a loop's `@[irreducible]` trip theorem too), so they cover it. -/
theorem cover0_D_6 (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i) (hc2 : cond0_2 i) (hc3 : ¬cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) (xs0 : Vec F S16x512x512 .f32) (xs1 : Vec F S512x128 .f32) (y : S512x512.Idx) :
    ∃ pc ∈ (kernelRun0_D c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1).1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1).1 S512x128.size (by sl_kernel_rfl) y

/-- What case D leaves in output 6's staging buffer: its pieces read back over junk. -/
def out0_D_6 (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i) (hc2 : cond0_2 i) (hc3 : ¬cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) (xs0 : Vec F S16x512x512 .f32) (xs1 : Vec F S512x128 .f32) : Vec F S512x512 .fp8e4m3 :=
  VO0_6.read (Elt F) (VO0_6.writes (Elt F) VO0_6.junk (kernelRun0_D c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1).1)

/-- Case D stores nothing into scratch `arg10`: it holds what the point before left. -/
def sout0_D_0 (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i) (hc2 : cond0_2 i) (hc3 : ¬cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) (xs0 : Vec F S16x512x512 .f32) (xs1 : Vec F S512x128 .f32) : Vec F S16x512x512 .f32 := xs0

/-- Case D's pieces for scratch `arg11`, which the kernel carries between points, cover it: 1 piece of `S512x128` tiling it (Lib/Ring.lean `Piece.tiledL`). -/
theorem scover0_D_1 (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i) (hc2 : cond0_2 i) (hc3 : ¬cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) (xs0 : Vec F S16x512x512 .f32) (xs1 : Vec F S512x128 .f32) (y : S512x128.Idx) :
    ∃ pc ∈ (kernelRun0_D c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1).2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1).2.2.1 S512x128.size (by sl_kernel_rfl) y

/-- What case D leaves in scratch `arg11`: its pieces read back over junk. -/
def sout0_D_1 (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i) (hc2 : cond0_2 i) (hc3 : ¬cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) (xs0 : Vec F S16x512x512 .f32) (xs1 : Vec F S512x128 .f32) : Vec F S512x128 .f32 :=
  VS0_1.read (Elt F) (VS0_1.writes (Elt F) VS0_1.junk (kernelRun0_D c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1).2.2.1)

/-- Case D's pieces for scratch `arg12`, which the kernel carries between points, cover it: 1 piece of `S512x128` tiling it (Lib/Ring.lean `Piece.tiledL`). -/
theorem scover0_D_2 (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i) (hc2 : cond0_2 i) (hc3 : ¬cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) (xs0 : Vec F S16x512x512 .f32) (xs1 : Vec F S512x128 .f32) (y : S512x128.Idx) :
    ∃ pc ∈ (kernelRun0_D c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1).2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1).2.2.2.1 S512x128.size (by sl_kernel_rfl) y

/-- What case D leaves in scratch `arg12`: its pieces read back over junk. -/
def sout0_D_2 (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i) (hc2 : cond0_2 i) (hc3 : ¬cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) (xs0 : Vec F S16x512x512 .f32) (xs1 : Vec F S512x128 .f32) : Vec F S512x128 .f32 :=
  VS0_2.read (Elt F) (VS0_2.writes (Elt F) VS0_2.junk (kernelRun0_D c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1).2.2.2.1)

/-- Case E's pieces for output 6 tile its block (4 stores of `S512x128`, checked by the kernel's evaluation: Lib/Ring.lean `Piece.tiledL`, linear in the pieces, through a loop's `@[irreducible]` trip theorem too), so they cover it. -/
theorem cover0_E_6 (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : ¬cond0_1 i) (hc2 : cond0_2 i) (hc3 : ¬cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) (xs0 : Vec F S16x512x512 .f32) (xs1 : Vec F S512x128 .f32) (xs2 : Vec F S512x128 .f32) (y : S512x512.Idx) :
    ∃ pc ∈ (kernelRun0_E c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 xs2).1, y ∈ pc.1.set :=
  View.cover_of_tiledL (kernelRun0_E c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 xs2).1 S512x128.size (by sl_kernel_rfl) y

/-- What case E leaves in output 6's staging buffer: its pieces read back over junk. -/
def out0_E_6 (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : ¬cond0_1 i) (hc2 : cond0_2 i) (hc3 : ¬cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) (xs0 : Vec F S16x512x512 .f32) (xs1 : Vec F S512x128 .f32) (xs2 : Vec F S512x128 .f32) : Vec F S512x512 .fp8e4m3 :=
  VO0_6.read (Elt F) (VO0_6.writes (Elt F) VO0_6.junk (kernelRun0_E c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 xs2).1)

/-- Case E stores nothing into scratch `arg10`: it holds what the point before left. -/
def sout0_E_0 (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : ¬cond0_1 i) (hc2 : cond0_2 i) (hc3 : ¬cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) (xs0 : Vec F S16x512x512 .f32) (xs1 : Vec F S512x128 .f32) (xs2 : Vec F S512x128 .f32) : Vec F S16x512x512 .f32 := xs0

/-- Case E stores nothing into scratch `arg11`: it holds what the point before left. -/
def sout0_E_1 (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : ¬cond0_1 i) (hc2 : cond0_2 i) (hc3 : ¬cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) (xs0 : Vec F S16x512x512 .f32) (xs1 : Vec F S512x128 .f32) (xs2 : Vec F S512x128 .f32) : Vec F S512x128 .f32 := xs1

/-- Case E stores nothing into scratch `arg12`: it holds what the point before left. -/
def sout0_E_2 (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : ¬cond0_1 i) (hc2 : cond0_2 i) (hc3 : ¬cond0_3 i)
    (x0 : Vec F S512x2048 .fp8e4m3) (x1 : Vec F S512x1 .f32) (x2 : Vec F S2048x512 .fp8e4m3) (x3 : Vec F S1x512 .f32) (x4 : Vec F S2048x512 .fp8e4m3) (x5 : Vec F S1x512 .f32) (xs0 : Vec F S16x512x512 .f32) (xs1 : Vec F S512x128 .f32) (xs2 : Vec F S512x128 .f32) : Vec F S512x128 .f32 := xs2

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x512 .fp8e4m3 × Vec F S16x512x512 .f32 × Vec F S512x128 .f32 × Vec F S512x128 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) ((hcond0_3 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) ((hcond0_3 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) ((hcond0_3 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) ((hcond0_3 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 784 = 0 then
      if h1 : (n + 1) % 16 = 0 then
        if h2 : 768 ≤ (n + 1) then
          False.elim (by have hN : n + 1 < 784 := lt_of_lt_of_eq hn (show cfg0.N = 784 from N_0); omega)
        else
          if h3 : (n + 1) < 768 then
            (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
          else
            False.elim (by have hN : n + 1 < 784 := lt_of_lt_of_eq hn (show cfg0.N = 784 from N_0); omega)
      else
        False.elim (by have hN : n + 1 < 784 := lt_of_lt_of_eq hn (show cfg0.N = 784 from N_0); omega)
    else
      if h1 : (n + 1) % 16 = 0 then
        if h2 : 768 ≤ (n + 1) then
          if h3 : (n + 1) < 768 then
            False.elim (by have hN : n + 1 < 784 := lt_of_lt_of_eq hn (show cfg0.N = 784 from N_0); omega)
          else
            (out0_D_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1, sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1, sout0_D_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1, sout0_D_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1)
        else
          if h3 : (n + 1) < 768 then
            (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1)
          else
            False.elim (by have hN : n + 1 < 784 := lt_of_lt_of_eq hn (show cfg0.N = 784 from N_0); omega)
      else
        if h2 : 768 ≤ (n + 1) then
          if h3 : (n + 1) < 768 then
            False.elim (by have hN : n + 1 < 784 := lt_of_lt_of_eq hn (show cfg0.N = 784 from N_0); omega)
          else
            (out0_E_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2, sout0_E_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2, sout0_E_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2, sout0_E_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2)
        else
          if h3 : (n + 1) < 768 then
            (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2)
          else
            False.elim (by have hN : n + 1 < 784 := lt_of_lt_of_eq hn (show cfg0.N = 784 from N_0); omega)

/-- `outsAt0` at a point of case A: that case's contents. -/
theorem outsAt0_A (c : Dev nD) (t : Fin cfg0.N) (h0 : t.val % 784 = 0) (h1 : t.val % 16 = 0) (h2 : ¬768 ≤ t.val) (h3 : t.val < 768) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) ((hcond0_1 t).mpr h1) (fun h => h2 ((hcond0_2 t).mp h)) ((hcond0_3 t).mpr h3) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) ((hcond0_1 t).mpr h1) (fun h => h2 ((hcond0_2 t).mp h)) ((hcond0_3 t).mpr h3) (iblk m c 0 t) (iblk m c 1 t) (iblk m c 2 t) (iblk m c 3 t) (iblk m c 4 t) (iblk m c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) ((hcond0_1 t).mpr h1) (fun h => h2 ((hcond0_2 t).mp h)) ((hcond0_3 t).mpr h3) (iblk m c 0 t) (iblk m c 1 t) (iblk m c 2 t) (iblk m c 3 t) (iblk m c 4 t) (iblk m c 5 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) ((hcond0_1 t).mpr h1) (fun h => h2 ((hcond0_2 t).mp h)) ((hcond0_3 t).mpr h3) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_pos h1).trans ((dif_neg h2).trans ((dif_pos h3).trans rfl)))

/-- `outsAt0` at a point of case B: that case's contents, over what the point before left. -/
theorem outsAt0_B (c : Dev nD) (t : Fin cfg0.N) (h0 : ¬t.val % 784 = 0) (h1 : ¬t.val % 16 = 0) (h2 : ¬768 ≤ t.val) (h3 : t.val < 768) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans rfl)))

/-- `outsAt0` at a point of case C: that case's contents, over what the point before left. -/
theorem outsAt0_C (c : Dev nD) (t : Fin cfg0.N) (h0 : ¬t.val % 784 = 0) (h1 : t.val % 16 = 0) (h2 : ¬768 ≤ t.val) (h3 : t.val < 768) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1) := by
  obtain ⟨n, hn⟩ := t
  cases n with
  | zero => exact (by exfalso; (try dsimp only at h0); exact absurd (Nat.zero_mod _) h0)
  | succ n => exact (dif_neg h0).trans ((dif_pos h1).trans ((dif_neg h2).trans ((dif_pos h3).trans rfl)))

/-- `outsAt0` at a point of case D: that case's contents, over what the point before left. -/
theorem outsAt0_D (c : Dev nD) (t : Fin cfg0.N) (h0 : ¬t.val % 784 = 0) (h1 : t.val % 16 = 0) (h2 : 768 ≤ t.val) (h3 : ¬t.val < 768) :
    outsAt0 m c t.val t.isLt = (out0_D_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1, sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1, sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1, sout0_D_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1) := by
  obtain ⟨n, hn⟩ := t
  cases n with
  | zero => exact (by exfalso; (try dsimp only at h0); exact absurd (Nat.zero_mod _) h0)
  | succ n => exact (dif_neg h0).trans ((dif_pos h1).trans ((dif_pos h2).trans ((dif_neg h3).trans rfl)))

/-- `outsAt0` at a point of case E: that case's contents, over what the point before left. -/
theorem outsAt0_E (c : Dev nD) (t : Fin cfg0.N) (h0 : ¬t.val % 784 = 0) (h1 : ¬t.val % 16 = 0) (h2 : 768 ≤ t.val) (h3 : ¬t.val < 768) :
    outsAt0 m c t.val t.isLt = (out0_E_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_E_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_E_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_E_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans rfl)))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The pipeline's proof data -/

/-- The output windows this certificate FORGETS (7): nothing reads what the kernel leaves in them, so nothing
    of it is named (Lib/Pipeline/Dat.lean `Dat.toRForget`). -/
def forgets0 : Fin 8 → Bool := fun w => w.val == 7
theorem forgets0_6 : forgets0 (6 : Fin 8) = false := by decide

/-- The proof data of the one pipeline on core `c`: the arrays as the region finds them (`V`); after the body at
    point `t` each input's buffer at its block and the NAMED outputs' at `outsAt0` (the forgotten at `Dat.unnamed`); the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, h⟩ => Pipeline.Dat.unnamed (cfg := cfg0) ⟨7, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (ms0_7 t) fullShare d))

set_option maxHeartbeats 16000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 784 := lt_of_lt_of_eq t.isLt (show cfg0.N = 784 from N_0)
  by_cases h0 : t.val % 784 = 0
  · by_cases h1 : t.val % 16 = 0
    · by_cases h2 : 768 ≤ t.val
      · exfalso; omega
      · by_cases h3 : t.val < 768
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6_A t ((hcond0_0 t).mpr h0) ((hcond0_1 t).mpr h1) (fun h => h2 ((hcond0_2 t).mp h)) ((hcond0_3 t).mpr h3)], after0_6]
          by_cases hz : t.val = 0
          · rw [PhiS_castSucc m c t, PhiS_zero m c _ _ hz, PhiA0_eq]
            rw [outsAt0_A m c t h0 h1 h2 h3]
            unfold out0_A_6 sout0_A_0 sout0_A_1 sout0_A_2; (try dsimp only)
            iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
            iapply ((kernelRun0_A c (grid0.coords t) _ _ _ _ _ _ _ _ _ _ _ _ _ _ _ _ _ _ _ _ _ _ ((hcond0_0 t).mpr h0) ((hcond0_1 t).mpr h1) (fun h => h2 ((hcond0_2 t).mp h)) ((hcond0_3 t).mpr h3) (iblk m c 0 t) (iblk m c 1 t) (iblk m c 2 t) (iblk m c 3 t) (iblk m c 4 t) (iblk m c 5 t)).2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            isplitl [H7]; · iexists _; iexact H7
            isplitl [HS0]; · iexact HS0
            isplitl [HS1]; · iexact HS1
            isplitl [HS2]; · iexact HS2
            iintro ⟨H0, H1, H2, H3, H4, H5, ⟨%e6, H6⟩, H7, ⟨%es0, HS0⟩, ⟨%es1, HS1⟩, ⟨%es2, HS2⟩⟩
            isplitl [HS0 HS1 HS2 Hg]
            · isplitl [HS0 HS1 HS2]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover0_A_1 c _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover0_A_2 c _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]
            · unfold owns; iexists _; isplitr
              swap; · iexact H6
              ipureintro; exact View.read_writes_of_cover _ _ _ _ _ (cover0_A_6 c _ _ _ _ _ _ _ _ _ _ _ _ _ _ _ _ _ _ _ _ _ _ _ _ _ _ _ _ _ _ _ _ _)
            iexact H7
          · exfalso; have hN : t.val < 784 := lt_of_lt_of_eq t.isLt (show cfg0.N = 784 from N_0); omega
        · exfalso; omega
    · exfalso; omega
  · by_cases h1 : t.val % 16 = 0
    · by_cases h2 : 768 ≤ t.val
      · by_cases h3 : t.val < 768
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6_D t (fun h => h0 ((hcond0_0 t).mp h)) ((hcond0_1 t).mpr h1) ((hcond0_2 t).mpr h2) (fun h => h3 ((hcond0_3 t).mp h))], after0_6]
          by_cases hz : t.val = 0
          · exfalso; have hN : t.val < 784 := lt_of_lt_of_eq t.isLt (show cfg0.N = 784 from N_0); omega
          · rw [PhiS_castSucc m c t, PhiS_pos m c _ _ hz]
            rw [outsAt0_D m c t h0 h1 h2 h3]
            unfold out0_D_6 sout0_D_0 sout0_D_1 sout0_D_2; (try dsimp only)
            iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
            iapply ((kernelRun0_D c (grid0.coords t) _ _ _ _ _ _ _ _ _ _ _ _ _ _ _ _ _ _ _ _ _ _ (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) _ _).2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            isplitl [H7]; · iexists _; iexact H7
            isplitl [HS0]; · iexact HS0
            isplitl [HS1]; · iexact HS1
            isplitl [HS2]; · iexists _; iexact HS2
            iintro ⟨H0, H1, H2, H3, H4, H5, ⟨%e6, H6⟩, H7, HS0, ⟨%es1, HS1⟩, ⟨%es2, HS2⟩⟩
            isplitl [HS0 HS1 HS2 Hg]
            · isplitl [HS0 HS1 HS2]
              · isplitl [HS0]
                · iexact HS0
                isplitl [HS1]
                · unfold owns; iexists _; isplitr
                  swap; · iexact HS1
                  ipureintro; exact View.read_writes_of_cover _ _ _ _ _ (scover0_D_1 c _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover0_D_2 c _ _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]
            · unfold owns; iexists _; isplitr
              swap; · iexact H6
              ipureintro; exact View.read_writes_of_cover _ _ _ _ _ (cover0_D_6 c _ _ _ _ _ _ _ _ _ _ _ _ _ _ _ _ _ _ _ _ _ _ _ _ _ _ _ _ _ _ _ _ _ _ _)
            iexact H7
      · by_cases h3 : t.val < 768
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6_C t (fun h => h0 ((hcond0_0 t).mp h)) ((hcond0_1 t).mpr h1) (fun h => h2 ((hcond0_2 t).mp h)) ((hcond0_3 t).mpr h3)], after0_6]
          by_cases hz : t.val = 0
          · exfalso; have hN : t.val < 784 := lt_of_lt_of_eq t.isLt (show cfg0.N = 784 from N_0); omega
          · rw [PhiS_castSucc m c t, PhiS_pos m c _ _ hz]
            rw [outsAt0_C m c t h0 h1 h2 h3]
            unfold out0_C_6 sout0_C_0 sout0_C_1 sout0_C_2; (try dsimp only)
            iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
            iapply ((kernelRun0_C c (grid0.coords t) _ _ _ _ _ _ _ _ _ _ _ _ _ _ _ _ _ _ _ _ _ _ (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (iblk m c 4 t) (iblk m c 5 t) _ _).2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            isplitl [H7]; · iexists _; iexact H7
            isplitl [HS0]; · iexact HS0
            isplitl [HS1]; · iexact HS1
            isplitl [HS2]; · iexists _; iexact HS2
            iintro ⟨H0, H1, H2, H3, H4, H5, ⟨%e6, H6⟩, H7, HS0, ⟨%es1, HS1⟩, ⟨%es2, HS2⟩⟩
            isplitl [HS0 HS1 HS2 Hg]
            · isplitl [HS0 HS1 HS2]
              · isplitl [HS0]
                · unfold owns; iexists _; isplitr
                  swap; · iexact HS0
                  ipureintro; rfl
                isplitl [HS1]
                · unfold owns; iexists _; isplitr
                  swap; · iexact HS1
                  ipureintro; exact View.read_writes_of_cover _ _ _ _ _ (scover0_C_1 c _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover0_C_2 c _ _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]
            · unfold owns; iexists _; isplitr
              swap; · iexact H6
              ipureintro; exact View.read_writes_of_cover _ _ _ _ _ (cover0_C_6 c _ _ _ _ _ _ _ _ _ _ _ _ _ _ _ _ _ _ _ _ _ _ _ _ _ _ _ _ _ _ _ _ _ _ _)
            iexact H7
        · exfalso; omega
    · by_cases h2 : 768 ≤ t.val
      · by_cases h3 : t.val < 768
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6_E t (fun h => h0 ((hcond0_0 t).mp h)) (fun h => h1 ((hcond0_1 t).mp h)) ((hcond0_2 t).mpr h2) (fun h => h3 ((hcond0_3 t).mp h))], after0_6]
          by_cases hz : t.val = 0
          · exfalso; have hN : t.val < 784 := lt_of_lt_of_eq t.isLt (show cfg0.N = 784 from N_0); omega
          · rw [PhiS_castSucc m c t, PhiS_pos m c _ _ hz]
            rw [outsAt0_E m c t h0 h1 h2 h3]
            unfold out0_E_6 sout0_E_0 sout0_E_1 sout0_E_2; (try dsimp only)
            iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
            iapply ((kernelRun0_E c (grid0.coords t) _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) _ _ _).2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            isplitl [H7]; · iexists _; iexact H7
            isplitl [HS0]; · iexact HS0
            isplitl [HS1]; · iexact HS1
            isplitl [HS2]; · iexact HS2
            iintro ⟨H0, H1, H2, H3, H4, H5, ⟨%e6, H6⟩, H7, HS0, HS1, HS2⟩
            isplitl [HS0 HS1 HS2 Hg]
            · isplitl [HS0 HS1 HS2]
              · isplitl [HS0]
                · iexact HS0
                isplitl [HS1]
                · iexact HS1
                iexact HS2
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]
            · unfold owns; iexists _; isplitr
              swap; · iexact H6
              ipureintro; exact View.read_writes_of_cover _ _ _ _ _ (cover0_E_6 c _ _ _ _ _ _ _ _ _ _ _ _ _ _ _ _ _ _ _ _ _ _ _ _ _ _ _ _ _ _ _ _ _ _ _ _)
            iexact H7
      · by_cases h3 : t.val < 768
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6_B t (fun h => h0 ((hcond0_0 t).mp h)) (fun h => h1 ((hcond0_1 t).mp h)) (fun h => h2 ((hcond0_2 t).mp h)) ((hcond0_3 t).mpr h3)], after0_6]
          by_cases hz : t.val = 0
          · exfalso; have hN : t.val < 784 := lt_of_lt_of_eq t.isLt (show cfg0.N = 784 from N_0); omega
          · rw [PhiS_castSucc m c t, PhiS_pos m c _ _ hz]
            rw [outsAt0_B m c t h0 h1 h2 h3]
            unfold out0_B_6 sout0_B_0 sout0_B_1 sout0_B_2; (try dsimp only)
            iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
            iapply ((kernelRun0_B c (grid0.coords t) _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) _ _ _).2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            isplitl [H7]; · iexists _; iexact H7
            isplitl [HS0]; · iexact HS0
            isplitl [HS1]; · iexact HS1
            isplitl [HS2]; · iexact HS2
            iintro ⟨H0, H1, H2, H3, H4, H5, ⟨%e6, H6⟩, H7, HS0, ⟨%es1, HS1⟩, HS2⟩
            isplitl [HS0 HS1 HS2 Hg]
            · isplitl [HS0 HS1 HS2]
              · isplitl [HS0]
                · unfold owns; iexists _; isplitr
                  swap; · iexact HS0
                  ipureintro; rfl
                isplitl [HS1]
                · unfold owns; iexists _; isplitr
                  swap; · iexact HS1
                  ipureintro; exact View.read_writes_of_cover _ _ _ _ _ (scover0_B_1 c _ _ _ _ _ _ _ _ _ _ _ _ _ _ _ _ _ _ _ _ _ _ _ _ _ _ _ _ _ _ _ _ _ _ _ _)
                iexact HS2
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]
            · unfold owns; iexists _; isplitr
              swap; · iexact H6
              ipureintro; exact View.read_writes_of_cover _ _ _ _ _ (cover0_B_6 c _ _ _ _ _ _ _ _ _ _ _ _ _ _ _ _ _ _ _ _ _ _ _ _ _ _ _ _ _ _ _ _ _ _ _ _)
            iexact H7
        · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 784 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (window 7) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- THE FRAME: `Cert.quiescent_GateUpIdeal`'s statement (Defs.lean) at any `F` — Proof.lean cites it at `Bits`:
    `theorem Cert.Proof.claim : Cert.Claim := ⟨Cert.GateUpIdeal.Gen.facts, fun m ρ _ => Cert.GateUpIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.GateUpIdeal.Gen

end
-- ==== Proof.Cases.lean ====
/-
  WHAT ONE GRID STEP OF THE HEAD KERNEL LEAVES BEHIND, case by case, as a function of the blocks it is given.

  A grid point `(i, j)` treats 1024 rows and 1024 vocabulary columns. It carries three 1024 × 128 arrays over `j`: per
  row and lane the running maximum `m`, the running sum of exponentials `l` and the target's logit `z`. `mNew`, `lNew`
  and `zNew` are the three arrays a step leaves, over those it found. The theorems below state that the generated
  cases of the body hold exactly these: case A (`j = 0`) over the initial arrays, cases B and C over the arrays of the
  step before; case C (the last `j`) also writes the two results.
-/
module

public import proofs.«01_k».proof.Proof.Gen.HeadIdeal.Value

@[expose] public section

set_option maxRecDepth 16384

noncomputable section

namespace Cert.HeadIdeal.Cases

open Cert.HeadIdeal Cert.HeadIdeal.Gen Idealize.ShloMosaic Idealize.ShloMosaic.TcCoe Idealize.SL.Sem
open Idealize.ShloMosaic.Tactic

variable {F : FTy → Type} [FloatOps F] [Named F]

section Step

variable (i : grid0.Coords) (h : Vec F S1024x2048 .fp8e4m3) (hs : Vec F S1024x1 .f32) (w : Vec F S1024x2048 .fp8e4m3) (se : Vec F S1x1024 .f32) (tg : Vec F S1024x1 .i32)
  (m l z : Vec F S1024x128 .f32)

/-- The running maximum after a step that found `m`: the maximum with each of the eight column chunks in turn. -/
def mNew : Vec F S1024x128 .f32 :=
  k0_pay21 (k0_pay12 h w hs se) (k0_pay13 h w hs se) (k0_pay14 h w hs se) (k0_pay15 h w hs se) (k0_pay16 h w hs se) (k0_pay17 h w hs se)
    (k0_pay19 h w hs se m)

/-- The running sum of exponentials after a step that found `m` and `l`: `l` rescaled to the new maximum, plus the
    exponentials of the eight column chunks. -/
def lNew : Vec F S1024x128 .f32 :=
  k0_pay26 (k0_pay10 h w hs se) (k0_pay11 h w hs se) (k0_pay12 h w hs se) (k0_pay13 h w hs se) (k0_pay14 h w hs se) (k0_pay15 h w hs se) (k0_pay16 h w hs se) (k0_pay17 h w hs se)
    (k0_pay23 (k0_pay12 h w hs se) (k0_pay13 h w hs se) (k0_pay14 h w hs se) (k0_pay15 h w hs se) (k0_pay16 h w hs se) (k0_pay17 h w hs se)
      (k0_pay19 h w hs se m))
    (k0_pay24 (k0_pay12 h w hs se) (k0_pay13 h w hs se) (k0_pay14 h w hs se) (k0_pay15 h w hs se) (k0_pay16 h w hs se) (k0_pay17 h w hs se)
      m (k0_pay19 h w hs se m) l)
    k0_pay25

/-- The target's logit after a step that found `z`: the logit of the target column where this step's columns hold it. -/
def zNew : Vec F S1024x128 .f32 :=
  k0_pay22 (k0_pay9 i tg) (iota .tc S1024x128 32 [1] iota_S1024x128_d1_w32)
    (k0_pay11 h w hs se) (k0_pay12 h w hs se) (k0_pay13 h w hs se) (k0_pay14 h w hs se) (k0_pay15 h w hs se) (k0_pay16 h w hs se) (k0_pay17 h w hs se)
    (k0_pay18 i h w hs se tg z) k0_pay20

end Step

variable (c : Dev nD) (i : grid0.Coords) (arg2 : Memref sig .tc .vmem S1024x2048 .fp8e4m3) (harg2 : arg2.IsWhole) (arg3 : Memref sig .tc .vmem S1024x1 .f32) (harg3 : arg3.IsWhole) (arg4 : Memref sig .tc .vmem S1024x2048 .fp8e4m3) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole)
  (x0 : Vec F S1024x2048 .fp8e4m3) (x1 : Vec F S1024x1 .f32) (x2 : Vec F S1024x2048 .fp8e4m3) (x3 : Vec F S1x1024 .f32) (x4 : Vec F S1024x1 .i32) (xs0 : Vec F S1024x128 .f32) (xs1 : Vec F S1024x128 .f32) (xs2 : Vec F S1024x128 .f32)

theorem hz : (![0, 0] : Fin 2 → Nat) = fun _ => 0 := funext fun a => by fin_cases a <;> rfl

/-- Case A leaves the running maximum. -/
theorem sout0_A_0_eq (hc0 : cond0_0 i) (hc1 : ¬cond0_1 i) :
    sout0_A_0 c i arg2 harg2 arg3 harg3 arg4 harg4 arg5 harg5 arg6 harg6 arg7 harg7 arg8 harg8 arg9 harg9 arg10 harg10 arg11 harg11 hc0 hc1 x0 x1 x2 x3 x4 = mNew x0 x1 x2 x3 k0_pay5 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero (S := S1024x128) hz]
  simp only [View.readCov_unit_zero (S := S1024x128) _ hz]
  simp only [View.readAt_eq_ld, harg2.read_unread, harg3.read_unread, harg4.read_unread, harg5.read_unread, harg6.read_unread, harg9.read_unread, harg10.read_unread, harg11.read_unread,
    View.ld_unit_zero (S := S1024x128) hz, View.ld_unit_zero (S := S1024x2048) hz, View.ld_unit_zero (S := S1024x1) hz, View.ld_unit_zero (S := S1x1024) hz]
  simp only [k0_pay1, k0_pay27, k0_pay28, shapeCast_self]
  rfl

/-- Case A leaves the running sum of exponentials. -/
theorem sout0_A_1_eq (hc0 : cond0_0 i) (hc1 : ¬cond0_1 i) :
    sout0_A_1 c i arg2 harg2 arg3 harg3 arg4 harg4 arg5 harg5 arg6 harg6 arg7 harg7 arg8 harg8 arg9 harg9 arg10 harg10 arg11 harg11 hc0 hc1 x0 x1 x2 x3 x4 = lNew x0 x1 x2 x3 k0_pay5 k0_pay6 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero (S := S1024x128) hz]
  simp only [View.readCov_unit_zero (S := S1024x128) _ hz]
  simp only [View.readAt_eq_ld, harg2.read_unread, harg3.read_unread, harg4.read_unread, harg5.read_unread, harg6.read_unread, harg9.read_unread, harg10.read_unread, harg11.read_unread,
    View.ld_unit_zero (S := S1024x128) hz, View.ld_unit_zero (S := S1024x2048) hz, View.ld_unit_zero (S := S1024x1) hz, View.ld_unit_zero (S := S1x1024) hz]
  simp only [k0_pay1, k0_pay27, k0_pay28, shapeCast_self]
  rfl

/-- Case A leaves the target's logit. -/
theorem sout0_A_2_eq (hc0 : cond0_0 i) (hc1 : ¬cond0_1 i) :
    sout0_A_2 c i arg2 harg2 arg3 harg3 arg4 harg4 arg5 harg5 arg6 harg6 arg7 harg7 arg8 harg8 arg9 harg9 arg10 harg10 arg11 harg11 hc0 hc1 x0 x1 x2 x3 x4 = zNew i x0 x1 x2 x3 x4 k0_pay7 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero (S := S1024x128) hz]
  simp only [View.readCov_unit_zero (S := S1024x128) _ hz]
  simp only [View.readAt_eq_ld, harg2.read_unread, harg3.read_unread, harg4.read_unread, harg5.read_unread, harg6.read_unread, harg9.read_unread, harg10.read_unread, harg11.read_unread,
    View.ld_unit_zero (S := S1024x128) hz, View.ld_unit_zero (S := S1024x2048) hz, View.ld_unit_zero (S := S1024x1) hz, View.ld_unit_zero (S := S1x1024) hz]
  simp only [k0_pay1, k0_pay27, k0_pay28, shapeCast_self]
  rfl

/-- Case B leaves the running maximum. -/
theorem sout0_B_0_eq (hc0 : ¬cond0_0 i) (hc1 : ¬cond0_1 i) :
    sout0_B_0 c i arg2 harg2 arg3 harg3 arg4 harg4 arg5 harg5 arg6 harg6 arg7 harg7 arg8 harg8 arg9 harg9 arg10 harg10 arg11 harg11 hc0 hc1 x0 x1 x2 x3 x4 xs0 xs1 xs2 = mNew x0 x1 x2 x3 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg9.read_unread, harg10.read_unread, harg11.read_unread,
    View.ld_unit_zero (S := S1024x128) hz, View.ld_unit_zero (S := S1024x2048) hz, View.ld_unit_zero (S := S1024x1) hz, View.ld_unit_zero (S := S1x1024) hz]
  simp only [k0_pay1, k0_pay27, k0_pay28, shapeCast_self]
  rfl

/-- Case B leaves the running sum of exponentials. -/
theorem sout0_B_1_eq (hc0 : ¬cond0_0 i) (hc1 : ¬cond0_1 i) :
    sout0_B_1 c i arg2 harg2 arg3 harg3 arg4 harg4 arg5 harg5 arg6 harg6 arg7 harg7 arg8 harg8 arg9 harg9 arg10 harg10 arg11 harg11 hc0 hc1 x0 x1 x2 x3 x4 xs0 xs1 xs2 = lNew x0 x1 x2 x3 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 x4 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg9.read_unread, harg10.read_unread, harg11.read_unread,
    View.ld_unit_zero (S := S1024x128) hz, View.ld_unit_zero (S := S1024x2048) hz, View.ld_unit_zero (S := S1024x1) hz, View.ld_unit_zero (S := S1x1024) hz]
  simp only [k0_pay1, k0_pay27, k0_pay28, shapeCast_self]
  rfl

/-- Case B leaves the target's logit. -/
theorem sout0_B_2_eq (hc0 : ¬cond0_0 i) (hc1 : ¬cond0_1 i) :
    sout0_B_2 c i arg2 harg2 arg3 harg3 arg4 harg4 arg5 harg5 arg6 harg6 arg7 harg7 arg8 harg8 arg9 harg9 arg10 harg10 arg11 harg11 hc0 hc1 x0 x1 x2 x3 x4 xs0 xs1 xs2 = zNew i x0 x1 x2 x3 x4 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 hc0 hc1 x0 x1 x2 x3 x4 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg9.read_unread, harg10.read_unread, harg11.read_unread,
    View.ld_unit_zero (S := S1024x128) hz, View.ld_unit_zero (S := S1024x2048) hz, View.ld_unit_zero (S := S1024x1) hz, View.ld_unit_zero (S := S1x1024) hz]
  simp only [k0_pay1, k0_pay27, k0_pay28, shapeCast_self]
  rfl

/-- Case C leaves the running maximum. -/
theorem sout0_C_0_eq (hc0 : ¬cond0_0 i) (hc1 : cond0_1 i) :
    sout0_C_0 c i arg2 harg2 arg3 harg3 arg4 harg4 arg5 harg5 arg6 harg6 arg7 harg7 arg8 harg8 arg9 harg9 arg10 harg10 arg11 harg11 hc0 hc1 x0 x1 x2 x3 x4 xs0 xs1 xs2 = mNew x0 x1 x2 x3 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg9.read_unread, harg10.read_unread, harg11.read_unread,
    View.ld_unit_zero (S := S1024x128) hz, View.ld_unit_zero (S := S1024x2048) hz, View.ld_unit_zero (S := S1024x1) hz, View.ld_unit_zero (S := S1x1024) hz]
  simp only [k0_pay1, k0_pay27, k0_pay28, shapeCast_self]
  rfl

/-- Case C leaves the running sum of exponentials. -/
theorem sout0_C_1_eq (hc0 : ¬cond0_0 i) (hc1 : cond0_1 i) :
    sout0_C_1 c i arg2 harg2 arg3 harg3 arg4 harg4 arg5 harg5 arg6 harg6 arg7 harg7 arg8 harg8 arg9 harg9 arg10 harg10 arg11 harg11 hc0 hc1 x0 x1 x2 x3 x4 xs0 xs1 xs2 = lNew x0 x1 x2 x3 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 x4 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg9.read_unread, harg10.read_unread, harg11.read_unread,
    View.ld_unit_zero (S := S1024x128) hz, View.ld_unit_zero (S := S1024x2048) hz, View.ld_unit_zero (S := S1024x1) hz, View.ld_unit_zero (S := S1x1024) hz]
  simp only [k0_pay1, k0_pay27, k0_pay28, shapeCast_self]
  rfl

/-- Case C leaves the target's logit. -/
theorem sout0_C_2_eq (hc0 : ¬cond0_0 i) (hc1 : cond0_1 i) :
    sout0_C_2 c i arg2 harg2 arg3 harg3 arg4 harg4 arg5 harg5 arg6 harg6 arg7 harg7 arg8 harg8 arg9 harg9 arg10 harg10 arg11 harg11 hc0 hc1 x0 x1 x2 x3 x4 xs0 xs1 xs2 = zNew i x0 x1 x2 x3 x4 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 hc0 hc1 x0 x1 x2 x3 x4 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg9.read_unread, harg10.read_unread, harg11.read_unread,
    View.ld_unit_zero (S := S1024x128) hz, View.ld_unit_zero (S := S1024x2048) hz, View.ld_unit_zero (S := S1024x1) hz, View.ld_unit_zero (S := S1x1024) hz]
  simp only [k0_pay1, k0_pay27, k0_pay28, shapeCast_self]
  rfl

/-- Case C leaves the block of the first result (the log-sum-exp). -/
theorem out0_C_5_eq (hc0 : ¬cond0_0 i) (hc1 : cond0_1 i) :
    out0_C_5 c i arg2 harg2 arg3 harg3 arg4 harg4 arg5 harg5 arg6 harg6 arg7 harg7 arg8 harg8 arg9 harg9 arg10 harg10 arg11 harg11 hc0 hc1 x0 x1 x2 x3 x4 xs0 xs1 xs2 = k0_pay3 (mNew x0 x1 x2 x3 xs0) (lNew x0 x1 x2 x3 xs0 xs1) := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 hc0 hc1 x0 x1 x2 x3 x4 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg9.read_unread, harg10.read_unread, harg11.read_unread,
    View.ld_unit_zero (S := S1024x128) hz, View.ld_unit_zero (S := S1024x2048) hz, View.ld_unit_zero (S := S1024x1) hz, View.ld_unit_zero (S := S1x1024) hz]
  rfl

/-- Case C leaves the block of the second result (the log probability). -/
theorem out0_C_6_eq (hc0 : ¬cond0_0 i) (hc1 : cond0_1 i) :
    out0_C_6 c i arg2 harg2 arg3 harg3 arg4 harg4 arg5 harg5 arg6 harg6 arg7 harg7 arg8 harg8 arg9 harg9 arg10 harg10 arg11 harg11 hc0 hc1 x0 x1 x2 x3 x4 xs0 xs1 xs2 = k0_pay4 (mNew x0 x1 x2 x3 xs0) (zNew i x0 x1 x2 x3 x4 xs2) (lNew x0 x1 x2 x3 xs0 xs1) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 hc0 hc1 x0 x1 x2 x3 x4 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg9.read_unread, harg10.read_unread, harg11.read_unread,
    View.ld_unit_zero (S := S1024x128) hz, View.ld_unit_zero (S := S1024x2048) hz, View.ld_unit_zero (S := S1024x1) hz, View.ld_unit_zero (S := S1x1024) hz]
  rfl

section Points

variable (mem : (ℓ : Loc nD τ sig) → Buf (Elt F) ℓ) (t : Fin cfg0.N)
  (acc : Vec F S1024x1 .f32 × Vec F S1024x1 .f32 × Vec F S1024x128 .f32 × Vec F S1024x128 .f32 × Vec F S1024x128 .f32)

/-- The carried arrays a step leaves over `(m, l, z)`, at the blocks of grid point `t`. -/
def carried (s : Vec F S1024x128 .f32 × Vec F S1024x128 .f32 × Vec F S1024x128 .f32) : Vec F S1024x128 .f32 × Vec F S1024x128 .f32 × Vec F S1024x128 .f32 :=
  (mNew (iblk mem c 0 t) (iblk mem c 1 t) (iblk mem c 2 t) (iblk mem c 3 t) s.1,
   lNew (iblk mem c 0 t) (iblk mem c 1 t) (iblk mem c 2 t) (iblk mem c 3 t) s.1 s.2.1,
   zNew (grid0.coords t) (iblk mem c 0 t) (iblk mem c 1 t) (iblk mem c 2 t) (iblk mem c 3 t) (iblk mem c 4 t) s.2.2)

theorem carried_max (s : Vec F S1024x128 .f32 × Vec F S1024x128 .f32 × Vec F S1024x128 .f32) :
    (carried c mem t s).1 = mNew (iblk mem c 0 t) (iblk mem c 1 t) (iblk mem c 2 t) (iblk mem c 3 t) s.1 := by unfold carried; with_reducible rfl
theorem carried_sum (s : Vec F S1024x128 .f32 × Vec F S1024x128 .f32 × Vec F S1024x128 .f32) :
    (carried c mem t s).2.1 = lNew (iblk mem c 0 t) (iblk mem c 1 t) (iblk mem c 2 t) (iblk mem c 3 t) s.1 s.2.1 := by unfold carried; with_reducible rfl
theorem carried_target (s : Vec F S1024x128 .f32 × Vec F S1024x128 .f32 × Vec F S1024x128 .f32) :
    (carried c mem t s).2.2 = zNew (grid0.coords t) (iblk mem c 0 t) (iblk mem c 1 t) (iblk mem c 2 t) (iblk mem c 3 t) (iblk mem c 4 t) s.2.2 := by unfold carried; with_reducible rfl

/-- The carried arrays the first column step starts from. -/
def start : Vec F S1024x128 .f32 × Vec F S1024x128 .f32 × Vec F S1024x128 .f32 := (k0_pay5, k0_pay6, k0_pay7)

/-- The first column step of a row block: one step over the initial arrays. -/
theorem carried_first (h0 : t.val % 48 = 0) : (Value.stAt0 mem c t.val t.isLt acc).2.2 = carried c mem t start := by
  rw [Value.stAt0_A mem c t acc h0 (by omega)]
  exact congrArg₂ Prod.mk (sout0_A_0_eq (F := F) ..) (congrArg₂ Prod.mk (sout0_A_1_eq (F := F) ..) (sout0_A_2_eq (F := F) ..))

/-- Any later column step: one step over the arrays of the step before. -/
theorem carried_next (h0 : ¬t.val % 48 = 0) : (Value.stAt0 mem c t.val t.isLt acc).2.2 = carried c mem t acc.2.2 := by
  by_cases h1 : t.val % 48 = 47
  · rw [Value.stAt0_C mem c t acc h0 h1]
    exact congrArg₂ Prod.mk (sout0_C_0_eq (F := F) ..) (congrArg₂ Prod.mk (sout0_C_1_eq (F := F) ..) (sout0_C_2_eq (F := F) ..))
  · rw [Value.stAt0_B mem c t acc h0 h1]
    exact congrArg₂ Prod.mk (sout0_B_0_eq (F := F) ..) (congrArg₂ Prod.mk (sout0_B_1_eq (F := F) ..) (sout0_B_2_eq (F := F) ..))

/-- The two result blocks the last column step writes, from the carried arrays it leaves. -/
theorem results_last (h1 : t.val % 48 = 47) :
    (Value.stAt0 mem c t.val t.isLt acc).1 = k0_pay3 (carried c mem t acc.2.2).1 (carried c mem t acc.2.2).2.1
    ∧ (Value.stAt0 mem c t.val t.isLt acc).2.1
        = k0_pay4 (carried c mem t acc.2.2).1 (carried c mem t acc.2.2).2.2 (carried c mem t acc.2.2).2.1 := by
  rw [Value.stAt0_C mem c t acc (by omega) h1]
  dsimp only
  rw [out0_C_5_eq, out0_C_6_eq]
  unfold carried
  constructor
  · with_reducible rfl
  · with_reducible rfl

end Points

end Cert.HeadIdeal.Cases

end
-- ==== Proof.Lse.lean ====
/-
  THE MATHEMATICS OF THE ONLINE LOG-SUM-EXP over the extended reals; no program is mentioned here.

  A row of logits `Q` is walked in lanes. A lane keeps a running maximum `runMax` (started at a real floor `neg`) and
  the running sum of `2^(q c - m c)` with `c = 1 / log 2`, rescaled whenever the maximum grows. At the end the lanes are
  combined at the largest maximum. `lse_eq` states that the result is the log-sum-exp at the row's own maximum,
  `log (∑ exp (q - M)) + M`, for EVERY row: a row holding `⊤` gives `⊥` on both sides, as does a row of `⊥` alone.
-/
module

public import Idealize.ShloMosaic.PureOps.Ideal.Laws
public import Mathlib.Analysis.SpecialFunctions.Log.Basic
public import Mathlib.Analysis.SpecialFunctions.Pow.Real

@[expose] public section

noncomputable section

namespace Cert.Lse

open Idealize.ShloMosaic

/-- The scale that turns powers of two into exponentials. -/
abbrev scale : EReal := (((Real.log 2)⁻¹ : ℝ) : EReal)

theorem log_two_inv_pos : (0 : ℝ) < (Real.log 2)⁻¹ := inv_pos.mpr (Real.log_pos one_lt_two)

/-- `exp (q - m)` as a real number, for a logit `q` at most `m`: zero where `q` is `⊥` or `m` is `⊤`. -/
def wgt (q m : EReal) : ℝ := if q = ⊥ ∨ m = ⊤ then 0 else Real.exp (q.toReal - m.toReal)

theorem wgt_bot (m : EReal) : wgt ⊥ m = 0 := if_pos (Or.inl rfl)

theorem wgt_top (q : EReal) : wgt q ⊤ = 0 := if_pos (Or.inr rfl)

theorem wgt_coe (x y : ℝ) : wgt x y = Real.exp (x - y) := by
  unfold wgt
  rw [if_neg (by simp), EReal.toReal_coe, EReal.toReal_coe]

theorem wgt_nonneg (q m : EReal) : 0 ≤ wgt q m := by
  unfold wgt
  split_ifs
  · exact le_rfl
  · exact (Real.exp_pos _).le

/-- `2^(x / log 2) = exp x`. -/
theorem exp2_scaled (x : ℝ) : Ideal.exp2 ((x * (Real.log 2)⁻¹ : ℝ) : EReal) = (Real.exp x : EReal) := by
  have h2 : Real.log 2 ≠ 0 := (Real.log_pos one_lt_two).ne'
  rw [Ideal.exp2_coe, Real.rpow_eq_pow, Real.rpow_def_of_pos two_pos, mul_comm x, mul_inv_cancel_left₀ h2]

/-- The kernel's exponential of a logit below the maximum. -/
theorem exp2_sub (q m : EReal) (h : q ≤ m) (hm : m ≠ ⊥) : Ideal.exp2 (q * scale - m * scale) = (wgt q m : EReal) := by
  induction m with
  | bot => exact absurd rfl hm
  | top => rw [EReal.top_mul_coe_of_pos log_two_inv_pos, EReal.sub_top, wgt_top]; rfl
  | coe y =>
    induction q with
    | bot => rw [EReal.bot_mul_coe_of_pos log_two_inv_pos, wgt_bot, ← EReal.coe_mul, EReal.bot_sub]; rfl
    | top => exact absurd h (by simp)
    | coe x => rw [← EReal.coe_mul, ← EReal.coe_mul, ← EReal.coe_sub, ← sub_mul, exp2_scaled, wgt_coe]

/-- The kernel's exponential of one maximum below another. -/
theorem exp2_sub_mul (m t : EReal) (h : m ≤ t) (hm : m ≠ ⊥) : Ideal.exp2 ((m - t) * scale) = (wgt m t : EReal) := by
  induction t with
  | bot => exact absurd (le_bot_iff.mp h) hm
  | top => rw [EReal.sub_top, EReal.bot_mul_coe_of_pos log_two_inv_pos, wgt_top]; rfl
  | coe y =>
    induction m with
    | bot => exact absurd rfl hm
    | top => exact absurd h (by simp)
    | coe x => rw [← EReal.coe_sub, ← EReal.coe_mul, exp2_scaled, wgt_coe]

/-- The exponential of a logit below the row's maximum, whatever that maximum is. -/
theorem exp_sub (q m : EReal) (h : q ≤ m) : Ideal.exp (q - m) = (wgt q m : EReal) := by
  induction m with
  | bot => rw [le_bot_iff.mp h, wgt_bot]; rfl
  | top => rw [EReal.sub_top, wgt_top]; rfl
  | coe y =>
    induction q with
    | bot => rw [wgt_bot, EReal.bot_sub]; rfl
    | top => exact absurd h (by simp)
    | coe x => rw [← EReal.coe_sub, Ideal.exp_coe, wgt_coe]

/-- Moving a weight from one maximum to a larger one. -/
theorem wgt_mul (q m t : EReal) (h : m ≤ t) (hq : q ≤ m) (hm : m ≠ ⊥) : wgt q m * wgt m t = wgt q t := by
  induction t with
  | bot => exact absurd (le_bot_iff.mp h) hm
  | top => rw [wgt_top, wgt_top, mul_zero]
  | coe z =>
    induction m with
    | bot => exact absurd rfl hm
    | top => exact absurd h (by simp)
    | coe y =>
      induction q with
      | bot => rw [wgt_bot, wgt_bot, zero_mul]
      | top => exact absurd hq (by simp)
      | coe x => rw [wgt_coe, wgt_coe, wgt_coe, ← Real.exp_add, sub_add_sub_cancel]

/-- A finite sum of real numbers, read in the extended reals. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

section Lane

variable (neg : ℝ) (p : ℕ → EReal)

/-- A lane's maximum over its first `n` logits, at least `neg`. -/
def runMax (n : ℕ) : EReal := max (neg : EReal) ((Finset.range n).sup p)

/-- A lane's sum of exponentials over its first `n` logits, at that maximum. -/
def runSum (n : ℕ) : ℝ := ∑ k ∈ Finset.range n, wgt (p k) (runMax neg p n)

theorem runMax_zero : runMax neg p 0 = neg := by simp [runMax]

theorem runSum_zero : runSum neg p 0 = 0 := by simp [runSum]

theorem runMax_succ (n : ℕ) : runMax neg p (n + 1) = max (runMax neg p n) (p n) := by
  unfold runMax
  rw [Finset.range_add_one, Finset.sup_insert, max_assoc, max_comm (p n)]

theorem runMax_ne_bot (n : ℕ) : runMax neg p n ≠ ⊥ :=
  ne_of_gt (lt_of_lt_of_le (EReal.bot_lt_coe neg) (le_max_left _ _))

theorem le_runMax {n k : ℕ} (h : k < n) : p k ≤ runMax neg p n :=
  le_max_of_le_right (Finset.le_sup (f := p) (Finset.mem_range.mpr h))

theorem runMax_mono {n n' : ℕ} (h : n ≤ n') : runMax neg p n ≤ runMax neg p n' :=
  max_le_max le_rfl (Finset.sup_mono (Finset.range_mono h))

/-- A lane's sum, moved to any larger maximum. -/
theorem runSum_mul (n : ℕ) (t : EReal) (h : runMax neg p n ≤ t) :
    runSum neg p n * wgt (runMax neg p n) t = ∑ k ∈ Finset.range n, wgt (p k) t := by
  unfold runSum
  rw [Finset.sum_mul]
  exact Finset.sum_congr rfl fun k hk =>
    wgt_mul _ _ _ h (le_runMax neg p (Finset.mem_range.mp hk)) (runMax_ne_bot neg p n)

/-- ONE STEP OF THE MAXIMUM: eight more logits. -/
theorem runMax_step (n : ℕ) :
    max (max (max (max (max (max (max (max (runMax neg p n) (p n)) (p (n + 1))) (p (n + 2))) (p (n + 3))) (p (n + 4))) (p (n + 5)))
      (p (n + 6))) (p (n + 7)) = runMax neg p (n + 8) := by
  simp only [← runMax_succ]

/-- ONE STEP OF THE SUM: the old sum rescaled to the new maximum, and eight more exponentials. -/
theorem runSum_step (n : ℕ) (m' : EReal) (hm : m' = runMax neg p (n + 8)) :
    (runSum neg p n : EReal) * Ideal.exp2 (runMax neg p n * scale - m' * scale)
      + Ideal.exp2 (p n * scale - m' * scale) + Ideal.exp2 (p (n + 1) * scale - m' * scale)
      + Ideal.exp2 (p (n + 2) * scale - m' * scale) + Ideal.exp2 (p (n + 3) * scale - m' * scale)
      + Ideal.exp2 (p (n + 4) * scale - m' * scale) + Ideal.exp2 (p (n + 5) * scale - m' * scale)
      + Ideal.exp2 (p (n + 6) * scale - m' * scale) + Ideal.exp2 (p (n + 7) * scale - m' * scale)
      = (runSum neg p (n + 8) : EReal) := by
  subst hm
  have hb := runMax_ne_bot neg p (n + 8)
  have e : ∀ k, k < n + 8 → Ideal.exp2 (p k * scale - runMax neg p (n + 8) * scale) = (wgt (p k) (runMax neg p (n + 8)) : EReal) :=
    fun k hk => exp2_sub _ _ (le_runMax neg p hk) hb
  have hmono : runMax neg p n ≤ runMax neg p (n + 8) := runMax_mono neg p (by omega)
  rw [exp2_sub _ _ hmono hb, ← EReal.coe_mul, runSum_mul neg p n _ hmono, e n (by omega), e (n + 1) (by omega), e (n + 2) (by omega),
    e (n + 3) (by omega), e (n + 4) (by omega), e (n + 5) (by omega), e (n + 6) (by omega), e (n + 7) (by omega)]
  unfold runSum
  simp only [Finset.sum_range_succ _ (n + 7), Finset.sum_range_succ _ (n + 6), Finset.sum_range_succ _ (n + 5),
    Finset.sum_range_succ _ (n + 4), Finset.sum_range_succ _ (n + 3), Finset.sum_range_succ _ (n + 2), Finset.sum_range_succ _ (n + 1),
    Finset.sum_range_succ _ n, EReal.coe_add]

end Lane

/-! ## The lanes together -/

/-- A row of `n * b` entries, summed lane by lane. -/
theorem sum_lanes {M : Type*} [AddCommMonoid M] (b n : ℕ) (f : ℕ → M) :
    ∑ a : Fin b, ∑ k ∈ Finset.range n, f (k * b + a.val) = ∑ v ∈ Finset.range (n * b), f v := by
  rw [Finset.sum_comm]
  induction n with
  | zero => simp
  | succ n ih =>
    rw [Finset.sum_range_succ, ih, Nat.succ_mul, Finset.sum_range_add, Finset.sum_range (fun x => f (n * b + x))]

/-- The largest of the lanes' maxima is the row's maximum, at least `neg`. -/
theorem sup_lanes (neg : ℝ) (b n : ℕ) (hb : 0 < b) (Q : ℕ → EReal) :
    Finset.univ.sup (fun a : Fin b => runMax neg (fun k => Q (k * b + a.val)) n) = max (neg : EReal) ((Finset.range (n * b)).sup Q) := by
  apply le_antisymm
  · refine Finset.sup_le fun a _ => max_le_max le_rfl (Finset.sup_le fun k hk => ?_)
    refine Finset.le_sup (f := Q) (Finset.mem_range.mpr ?_)
    have hk := Finset.mem_range.mp hk
    calc k * b + a.val < k * b + b := Nat.add_lt_add_left a.isLt _
      _ = (k + 1) * b := (Nat.succ_mul k b).symm
      _ ≤ n * b := Nat.mul_le_mul_right b hk
  · refine max_le ?_ (Finset.sup_le fun v hv => ?_)
    · exact (le_max_left _ _).trans (Finset.le_sup (f := fun a : Fin b => runMax neg (fun k => Q (k * b + a.val)) n) (Finset.mem_univ ⟨0, hb⟩))
    · have hv := Finset.mem_range.mp hv
      refine le_trans ?_ (Finset.le_sup (f := fun a : Fin b => runMax neg (fun k => Q (k * b + a.val)) n) (Finset.mem_univ ⟨v % b, Nat.mod_lt v hb⟩))
      have hk : v / b < n := Nat.div_lt_of_lt_mul (by rwa [mul_comm] at hv)
      have := le_runMax neg (fun k => Q (k * b + v % b)) hk
      rwa [Nat.div_add_mod' v b] at this

/-- The lanes' sums combined at a common maximum: the row's sum at that maximum. -/
theorem total_lanes (neg : ℝ) (b n : ℕ) (Q : ℕ → EReal) (top : EReal)
    (h : ∀ a : Fin b, runMax neg (fun k => Q (k * b + a.val)) n ≤ top) :
    ∑ a : Fin b, (runSum neg (fun k => Q (k * b + a.val)) n : EReal) * Ideal.exp2 ((runMax neg (fun k => Q (k * b + a.val)) n - top) * scale)
      = ((∑ v ∈ Finset.range (n * b), wgt (Q v) top : ℝ) : EReal) := by
  rw [← sum_lanes b n (fun v => wgt (Q v) top), coe_sum]
  refine Finset.sum_congr rfl fun a _ => ?_
  rw [exp2_sub_mul _ _ (h a) (runMax_ne_bot _ _ _), ← EReal.coe_mul, runSum_mul _ _ _ _ (h a)]

/-- The log-sum-exp does not depend on the maximum it is taken at: `max neg M` for any real `neg`, or `M` itself. -/
theorem log_sum_shift (neg : ℝ) (V : Finset ℕ) (Q : ℕ → EReal) :
    max (neg : EReal) (V.sup Q) + Ideal.log ((∑ v ∈ V, wgt (Q v) (max (neg : EReal) (V.sup Q)) : ℝ) : EReal)
      = Ideal.log ((∑ v ∈ V, wgt (Q v) (V.sup Q) : ℝ) : EReal) + V.sup Q := by
  have hle : ∀ v ∈ V, Q v ≤ V.sup Q := fun v hv => Finset.le_sup hv
  have log0 : Ideal.log ((0 : ℝ) : EReal) = ⊥ := by rw [Ideal.log_coe, if_pos le_rfl]
  rcases eq_or_ne (V.sup Q) ⊤ with hM | hM
  · have hs : max (neg : EReal) (V.sup Q) = ⊤ := by rw [hM]; exact max_eq_right le_top
    rw [hs, hM]
    simp only [wgt_top, Finset.sum_const_zero, log0, EReal.bot_add, EReal.add_bot]
  rcases eq_or_ne (V.sup Q) ⊥ with hB | hB
  · have hz : ∀ t, ∑ v ∈ V, wgt (Q v) t = 0 := fun t => Finset.sum_eq_zero fun v hv => by
      rw [le_bot_iff.mp ((hle v hv).trans_eq hB), wgt_bot]
    simp only [hz, log0, EReal.bot_add, EReal.add_bot]
  obtain ⟨x, hx⟩ : ∃ x : ℝ, V.sup Q = x := ⟨(V.sup Q).toReal, (EReal.coe_toReal hM hB).symm⟩
  obtain ⟨y, hy⟩ : ∃ y : ℝ, max (neg : EReal) (V.sup Q) = y := ⟨max neg x, by rw [hx]; exact (EReal.coe_strictMono.monotone.map_max).symm⟩
  have hxy : (x : EReal) ≤ y := by rw [← hx, ← hy]; exact le_max_right _ _
  have hsum : ∑ v ∈ V, wgt (Q v) y = (∑ v ∈ V, wgt (Q v) x) * Real.exp (x - y) := by
    rw [Finset.sum_mul]
    refine Finset.sum_congr rfl fun v hv => ?_
    rw [← wgt_coe, wgt_mul _ _ _ hxy (hx ▸ hle v hv) (EReal.coe_ne_bot x)]
  have hne : V.Nonempty := by
    rw [Finset.nonempty_iff_ne_empty]
    rintro rfl
    exact hB Finset.sup_empty
  have hpos : 0 < ∑ v ∈ V, wgt (Q v) x := by
    obtain ⟨v, hv, he⟩ := Finset.exists_mem_eq_sup V hne Q
    refine lt_of_lt_of_le ?_ (Finset.single_le_sum (f := fun v => wgt (Q v) x) (fun v _ => wgt_nonneg _ _) hv)
    rw [← he, hx, wgt_coe]
    exact Real.exp_pos _
  rw [hy, hx, hsum, Ideal.log_coe, Ideal.log_coe, if_neg (not_le.mpr hpos), if_neg (not_le.mpr (mul_pos hpos (Real.exp_pos _))),
    Real.log_mul hpos.ne' (Real.exp_pos _).ne', Real.log_exp, ← EReal.coe_add, ← EReal.coe_add]
  congr 1
  ring

/-- THE ROW: the lanes' maxima and sums, combined as the kernel combines them, give the log-sum-exp at the row's maximum. -/
theorem lse_eq (neg : ℝ) (b n : ℕ) (hb : 0 < b) (Q : ℕ → EReal) (m : Fin b → EReal) (l : Fin b → EReal)
    (hm : ∀ a, m a = runMax neg (fun k => Q (k * b + a.val)) n) (hl : ∀ a, l a = (runSum neg (fun k => Q (k * b + a.val)) n : EReal)) :
    Finset.univ.sup m + Ideal.log (∑ a, l a * Ideal.exp2 ((m a - Finset.univ.sup m) * scale))
      = Ideal.log (∑ v ∈ Finset.range (n * b), Ideal.exp (Q v - (Finset.range (n * b)).sup Q)) + (Finset.range (n * b)).sup Q := by
  obtain rfl : m = _ := funext hm
  obtain rfl : l = _ := funext hl
  rw [total_lanes neg b n Q _ (fun a => Finset.le_sup (f := fun a : Fin b => runMax neg (fun k => Q (k * b + a.val)) n) (Finset.mem_univ a)),
    sup_lanes neg b n hb Q, log_sum_shift, coe_sum]
  congr 2
  exact Finset.sum_congr rfl fun v hv => (exp_sub _ _ (Finset.le_sup (f := Q) hv)).symm

end Cert.Lse

end
-- ==== Proof.Step.lean ====
/-
  ONE GRID STEP OF THE HEAD KERNEL, READ AT A ROW AND A LANE over the extended reals.

  Lane `a` of a row owns the vocabulary columns `k * 128 + a`. When the arrays a step finds hold, at that lane, the
  running maximum, sum and target logit of the lane's first `n` logits (Lse.lean), the arrays it leaves hold those of
  its first `n + 8`.
-/
module

public import proofs.«01_k».proof.Proof.Cases
public import proofs.«01_k».proof.Proof.Lse
public import Idealize.ShloMosaic.Lib.Pointwise
public import Idealize.ShloMosaic.PureOps.Ideal.Laws
public import Idealize.ShloMosaic.PureOps.IdealRules

@[expose] public section

noncomputable section

namespace Cert.HeadIdeal.Step

open Cert.HeadIdeal Cert.HeadIdeal.Gen Cert.HeadIdeal.Cases Idealize.ShloMosaic Idealize.ShloMosaic.TcCoe Idealize.SL.Sem
open Cert.Lse

variable (i : grid0.Coords) (h : Vec Ideal S1024x2048 .fp8e4m3) (hs : Vec Ideal S1024x1 .f32) (w : Vec Ideal S1024x2048 .fp8e4m3) (se : Vec Ideal S1x1024 .f32) (tg : Vec Ideal S1024x1 .i32)
  (m l z : FVec Ideal S1024x128 .f32)

/-- The kernel's constant `log2e` is the real number `1 / log 2`. -/
theorem log2e_eq : (Named.named κ "log2e" 0x3FB8AA3B#32 : Ideal .f32) = scale :=
  IdealRules.named_const.ideal_named_scalar _ _ _ _ rfl

/-- The logit of a row and a column of the step's blocks: the dot product, times the row's scale, times the column's. -/
theorem logit_eq (r v : Fin 1024) :
    k0_pay8 h w hs se (ix2 r v) = (∑ k : Fin 2048, h (ix2 r k) * w (ix2 v k)) * hs (ix2 r 0) * se (ix2 0 v) := by
  pointwise [k0_pay8]

/-- THE RUNNING MAXIMUM after a step. -/
theorem mNew_eq (r : Fin 1024) (a : Fin 128) (neg : ℝ) (p : ℕ → EReal) (n : ℕ)
    (hp : ∀ (v : Fin 1024) (c : ℕ), v.val = c * 128 + a.val → k0_pay8 h w hs se (ix2 r v) = p (n + c))
    (hm : m (ix2 r a) = runMax neg p n) :
    mNew h hs w se m (ix2 r a) = runMax neg p (n + 8) := by
  pointwise [mNew, k0_pay21, k0_pay12, k0_pay13, k0_pay14, k0_pay15, k0_pay16, k0_pay17, k0_pay19, k0_pay10, k0_pay11]
  rw [hm, hp _ 0 (by simp), hp _ 1 (by simp), hp _ 2 (by simp), hp _ 3 (by simp), hp _ 4 (by simp), hp _ 5 (by simp), hp _ 6 (by simp),
    hp _ 7 (by simp), ← runMax_step]
  rfl

/-- THE RUNNING SUM after a step. -/
theorem lNew_eq (r : Fin 1024) (a : Fin 128) (neg : ℝ) (p : ℕ → EReal) (n : ℕ)
    (hp : ∀ (v : Fin 1024) (c : ℕ), v.val = c * 128 + a.val → k0_pay8 h w hs se (ix2 r v) = p (n + c))
    (hm : m (ix2 r a) = runMax neg p n) (hl : l (ix2 r a) = (runSum neg p n : EReal)) :
    lNew h hs w se m l (ix2 r a) = (runSum neg p (n + 8) : EReal) := by
  rw [← runSum_step neg p n _ rfl, ← runMax_step]
  pointwise [lNew, k0_pay26, k0_pay23, k0_pay24, k0_pay25, k0_pay21, k0_pay12, k0_pay13, k0_pay14, k0_pay15, k0_pay16, k0_pay17, k0_pay19, k0_pay10, k0_pay11]
  rw [hm, hl, log2e_eq, hp _ 0 (by simp), hp _ 1 (by simp), hp _ 2 (by simp), hp _ 3 (by simp), hp _ 4 (by simp), hp _ 5 (by simp), hp _ 6 (by simp),
    hp _ 7 (by simp)]
  rfl

/-- A lane's share of the target's logit after its first `n` logits: the target's logit if the lane has met it, else zero. -/
def pick (p : ℕ → EReal) (t a n : ℕ) : EReal := if t % 128 = a ∧ t / 128 < n then p (t / 128) else 0

/-- One more logit: it replaces the lane's share exactly where it is the target's. -/
theorem pick_succ (p : ℕ → EReal) (t a n : ℕ) (b : BitVec 1) (hb : b = 1#1 ↔ t % 128 = a ∧ t / 128 = n) :
    Scalar.select b (p n) (pick p t a n) = pick p t a (n + 1) := by
  unfold pick
  show (if b = 1#1 then p n else _) = _
  by_cases h1 : b = 1#1
  · obtain ⟨ha, hn⟩ := hb.mp h1
    rw [if_pos h1, if_pos ⟨ha, by omega⟩, hn]
  · have h2 := fun h => h1 (hb.mpr h)
    rw [if_neg h1]
    by_cases h3 : t % 128 = a ∧ t / 128 < n
    · rw [if_pos h3, if_pos ⟨h3.1, by omega⟩]
    · rw [if_neg h3, if_neg (fun h => by
        by_cases h4 : t / 128 = n
        · exact h2 ⟨h.1, h4⟩
        · exact h3 ⟨h.1, by omega⟩)]

/-- The kernel's comparison of words says that lane `a`'s logit number `8 j + c` is the target's. -/
theorem hit_iff (T k : BitVec 32) (j a c : ℕ) (hT : T.toNat < 49152) (hj : j < 48) (ha : a < 128) (hc : c < 8) (hk : k.toNat = 128 * c) :
    IntOp.cmpi .eq (IntOp.subi T (Scalar.muli (BitVec.ofNat 32 j) 1024#32)) (IntOp.addi (BitVec.ofNat 32 a) k) = 1#1
      ↔ T.toNat % 128 = a ∧ T.toNat / 128 = 8 * j + c := by
  rw [IntOp.cmpi_eq, ← BitVec.toNat_inj]
  show (T - BitVec.ofNat 32 j * 1024#32).toNat = (BitVec.ofNat 32 a + k).toNat ↔ _
  rw [BitVec.toNat_sub, BitVec.toNat_mul, BitVec.toNat_add, BitVec.toNat_ofNat, BitVec.toNat_ofNat, BitVec.toNat_ofNat, hk]
  omega

/-- THE TARGET'S LOGIT after a step, the step's columns being numbers `8 j` to `8 j + 7` of each lane. -/
theorem zNew_eq (r : Fin 1024) (a : Fin 128) (p : ℕ → EReal) (j : ℕ) (hi : (i 1).val = j) (hj : j < 48)
    (hp : ∀ (v : Fin 1024) (c : ℕ), v.val = c * 128 + a.val → k0_pay8 h w hs se (ix2 r v) = p (8 * j + c))
    (ht : (tg (ix2 r 0)).toNat < 49152) (hz : z (ix2 r a) = pick p (tg (ix2 r 0)).toNat a.val (8 * j)) :
    zNew i h hs w se tg z (ix2 r a) = pick p (tg (ix2 r 0)).toNat a.val (8 * j + 8) := by
  pointwise [zNew, k0_pay22, k0_pay9, k0_pay18, k0_pay20, k0_pay12, k0_pay13, k0_pay14, k0_pay15, k0_pay16, k0_pay17, k0_pay19, k0_pay10, k0_pay11]
  rw [hi, hz, hp ⟨a.val, by omega⟩ 0 (by simp), hp ⟨128 + a.val, by omega⟩ 1 (by simp), hp ⟨256 + a.val, by omega⟩ 2 (by simp),
    hp ⟨384 + a.val, by omega⟩ 3 (by simp), hp ⟨512 + a.val, by omega⟩ 4 (by simp), hp ⟨640 + a.val, by omega⟩ 5 (by simp),
    hp ⟨768 + a.val, by omega⟩ 6 (by simp), hp ⟨896 + a.val, by omega⟩ 7 (by simp)]
  have hit := fun (k : BitVec 32) (c : ℕ) (hc : c < 8) => hit_iff (tg (ix2 r 0)) k j a.val c ht hj a.isLt hc
  rw [Nat.add_zero (8 * j), pick_succ p _ _ (8 * j) _ (hit 0#32 0 (by decide) rfl),
    pick_succ p _ _ (8 * j + 1) _ (hit 128#32 1 (by decide) rfl), pick_succ p _ _ (8 * j + 2) _ (hit 256#32 2 (by decide) rfl),
    pick_succ p _ _ (8 * j + 3) _ (hit 384#32 3 (by decide) rfl), pick_succ p _ _ (8 * j + 4) _ (hit 512#32 4 (by decide) rfl),
    pick_succ p _ _ (8 * j + 5) _ (hit 640#32 5 (by decide) rfl), pick_succ p _ _ (8 * j + 6) _ (hit 768#32 6 (by decide) rfl),
    pick_succ p _ _ (8 * j + 7) _ (hit 896#32 7 (by decide) rfl)]

/-- The floor of the running maximum is a real number. -/
theorem floor_real : ∃ neg : ℝ, (Ideal.ofBits .f32 0xF149F2CA#32 : EReal) = neg := ⟨_, rfl⟩

/-- The first result's block from the carried arrays: the lanes' maxima and sums combined, minus the constant. -/
theorem lse_eq (r : Fin 1024) :
    k0_pay3 m l (ix2 r 0) = Finset.univ.sup (fun a : Fin 128 => m (ix2 r a))
        + Ideal.log (∑ a : Fin 128, l (ix2 r a) * Ideal.exp2 ((m (ix2 r a) - Finset.univ.sup (fun a : Fin 128 => m (ix2 r a))) * scale))
        - Ideal.ofBits .f32 0x412CD7BF#32 := by
  pointwise [k0_pay3, k0_pay2]
  rw [log2e_eq]
  rfl

/-- The second result's block: the target's logit minus the same log-sum-exp, plus the constant. -/
theorem logprob_eq (r : Fin 1024) :
    k0_pay4 m z l (ix2 r 0) = (∑ a : Fin 128, z (ix2 r a)) - (Finset.univ.sup (fun a : Fin 128 => m (ix2 r a))
        + Ideal.log (∑ a : Fin 128, l (ix2 r a) * Ideal.exp2 ((m (ix2 r a) - Finset.univ.sup (fun a : Fin 128 => m (ix2 r a))) * scale)))
        + Ideal.ofBits .f32 0x412CD7BF#32 := by
  pointwise [k0_pay4, k0_pay2]
  rw [log2e_eq]
  rfl

end Cert.HeadIdeal.Step

end
-- ==== Proof.Blocks.lean ====
/- The blocks a grid point is given, read at an index. Grid point `t` is column step `t % 48` of row block `t / 48`:
   its hidden rows, their scales and targets are the rows `t / 48 * 1024 + r`, its embedding rows and their scales the
   words `t % 48 * 1024 + v`. -/
module

public import proofs.«01_k».proof.Proof.Gen.HeadIdeal.Value
public import Idealize.ShloMosaic.Lib.Pipeline.ValueKit
public import Idealize.ShloMosaic.Lib.Pointwise
public import Idealize.ShloMosaic.Lib.Claim

@[expose] public section

noncomputable section

namespace Cert.HeadIdeal.Blocks

open Cert.HeadIdeal Cert.HeadIdeal.Gen Idealize.ShloMosaic Idealize.ShloMosaic.TcCoe

variable (m : (ℓ : Loc nD τ sig) → Buf (Elt Ideal) ℓ) (c : Dev nD) (t : Fin cfg0.N)

/-- The block each input window shows at a grid point. -/
theorem idx : ∀ t : Fin cfg0.N, win0_0.index t = ![t.val / 48, 0] ∧ win0_1.index t = ![t.val / 48, 0] ∧ win0_2.index t = ![t.val % 48, 0]
    ∧ win0_3.index t = ![0, t.val % 48] ∧ win0_4.index t = ![t.val / 48, 0] := by decide +kernel

/-- The column step of a grid point. -/
theorem step_eq : ∀ t : Fin cfg0.N, (grid0.coords t 1).val = t.val % 48 := by decide +kernel

theorem row_lt (r : Fin 1024) : t.val / 48 * 1024 + r.val < 24576 := by have := lt_of_lt_of_eq t.isLt N_0; omega
theorem col_lt (v : Fin 1024) : t.val % 48 * 1024 + v.val < 49152 := by omega

/-- The array row of a block row. -/
abbrev row (r : Fin 1024) : Fin 24576 := ⟨t.val / 48 * 1024 + r.val, row_lt t r⟩
/-- The word of a block column. -/
abbrev col (v : Fin 1024) : Fin 49152 := ⟨t.val % 48 * 1024 + v.val, col_lt t v⟩

theorem codes_eq (r : Fin 1024) (k : Fin 2048) : iblk m c 0 t (ix2 r k) = m ((c.tc : Thread nD τ).loc main_arg0) (ix2 (row t r) k) := by
  blk_ext! [iblk, V, (idx t).1]
theorem scale_eq (r : Fin 1024) : iblk m c 1 t (ix2 r 0) = m ((c.tc : Thread nD τ).loc main_arg1) (ix2 (row t r) 0) := by
  blk_ext! [iblk, V, (idx t).2.1]
theorem emb_eq (v : Fin 1024) (k : Fin 2048) : iblk m c 2 t (ix2 v k) = m ((c.tc : Thread nD τ).loc main_arg2) (ix2 (col t v) k) := by
  blk_ext! [iblk, V, (idx t).2.2.1]
theorem embScale_eq (v : Fin 1024) : iblk m c 3 t (ix2 0 v) = m ((c.tc : Thread nD τ).loc main_arg3) (ix1 (col t v)) := by
  blk_ext! [iblk, V, (idx t).2.2.2.1]
theorem target_eq (r : Fin 1024) : iblk m c 4 t (ix2 r 0) = m ((c.tc : Thread nD τ).loc main_arg4) (ix1 (row t r)) := by
  blk_ext! [iblk, V, (idx t).2.2.2.2]

end Cert.HeadIdeal.Blocks

end
-- ==== Proof.Spec.lean ====
/- What both programs compute, in the arrays' own terms: the logits of a row, their log-sum-exp, and the two results. -/
module

public import proofs.«01_k».proof.Proof.Lse

@[expose] public section

noncomputable section

namespace Cert.Spec

open Idealize.ShloMosaic

variable (H : Fin 24576 → Fin 2048 → EReal) (hs : Fin 24576 → EReal) (W : Fin 49152 → Fin 2048 → EReal) (se : Fin 49152 → EReal)

/-- The logit of row `r` and word `v`: the dot product of their codes times their two scales (zero past the vocabulary). -/
def logit (r : Fin 24576) (v : ℕ) : EReal := if h : v < 49152 then (∑ k : Fin 2048, H r k * W ⟨v, h⟩ k) * hs r * se ⟨v, h⟩ else 0

theorem logit_fin (r : Fin 24576) (v : Fin 49152) : logit H hs W se r v.val = (∑ k : Fin 2048, H r k * W v k) * hs r * se v :=
  dif_pos v.isLt

/-- The log-sum-exp of the 49152 logits `Q`, shifted by their maximum. -/
def lse (Q : ℕ → EReal) : EReal :=
  Ideal.log (∑ v ∈ Finset.range 49152, Ideal.exp (Q v - (Finset.range 49152).sup Q)) + (Finset.range 49152).sup Q

/-- The first result of a row: the log-sum-exp less the constant `log 49152`. -/
def out1 (Q : ℕ → EReal) : EReal := lse Q - Ideal.ofBits .f32 0x412CD7BF#32

/-- The second result of a row with target `t`: the target's logit less the log-sum-exp, plus the constant. -/
def out2 (Q : ℕ → EReal) (t : ℕ) : EReal := Q t - lse Q + Ideal.ofBits .f32 0x412CD7BF#32

end Cert.Spec

end
-- ==== Proof.Walk.lean ====
/- THE HEAD KERNEL'S TWO RESULTS. Along the 48 column steps of a row block the three carried arrays hold, at row `r` and
   lane `a`, the running maximum, sum and target logit of the lane's logits met so far; after the last step they hold
   those of all 384, and the two results written there are the row's log-sum-exp and log probability. -/
module

public import proofs.«01_k».proof.Proof.Step
public import proofs.«01_k».proof.Proof.Blocks
public import proofs.«01_k».proof.Proof.Spec

@[expose] public section

noncomputable section

namespace Cert.HeadIdeal.Walk

open Cert.HeadIdeal Cert.HeadIdeal.Gen Cert.HeadIdeal.Cases Cert.HeadIdeal.Blocks Idealize.ShloMosaic Idealize.ShloMosaic.TcCoe
open Cert.Lse Cert.Spec

variable (m : (ℓ : Loc nD τ sig) → Buf (Elt Ideal) ℓ) (c : Dev nD)

/-- The logits of row `R` of the launch arrays. -/
def Q (R : Fin 24576) : ℕ → EReal :=
  logit (fun r k => m ((c.tc : Thread nD τ).loc main_arg0) (ix2 r k)) (fun r => m ((c.tc : Thread nD τ).loc main_arg1) (ix2 r 0))
    (fun v k => m ((c.tc : Thread nD τ).loc main_arg2) (ix2 v k)) (fun v => m ((c.tc : Thread nD τ).loc main_arg3) (ix1 v)) R

/-- The target of row `R`, as a number. -/
def T (R : Fin 24576) : ℕ := BitVec.toNat (w := 32) (m ((c.tc : Thread nD τ).loc main_arg4) (ix1 R))

/-- The logits lane `a` of row `R` meets, in order. -/
def lane (R : Fin 24576) (a : Fin 128) (k : ℕ) : EReal := Q m c R (k * 128 + a.val)

/-- A block's logits are the row's, in the order of the lanes. -/
theorem logit_lane (t : Fin cfg0.N) (r v : Fin 1024) (a : Fin 128) (k : ℕ) (hv : v.val = k * 128 + a.val) :
    k0_pay8 (iblk m c 0 t) (iblk m c 2 t) (iblk m c 1 t) (iblk m c 3 t) (ix2 r v) = lane m c (row t r) a (8 * (t.val % 48) + k) := by
  have e : (8 * (t.val % 48) + k) * 128 + a.val = (col t v).val := by show _ = t.val % 48 * 1024 + v.val; omega
  unfold lane Q
  rw [e, logit_fin, Step.logit_eq, scale_eq, embScale_eq]
  simp only [codes_eq, emb_eq]

/-- The floor the running maximum starts from. -/
def floor : ℝ := Step.floor_real.choose

/-- The carried arrays `s` hold, at every row (`R r` of the arrays) and lane, the running values of the lane's first `n` logits. -/
def Holds (R : Fin 1024 → Fin 24576) (n : ℕ) (s : Vec Ideal S1024x128 .f32 × Vec Ideal S1024x128 .f32 × Vec Ideal S1024x128 .f32) : Prop :=
  ∀ (r : Fin 1024) (a : Fin 128), s.1 (ix2 r a) = runMax floor (lane m c (R r) a) n
    ∧ s.2.1 (ix2 r a) = (runSum floor (lane m c (R r) a) n : EReal)
    ∧ (T m c (R r) < 49152 → s.2.2 (ix2 r a) = Step.pick (lane m c (R r) a) (T m c (R r)) a.val n)

/-- At the start they hold the values of no logits. -/
theorem start_holds (R : Fin 1024 → Fin 24576) : Holds m c R 0 start := by
  intro r a
  refine ⟨?_, ?_, fun _ => ?_⟩
  · rw [runMax_zero]
    exact Step.floor_real.choose_spec
  · rw [runSum_zero]
    show k0_pay6 (F := Ideal) (ix2 r a) = _
    pointwise [k0_pay6]
    simp
  · show k0_pay7 (F := Ideal) (ix2 r a) = _
    pointwise [k0_pay7]
    simp [Step.pick]

/-- A step takes in the eight logits of its columns. -/
theorem carried_holds (t : Fin cfg0.N) (s : Vec Ideal S1024x128 .f32 × Vec Ideal S1024x128 .f32 × Vec Ideal S1024x128 .f32)
    (h : Holds m c (row t) (8 * (t.val % 48)) s) : Holds m c (row t) (8 * (t.val % 48) + 8) (carried c m t s) := by
  intro r a
  obtain ⟨hm, hl, hz⟩ := h r a
  have hp := fun v k hv => logit_lane m c t r v a k hv
  refine ⟨?_, ?_, fun hT => ?_⟩
  · rw [carried_max]
    exact Step.mNew_eq _ _ _ _ _ r a floor _ _ hp hm
  · rw [carried_sum]
    exact Step.lNew_eq _ _ _ _ _ _ r a floor _ _ hp hm hl
  · rw [carried_target]
    have ht : BitVec.toNat (w := 32) (iblk m c 4 t (ix2 r 0)) = T m c (row t r) := by rw [target_eq]; rfl
    have e := Step.zNew_eq (grid0.coords t) (iblk m c 0 t) (iblk m c 1 t) (iblk m c 2 t) (iblk m c 3 t) (iblk m c 4 t) s.2.2 r a _ _ (step_eq t)
      (Nat.mod_lt _ (by decide)) hp
    rw [ht] at e
    exact e hT (hz hT)

/-- After grid point `n` the carried arrays hold the values of the logits its row block has met. -/
theorem walk : ∀ (n : ℕ) (hn : n < cfg0.N), Holds m c (row ⟨n, hn⟩) (8 * (n % 48) + 8) (outsAt0 m c n hn).2.2 := by
  intro n
  induction n with
  | zero =>
    intro hn
    rw [Value.outsAt0_zero, carried_first c m ⟨0, hn⟩ _ rfl]
    exact carried_holds m c ⟨0, hn⟩ _ (start_holds m c _)
  | succ n ih =>
    intro hn
    have hn' := Nat.lt_of_succ_lt hn
    rw [Value.outsAt0_succ]
    by_cases h0 : (n + 1) % 48 = 0
    · rw [carried_first c m ⟨n + 1, hn⟩ _ h0]
      refine carried_holds m c ⟨n + 1, hn⟩ _ ?_
      show Holds m c _ (8 * ((n + 1) % 48)) _
      rw [h0]
      exact start_holds m c _
    · rw [carried_next c m ⟨n + 1, hn⟩ _ h0]
      refine carried_holds m c ⟨n + 1, hn⟩ _ ?_
      have e1 : row ⟨n + 1, hn⟩ = row ⟨n, hn'⟩ := by
        funext r
        apply Fin.ext
        show (n + 1) / 48 * 1024 + r.val = n / 48 * 1024 + r.val
        omega
      have e2 : 8 * ((n + 1) % 48) = 8 * (n % 48) + 8 := by omega
      show Holds m c _ (8 * ((n + 1) % 48)) _
      rw [e1, e2]
      exact ih hn'

/-- The lanes' shares of the target's logit add up to it. -/
theorem target_sum (R : Fin 24576) (hT : T m c R < 49152) :
    (∑ a : Fin 128, Step.pick (lane m c R a) (T m c R) a.val 384) = Q m c R (T m c R) := by
  rw [Finset.sum_eq_single (⟨T m c R % 128, Nat.mod_lt _ (by decide)⟩ : Fin 128)]
  · unfold Step.pick lane
    rw [if_pos ⟨rfl, by omega⟩]
    congr 1
    show T m c R / 128 * 128 + T m c R % 128 = _
    omega
  · intro a _ ha
    unfold Step.pick
    rw [if_neg]
    rintro ⟨h, -⟩
    exact ha (Fin.ext h.symm)
  · intro h
    exact absurd (Finset.mem_univ _) h

/-- What the last column step of a row block writes: the rows' results. -/
theorem last (n : ℕ) (hn : n < cfg0.N) (h1 : n % 48 = 47) (r : Fin 1024) :
    (outsAt0 m c n hn).1 (ix2 r 0) = out1 (Q m c (row ⟨n, hn⟩ r))
    ∧ (T m c (row ⟨n, hn⟩ r) < 49152 → (outsAt0 m c n hn).2.1 (ix2 r 0) = out2 (Q m c (row ⟨n, hn⟩ r)) (T m c (row ⟨n, hn⟩ r))) := by
  have hw := walk m c n hn r
  rw [h1] at hw
  obtain ⟨acc, hacc⟩ : ∃ acc, outsAt0 m c n hn = Value.stAt0 m c n hn acc := by
    cases n with
    | zero => exact ⟨_, Value.outsAt0_zero m c hn⟩
    | succ n => exact ⟨_, Value.outsAt0_succ m c n hn⟩
  obtain ⟨r1, r2⟩ := results_last c m ⟨n, hn⟩ acc h1
  have hc := carried_next c m ⟨n, hn⟩ acc (by show ¬n % 48 = 0; omega)
  rw [← hc] at r1 r2
  rw [← hacc] at r1 r2
  have hl := Cert.Lse.lse_eq floor 128 384 (by decide) (Q m c (row ⟨n, hn⟩ r)) _ _ (fun a => (hw a).1) (fun a => (hw a).2.1)
  rw [show 384 * 128 = 49152 from rfl] at hl
  refine ⟨?_, fun hT => ?_⟩
  · rw [r1, Step.lse_eq, hl]
    rfl
  · rw [r2, Step.logprob_eq, hl, Finset.sum_congr rfl (fun a _ => (hw a).2.2 hT), target_sum m c _ hT]
    rfl

/-- The row a grid point's block row is, when the point is the last of the row's block. -/
theorem row_last (R : Fin 24576) (n : ℕ) (hn : n < cfg0.N) (e : n = 48 * (R.val / 1024) + 47) :
    row ⟨n, hn⟩ ⟨R.val % 1024, Nat.mod_lt _ (by decide)⟩ = R := by
  apply Fin.ext
  show n / 48 * 1024 + R.val % 1024 = R.val
  omega

theorem point_lt (R : Fin 24576) : 48 * (1 * (R.val / 1024 - 0) + 1 * (0 / 1 - 0)) + 47 < cfg0.N := by
  refine lt_of_lt_of_eq ?_ (show cfg0.N = 1152 from N_0).symm
  omega

/-- THE FIRST RESULT ARRAY: every row's log-sum-exp. -/
theorem G5_eq (R : Fin 24576) : Value.G5 m c (ix2 R 0) = out1 (Q m c R) := by
  have hp : Value.pt5Of (ix2 R 0) < cfg0.N := point_lt R
  unfold Value.G5
  rw [dif_pos hp, ← Value.outsAt0_sweep m c _ hp]
  have hl : Value.loc5Of (ix2 R 0) = ix2 ⟨R.val % 1024, Nat.mod_lt _ (by decide)⟩ 0 := by
    funext a
    fin_cases a <;> rfl
  have hm : Value.pt5Of (ix2 R 0) = 48 * (R.val / 1024) + 47 := by
    show 48 * (1 * (R.val / 1024 - 0) + 1 * (0 / 1 - 0)) + 47 = _
    omega
  rw [hl, (last m c _ hp (by rw [hm]; omega) _).1, row_last R _ hp hm]

/-- THE SECOND RESULT ARRAY: every row's log probability, its target being a word. -/
theorem G6_eq (R : Fin 24576) (hT : T m c R < 49152) : Value.G6 m c (ix2 R 0) = out2 (Q m c R) (T m c R) := by
  have hp : Value.pt6Of (ix2 R 0) < cfg0.N := point_lt R
  unfold Value.G6
  rw [dif_pos hp, ← Value.outsAt0_sweep m c _ hp]
  have hl : Value.loc6Of (ix2 R 0) = ix2 ⟨R.val % 1024, Nat.mod_lt _ (by decide)⟩ 0 := by
    funext a
    fin_cases a <;> rfl
  have hm : Value.pt6Of (ix2 R 0) = 48 * (R.val / 1024) + 47 := by
    show 48 * (1 * (R.val / 1024 - 0) + 1 * (0 / 1 - 0)) + 47 = _
    omega
  have hrow := row_last R _ hp hm
  rw [hl, (last m c _ hp (by rw [hm]; omega) _).2 (by rw [hrow]; exact hT), hrow]

end Cert.HeadIdeal.Walk

end
-- ==== Proof.Ref.lean ====
/- THE REFERENCE'S TWO RESULTS, read at a row: the log-sum-exp and the log probability of its logits. -/
module

public import proofs.«01_k».proof.Proof.Gen.HeadRefIdeal.Run
public import proofs.«01_k».proof.Proof.Gen.HeadRefIdeal.Read
public import proofs.«01_k».proof.Proof.Spec
public import Idealize.ShloMosaic.Lib.Pipeline.ValueKit
public import Idealize.ShloMosaic.Lib.Pointwise

@[expose] public section

noncomputable section

namespace Cert.HeadRefIdeal.Ref

open Cert.HeadRefIdeal Cert.HeadRefIdeal.Gen Cert.HeadRefIdeal.Read Idealize.ShloMosaic Idealize.ShloMosaic.TcCoe
open Cert.Spec

section Region

variable (m : (ℓ : Loc nD τ sig) → Buf (Elt Ideal) ℓ) (c : Dev nD)

/-- The array of all dot products of the two arrays of codes. -/
def dots (H : S24576x2048.Idx → EReal) (W : S49152x2048.Idx → EReal) : S24576x49152.Idx → EReal :=
  fun i => ∑ k : Fin 2048, H (ix2 (i 0) k) * W (ix2 (i 1) k)

theorem pay_eq (H : Vec Ideal S24576x2048 .fp8e4m3) (W : Vec Ideal S49152x2048 .fp8e4m3) : k0_pay1 (F := Ideal) H W = dots H W := by
  funext j
  obtain ⟨r, v, rfl⟩ : ∃ r v, j = ix2 r v := ⟨j 0, j 1, eq_ix2 j⟩
  pointwise [k0_pay1]
  rfl

/-- What the kernel that computes the products leaves: every row's dot product with every word. -/
theorem dots_eq : Value.reg_main_v0 m c = dots (m ((c.tc : Thread nD τ).loc main_arg0)) (m ((c.tc : Thread nD τ).loc main_arg2)) := by
  refine (dats m 0 c).arrAt_eq_of_after_last 2 t0_0 (by decide +kernel)
    (dots (m ((c.tc : Thread nD τ).loc main_arg0)) (m ((c.tc : Thread nD τ).loc main_arg2))) (fun j => ?_) (Memref.isWhole_whole _)
  blk_simp
  rw [after0_2]
  frame_out
  rw [pay_eq]
  have e0 : iblk m c 0 t0_0 = m ((c.tc : Thread nD τ).loc main_arg0) := by
    funext i
    blk_ext! [iblk, V, show win0_0.index t0_0 = ![0, 0] by decide]
  have e1 : iblk m c 1 t0_0 = m ((c.tc : Thread nD τ).loc main_arg2) := by
    funext i
    blk_ext! [iblk, V, show win0_1.index t0_0 = ![0, 0] by decide]
  rw [e0, e1]

end Region

variable (x1 : (⟨S24576x1, .f32⟩ : BufTy).Contents (Elt Ideal)) (x3 : (⟨S49152, .f32⟩ : BufTy).Contents (Elt Ideal))
  (x4 : (⟨S24576, .i32⟩ : BufTy).Contents (Elt Ideal)) (H : S24576x2048.Idx → EReal) (W : S49152x2048.Idx → EReal)

/-- The logits of row `r`. -/
def Q (r : Fin 24576) : ℕ → EReal :=
  logit (fun r k => H (ix2 r k)) (fun r => x1 (ix2 r 0)) (fun v k => W (ix2 v k)) (fun v => x3 (ix1 v)) r

/-- The scaled logits. -/
theorem logits_eq (r : Fin 24576) (v : Fin 49152) : val_main_v5 (F := Ideal) x1 x3 (dots H W) (ix2 r v) = Q x1 x3 H W r v.val := by
  unfold Q
  rw [logit_fin]
  pointwise [val_main_v5, val_main_v4, val_main_v3, val_main_v2, val_main_v1]
  rfl

/-- A maximum over the vocabulary is one over its numbers. -/
theorem sup_fin (n : ℕ) (f : ℕ → EReal) : Finset.univ.sup (fun v : Fin n => f v.val) = (Finset.range n).sup f := by
  apply le_antisymm
  · exact Finset.sup_le fun v _ => Finset.le_sup (f := f) (Finset.mem_range.mpr v.isLt)
  · exact Finset.sup_le fun v hv => Finset.le_sup (f := fun v : Fin n => f v.val) (Finset.mem_univ ⟨v, Finset.mem_range.mp hv⟩)

/-- The maximum of a row's logits. -/
theorem max_eq (r : Fin 24576) : val_main_v6 (F := Ideal) x1 x3 (dots H W) (ix1 r) = (Finset.range 49152).sup (Q x1 x3 H W r) := by
  rw [← sup_fin]
  pointwise [val_main_v6]
  simp only [logits_eq]
  rfl

/-- The log-sum-exp of a row. -/
theorem lse_eq (r : Fin 24576) : val_main_v13 (F := Ideal) x1 x3 (dots H W) (ix1 r) = lse (Q x1 x3 H W r) := by
  pointwise [val_main_v13, val_main_v12, val_main_v11, val_main_v10, val_main_v9, val_main_v8, val_main_v7]
  simp only [logits_eq, max_eq]
  unfold lse
  rw [Finset.sum_range]
  show Ideal.log (Ideal.ofBits .f32 0x00000000#32 + _) + _ = _
  simp

/-- A target that is a word's number is not negative as a signed word. -/
theorem not_neg (t : BitVec 32) (ht : t.toNat < 49152) : IntOp.cmpi .slt t 0#32 = 0#1 ∧ IntOp.cmpi .sge t 0#32 = 1#1 ∧ IntOp.cmpi .sle t 49151#32 = 1#1 := by
  have e : t.toInt = t.toNat := BitVec.toInt_eq_toNat_of_lt (by omega)
  refine ⟨?_, ?_, ?_⟩
  · refine (BitVec.eq_zero_or_eq_one _).resolve_right fun h => ?_
    have h' := IntOp.cmpi_slt.mp h
    rw [e, show (0#32 : BitVec 32).toInt = 0 from rfl] at h'
    omega
  · exact IntOp.cmpi_sge.mpr (by simp [e])
  · exact IntOp.cmpi_sle.mpr (by rw [e, show (49151#32 : BitVec 32).toInt = 49151 from rfl]; omega)

/-- The index the gather reads is the target. -/
theorem index_eq (r : Fin 24576) (k : Fin 1) (ht : BitVec.toNat (w := 32) (x4 (ix1 r)) < 49152) : val_main_call0_v5 (F := Ideal) x4 (ix3 r 0 k) = x4 (ix1 r) := by
  pointwise [val_main_call0_v5, val_main_call0_v4, val_main_call0_v3, val_main_call0_v2, val_main_call0_v1, val_main_call0_v0, val_main_call0_c, val_main_call0_c_0, val_main_v14]
  rw [(not_neg _ ht).1]
  rfl

/-- The bounds mask says the target is in the vocabulary. -/
theorem mask_eq (r : Fin 24576) (ht : BitVec.toNat (w := 32) (x4 (ix1 r)) < 49152) : val_main_call0_v12 (F := Ideal) x4 (ix2 r 0) = 1#1 := by
  pointwise [val_main_call0_v12, val_main_call0_v11, val_main_call0_v10, val_main_call0_v9, val_main_call0_v8, val_main_call0_v7, val_main_call0_v6, val_main_call0_c_1, val_main_call0_c_2, val_main_call0_c_3]
  simp only [index_eq x4 r _ ht, (not_neg _ ht).2.1, (not_neg _ ht).2.2]
  rfl

/-- The gather along the columns of a row: the row's entry at the index. -/
theorem gather_row (X : S24576x49152.Idx → EReal) (ix : IVec S24576x1x1 32) (r : Fin 24576) (ht : (ix (ix3 r 0 0)).toNat < 49152) :
    Host.gather gather_S24576x49152_S24576x1x1_S24576x1_n_1_0_0_1_2_11 X ix (ix2 r 0) = X (ix2 r ⟨(ix (ix3 r 0 0)).toNat, ht⟩) := by
  unfold Host.gather
  congr 1
  funext a
  refine Fin.ext ?_
  show GatherDims.start _ _ ix a + GatherDims.batchCoord _ _ a + GatherDims.offCoord _ _ a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S24576x49152_S24576x1x1_S24576x1_n_1_0_0_1_2_11.operandBatchingDims from List.mem_singleton.mpr rfl)]
    rfl
  · rw [GatherDims.batchCoord_eq_zero _ _ _ (fun h => by simp [gather_S24576x49152_S24576x1x1_S24576x1_n_1_0_0_1_2_11] at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S24576x49152_S24576x1x1_S24576x1_n_1_0_0_1_2_11.startIndexMap from List.mem_singleton.mpr rfl)]
    have hsi : GatherDims.siIdx gather_S24576x49152_S24576x1x1_S24576x1_n_1_0_0_1_2_11 (ix2 r 0) ⟨List.idxOf (1 : Fin 2) [(1 : Fin 2)],
        List.idxOf_lt_length_iff.2 (List.mem_singleton.mpr rfl)⟩ = ix3 r 0 0 := by
      funext b; refine Fin.ext ?_
      match b with
      | ⟨0, _⟩ => rfl
      | ⟨1, _⟩ => rfl
      | ⟨2, _⟩ => rfl
    show min ((ix (GatherDims.siIdx gather_S24576x49152_S24576x1x1_S24576x1_n_1_0_0_1_2_11 (ix2 r 0) ⟨List.idxOf (1 : Fin 2) [(1 : Fin 2)],
        List.idxOf_lt_length_iff.2 (List.mem_singleton.mpr rfl)⟩)).toInt.toNat) (49152 - 1) = _
    rw [hsi, BitVec.toInt_eq_toNat_of_lt (by omega), Int.toNat_natCast]
    show min _ _ = (ix (ix3 r 0 0)).toNat
    omega

/-- The logit of a row's target. -/
theorem target_eq (r : Fin 24576) (ht : BitVec.toNat (w := 32) (x4 (ix1 r)) < 49152) :
    val_main_v15 (F := Ideal) x1 x3 x4 (dots H W) (ix2 r 0) = Q x1 x3 H W r (BitVec.toNat (w := 32) (x4 (ix1 r))) := by
  rw [val_main_v15_apply, mask_eq x4 r ht]
  show val_main_call0_v13 (F := Ideal) x1 x3 x4 (dots H W) (ix2 r 0) = _
  have e := index_eq x4 r 0 ht
  unfold val_main_call0_v13
  rw [gather_row _ _ r (by rw [e]; exact ht), logits_eq]
  show Q x1 x3 H W r (val_main_call0_v5 (F := Ideal) x4 (ix3 r 0 0)).toNat = _
  rw [e]

/-- THE FIRST RESULT. -/
theorem v19_eq (r : Fin 24576) : val_main_v19 (F := Ideal) x1 x3 (dots H W) (ix2 r 0) = out1 (Q x1 x3 H W r) := by
  pointwise [val_main_v19, val_main_v18, val_main_v17, val_main_cst_1]
  rw [lse_eq]
  rfl

/-- THE SECOND RESULT, the row's target being a word. -/
theorem v23_eq (r : Fin 24576) (ht : BitVec.toNat (w := 32) (x4 (ix1 r)) < 49152) :
    val_main_v23 (F := Ideal) x1 x3 x4 (dots H W) (ix2 r 0) = out2 (Q x1 x3 H W r) (BitVec.toNat (w := 32) (x4 (ix1 r))) := by
  pointwise [val_main_v23, val_main_v22, val_main_v21, val_main_v20, val_main_v16, val_main_cst_2]
  rw [lse_eq, target_eq x1 x3 x4 H W r ht]
  rfl

section Run

variable (m : (ℓ : Loc nD τ sig) → Buf (Elt Ideal) ℓ) (c : Dev nD)

/-- The operations' values at the launch arrays. -/
theorem v19_run (i : S24576x1.Idx) :
    val_main_v19 (F := Ideal) (m ((c.tc : Thread nD τ).loc main_arg1)) (m ((c.tc : Thread nD τ).loc main_arg3)) (Value.reg_main_v0 m c) i
      = out1 (Q (m ((c.tc : Thread nD τ).loc main_arg1)) (m ((c.tc : Thread nD τ).loc main_arg3)) (m ((c.tc : Thread nD τ).loc main_arg0)) (m ((c.tc : Thread nD τ).loc main_arg2)) (i 0)) := by
  obtain ⟨r, rfl⟩ : ∃ r, i = ix2 r 0 := ⟨i 0, (eq_ix2 i).trans (congrArg (ix2 (i 0)) (Subsingleton.elim _ _))⟩
  rw [dots_eq]
  exact v19_eq _ _ _ _ r

theorem v23_run (i : S24576x1.Idx) (ht : BitVec.toNat (w := 32) (m ((c.tc : Thread nD τ).loc main_arg4) (ix1 (i 0))) < 49152) :
    val_main_v23 (F := Ideal) (m ((c.tc : Thread nD τ).loc main_arg1)) (m ((c.tc : Thread nD τ).loc main_arg3)) (m ((c.tc : Thread nD τ).loc main_arg4)) (Value.reg_main_v0 m c) i
      = out2 (Q (m ((c.tc : Thread nD τ).loc main_arg1)) (m ((c.tc : Thread nD τ).loc main_arg3)) (m ((c.tc : Thread nD τ).loc main_arg0)) (m ((c.tc : Thread nD τ).loc main_arg2)) (i 0))
          (BitVec.toNat (w := 32) (m ((c.tc : Thread nD τ).loc main_arg4) (ix1 (i 0)))) := by
  obtain ⟨r, rfl⟩ : ∃ r, i = ix2 r 0 := ⟨i 0, (eq_ix2 i).trans (congrArg (ix2 (i 0)) (Subsingleton.elim _ _))⟩
  rw [dots_eq]
  exact v23_eq _ _ _ _ _ r ht

end Run

end Cert.HeadRefIdeal.Ref

end
-- ==== Proof.Agree.lean ====
/- THE VALUE CLAIM of the head call: from equal arguments, every target a word of the vocabulary, the kernel and the
   reference end with equal results over the extended reals. -/
module

public import proofs.«01_k».proof.Defs
public import proofs.«01_k».proof.Proof.Gen.Pre_targets_in_vocab
public import proofs.«01_k».proof.Proof.Walk
public import proofs.«01_k».proof.Proof.Ref

@[expose] public section

noncomputable section

namespace Cert.Agree

open Idealize.ShloMosaic Idealize.ShloMosaic.TcCoe Idealize.SL.Sem
open Cert.Spec

section Words

open Cert.Pre_targets_in_vocab

/-- The precondition at a row: the row's target, as a number, is below the size of the vocabulary. -/
theorem target_lt (a0 : FVec Ideal S24576x2048 .fp8e4m3) (a1 : FVec Ideal S24576x1 .f32) (a2 : FVec Ideal S49152x2048 .fp8e4m3) (a3 : FVec Ideal S49152 .f32)
    (a4 : IVec S24576 32) (h : fn (F := Ideal) a0 a1 a2 a3 a4 = fun _ => 1#1) (R : Fin 24576) : (a4 (ix1 R)).toNat < 49152 := by
  have e : fn (F := Ideal) a0 a1 a2 a3 a4 (ix1 R) = IntOp.andi (IntOp.cmpi .sge (a4 (ix1 R)) 0#32) (IntOp.cmpi .slt (a4 (ix1 R)) 49152#32) := by
    pointwise [fn]
  rw [h] at e
  obtain ⟨h0, h1⟩ : IntOp.cmpi .sge (a4 (ix1 R)) 0#32 = 1#1 ∧ IntOp.cmpi .slt (a4 (ix1 R)) 49152#32 = 1#1 := by
    exact IntOp.andi_eq_one.mp e.symm
  have g0 := IntOp.cmpi_sge.mp h0
  have g1 := IntOp.cmpi_slt.mp h1
  rw [show (0#32 : BitVec 32).toInt = 0 from rfl] at g0
  rw [show (49152#32 : BitVec 32).toInt = 49152 from rfl] at g1
  rw [BitVec.toInt_eq_toNat_cond] at g0 g1
  split at g0 <;> omega

end Words

open Cert.HeadIdeal in
/-- The kernel's first result array. -/
theorem kernel1 (m : (ℓ : Loc nD τ sig) → Buf (Elt Ideal) ℓ) (c : Dev nD) : Value.G5 m c = fun i => out1 (Walk.Q m c (i 0)) := by
  funext i
  obtain ⟨r, rfl⟩ : ∃ r : Fin 24576, i = ix2 r 0 := ⟨i 0, (eq_ix2 i).trans (congrArg (ix2 (i 0)) (Subsingleton.elim _ _))⟩
  exact Walk.G5_eq m c r

open Cert.HeadIdeal in
/-- The kernel's second result array. -/
theorem kernel2 (m : (ℓ : Loc nD τ sig) → Buf (Elt Ideal) ℓ) (c : Dev nD) (ht : ∀ R, Walk.T m c R < 49152) :
    Value.G6 m c = fun i => out2 (Walk.Q m c (i 0)) (Walk.T m c (i 0)) := by
  funext i
  obtain ⟨r, rfl⟩ : ∃ r : Fin 24576, i = ix2 r 0 := ⟨i 0, (eq_ix2 i).trans (congrArg (ix2 (i 0)) (Subsingleton.elim _ _))⟩
  exact Walk.G6_eq m c r (ht r)

theorem algebraic : algebraic_HeadIdeal_HeadRefIdeal_pre_targets_in_vocab := by
  intro m g m' g' hpre hagree
  have ht : ∀ c R, Cert.HeadIdeal.Walk.T m c R < 49152 := fun c R => target_lt _ _ _ _ _ (hpre c) R
  refine ⟨fun c i => out1 (Cert.HeadIdeal.Walk.Q m c (i 0)), fun c i => out2 (Cert.HeadIdeal.Walk.Q m c (i 0)) (Cert.HeadIdeal.Walk.T m c (i 0)), ?_, ?_⟩
  · exact (θ_run Cert.HeadIdeal.defs _ _).mono (fun r h c => ⟨(h c).1.trans (kernel1 m c), (h c).2.1.trans (kernel2 m c (ht c)), (h c).2.2⟩)
      (Cert.HeadIdeal.Value.run m g)
  · refine (θ_run Cert.HeadRefIdeal.defs _ _).mono (fun r h c => ⟨(h c).1.trans ?_, (h c).2.1.trans ?_, (h c).2.2⟩) (Cert.HeadRefIdeal.Value.run m' g')
    · funext i
      refine (Cert.HeadRefIdeal.Ref.v19_run m' c i).trans ?_
      rw [(hagree c).1, (hagree c).2.1, (hagree c).2.2.1, (hagree c).2.2.2.1]
      rfl
    · funext i
      refine (Cert.HeadRefIdeal.Ref.v23_run m' c i ?_).trans ?_
      · rw [(hagree c).2.2.2.2]
        exact ht c (i 0)
      · rw [(hagree c).1, (hagree c).2.1, (hagree c).2.2.1, (hagree c).2.2.2.1, (hagree c).2.2.2.2]
        rfl

end Cert.Agree

end
-- ==== Proof.Scale.lean ====
/-
  THE MATHEMATICS OF THE POWER-OF-TWO SCALE; no program is mentioned here.

  For a magnitude `y` the quantiser takes the exponent `e` with `2^(e-1) ≤ y < 2^e`, and `e = 0` where `y` is below the
  least normal number or infinite. One way finds `e` in words: the biased exponent is the largest `k < 256` such that the
  float of word `k << 23` is at most `y`, and the scales are floats made of words again. The other way finds it in
  floats: `floor (log y * (1 / log 2)) + 1`, and the scales are `2^e` and `2^(-e)`. `scale_eq` and `inv_eq` state that the
  two ways give the same scale and the same inverse scale for every `y` that is below `2^126` or infinite. `power_eq` and
  `inverse_eq` state that the quotient `log y / log 2` and general powers of two give, for every `y`, what the second way gives.
-/
module

public import Idealize.ShloMosaic.PureOps.Ideal.Laws
public import Idealize.ShloMosaic.Lib.SortNet.Extract
public import Mathlib.Analysis.SpecialFunctions.Log.Basic
public import Mathlib.Analysis.SpecialFunctions.Pow.Real

@[expose] public section

noncomputable section

namespace Cert.Scale

open Idealize.ShloMosaic

/-- The float whose word is `b` moved to the exponent's place. -/
def pow (b : BitVec 32) : EReal := Ideal.ofBits .f32 (IntOp.shli .vector b 23#32)

theorem shli_eq (k : ℕ) : IntOp.shli .vector (BitVec.ofNat 32 k) 23#32 = BitVec.ofNat 32 (k * 2 ^ 23) := by
  unfold IntOp.shli
  rw [if_pos (by decide)]
  apply BitVec.eq_of_toNat_eq
  rw [show (BitVec.ofNat 32 k <<< (23#32) : BitVec 32) = BitVec.ofNat 32 k <<< 23 from rfl, BitVec.toNat_shiftLeft, BitVec.toNat_ofNat, BitVec.toNat_ofNat,
    Nat.shiftLeft_eq]
  omega

/-- The fields of such a word: no sign, exponent field `k`, no fraction. -/
theorem fields (k : ℕ) (h : k < 256) :
    ((BitVec.ofNat 32 (k * 2 ^ 23)).extractLsb' (8 + 23) 1 == 1#1) = false ∧ ((BitVec.ofNat 32 (k * 2 ^ 23)).extractLsb' 23 8).toNat = k
      ∧ ((BitVec.ofNat 32 (k * 2 ^ 23)).extractLsb' 0 23).toNat = 0 := by
  refine ⟨?_, ?_, ?_⟩
  · rw [beq_eq_false_iff_ne]
    intro e
    have := congrArg BitVec.toNat e
    rw [BitVec.extractLsb'_toNat, BitVec.toNat_ofNat, Nat.shiftRight_eq_div_pow] at this
    simp at this
    omega
  · rw [BitVec.extractLsb'_toNat, BitVec.toNat_ofNat, Nat.shiftRight_eq_div_pow]
    omega
  · rw [BitVec.extractLsb'_toNat, BitVec.toNat_ofNat, Nat.shiftRight_eq_div_pow]
    omega

/-- Exponent field `k` of a normal number, nothing else set: the power `2^(k - 127)`. -/
theorem pow_eq (k : ℕ) (h1 : 1 ≤ k) (h2 : k ≤ 254) : pow (BitVec.ofNat 32 k) = (((2 : ℝ) ^ ((k : ℤ) - 127) : ℝ) : EReal) := by
  obtain ⟨f1, f2, f3⟩ := fields k (by omega)
  unfold pow
  rw [shli_eq]
  show Ideal.ieee 8 23 (BitVec.ofNat 32 (k * 2 ^ 23)) = _
  unfold Ideal.ieee
  dsimp only
  rw [f1, f2, f3, if_neg (by norm_num; omega), if_neg (by omega)]
  congr 1
  rw [show (2 : ℝ) ^ ((k : ℤ) - 127) = (2 : ℝ) ^ (23 : ℤ) * (2 : ℝ) ^ ((k : ℤ) - 127 - 23) by rw [← zpow_add₀ two_ne_zero]; congr 1; ring]
  norm_num

/-- All ones in the exponent's field: infinity. -/
theorem pow_top : pow (BitVec.ofNat 32 255) = ⊤ := by
  obtain ⟨f1, f2, f3⟩ := fields 255 (by omega)
  unfold pow
  rw [shli_eq]
  show Ideal.ieee 8 23 (BitVec.ofNat 32 (255 * 2 ^ 23)) = _
  unfold Ideal.ieee
  dsimp only
  rw [f1, f2, f3, if_pos (by norm_num), if_pos rfl]
  rfl

/-- The biased exponent of `y`: the largest `k` whose power is at most `y`, and zero if there is none. -/
def biased (y : EReal) : BitVec 32 :=
  Finset.fold IntOp.maxsi 2147483648#32 (fun k : Fin 256 => if pow (BitVec.ofNat 32 k) ≤ y then BitVec.ofNat 32 k else 0#32) Finset.univ

theorem toInt_ofNat (k : ℕ) (h : k < 256) : (BitVec.ofNat 32 k).toInt = k := by
  rw [BitVec.toInt_eq_toNat_of_lt (by rw [BitVec.toNat_ofNat]; omega), BitVec.toNat_ofNat]
  omega

theorem biased_eq (y : EReal) (n : ℕ) (hn : n ≤ 255) (h : ∀ k, 1 ≤ k → k ≤ 255 → (pow (BitVec.ofNat 32 k) ≤ y ↔ k ≤ n)) :
    biased y = BitVec.ofNat 32 n := by
  obtain ⟨-, h2, h3⟩ := SortNet.fold_maxsi_spec (fun k : Fin 256 => if pow (BitVec.ofNat 32 k) ≤ y then BitVec.ofNat 32 k.val else 0#32) Finset.univ 2147483648#32
  change ∀ i ∈ Finset.univ, _ ≤ (biased y).toInt at h2
  change biased y = _ ∨ ∃ i ∈ Finset.univ, biased y = _ at h3
  have hle : (n : ℤ) ≤ (biased y).toInt := by
    refine le_trans ?_ (h2 ⟨n, by omega⟩ (Finset.mem_univ _))
    dsimp only
    rcases Nat.eq_zero_or_pos n with rfl | h0
    · split <;> simp
    · rw [if_pos ((h n h0 hn).mpr le_rfl), toInt_ofNat n (by omega)]
  rcases h3 with h3 | ⟨k, -, h3⟩
  · rw [h3] at hle
    have : (2147483648#32 : BitVec 32).toInt = -2147483648 := by decide
    omega
  · apply BitVec.eq_of_toInt_eq
    rw [toInt_ofNat n (by omega)]
    refine le_antisymm ?_ hle
    rw [h3]
    split
    · next hk =>
      rw [toInt_ofNat _ k.isLt]
      rcases Nat.eq_zero_or_pos k.val with h0 | h0
      · omega
      · exact_mod_cast (h k.val h0 (by omega)).mp hk
    · simp

/-- The exponent found in words. -/
def expo (y : EReal) : BitVec 32 :=
  Scalar.select (IntOp.ori (IntOp.cmpi .eq (biased y) 0#32) (IntOp.cmpi .eq (biased y) 255#32)) 0#32 (IntOp.subi (biased y) 126#32)

/-- The exponent found in floats, `c` the factor that turns natural logarithms into logarithms to the base two. -/
def expoF (c y : EReal) : EReal :=
  Scalar.select (IntOp.ori (Ideal.cmp .olt y (Ideal.ofBits .f32 0x00800000#32)) (Ideal.cmp .oeq y (Ideal.ofBits .f32 0x7F800000#32)))
    (Ideal.ofBits .f32 0x00000000#32) (Ideal.liftRound Int.floor (Ideal.log y * c) + Ideal.ofBits .f32 0x3F800000#32)

/-- `1 / log 2`. -/
abbrev log2e : EReal := (((Real.log 2)⁻¹ : ℝ) : EReal)

theorem least_eq : Ideal.ofBits .f32 0x00800000#32 = (((2 : ℝ) ^ (-126 : ℤ) : ℝ) : EReal) := by
  have := pow_eq 1 (by omega) (by omega)
  unfold pow at this
  rw [shli_eq] at this
  exact this

theorem inf_eq : Ideal.ofBits .f32 0x7F800000#32 = ⊤ := by
  have := pow_top
  unfold pow at this
  rw [shli_eq] at this
  exact this

theorem one_eq : Ideal.ofBits .f32 0x3F800000#32 = ((1 : ℝ) : EReal) := by
  have := pow_eq 127 (by omega) (by omega)
  unfold pow at this
  rw [shli_eq] at this
  exact this.trans (by norm_num)

theorem zero_eq : Ideal.ofBits .f32 0x00000000#32 = ((0 : ℝ) : EReal) := by
  obtain ⟨f1, f2, f3⟩ := fields 0 (by omega)
  show Ideal.ieee 8 23 (BitVec.ofNat 32 (0 * 2 ^ 23)) = _
  unfold Ideal.ieee
  dsimp only
  rw [f1, f2, f3, if_neg (by norm_num), if_pos rfl]
  congr 1
  simp

theorem cmp_or (p q : Prop) [Decidable p] [Decidable q] (α : Type) (a b : α) :
    Scalar.select (IntOp.ori (BitVec.ofBool (decide p)) (BitVec.ofBool (decide q))) a b = if p ∨ q then a else b := by
  by_cases hp : p <;> by_cases hq : q <;> simp [hp, hq, Scalar.select, IntOp.ori]

theorem expoF_eq (y : EReal) : expoF log2e y = if y < (((2 : ℝ) ^ (-126 : ℤ) : ℝ) : EReal) ∨ y = ⊤ then ((0 : ℝ) : EReal)
    else Ideal.liftRound Int.floor (Ideal.log y * log2e) + ((1 : ℝ) : EReal) := by
  unfold expoF
  rw [least_eq, inf_eq, one_eq, zero_eq]
  exact cmp_or _ _ _ _ _

/-- The power of an integer exponent. -/
theorem exp2_int (z : ℤ) : Ideal.exp2 ((z : ℝ) : EReal) = (((2 : ℝ) ^ z : ℝ) : EReal) := by
  show ((Real.rpow 2 z : ℝ) : EReal) = _
  congr 1
  exact Real.rpow_intCast 2 z

/-- The integer logarithm to the base two of a positive real number. -/
def ilog (r : ℝ) : ℤ := ⌊Real.log r * (Real.log 2)⁻¹⌋

theorem le_ilog (r : ℝ) (hr : 0 < r) (z : ℤ) : (2 : ℝ) ^ z ≤ r ↔ z ≤ ilog r := by
  have h2 : 0 < Real.log 2 := Real.log_pos one_lt_two
  rw [ilog, Int.le_floor, ← div_eq_mul_inv, le_div_iff₀ h2, ← Real.log_zpow, Real.log_le_log_iff (by positivity) hr]

theorem expoF_real (r : ℝ) (h : (2 : ℝ) ^ (-126 : ℤ) ≤ r) : expoF log2e r = (((ilog r + 1 : ℤ) : ℝ) : EReal) := by
  have hr : 0 < r := lt_of_lt_of_le (by positivity) h
  rw [expoF_eq, if_neg (by
    rintro (hl | hl)
    · exact absurd (EReal.coe_lt_coe_iff.mp hl) (not_lt.mpr h)
    · exact EReal.coe_ne_top r hl)]
  have e : Ideal.log (r : EReal) = ((Real.log r : ℝ) : EReal) := by
    show (if r ≤ 0 then ⊥ else ((Real.log r : ℝ) : EReal)) = _
    rw [if_neg (not_le.mpr hr)]
  rw [e, ← EReal.coe_mul]
  show (((ilog r : ℤ) : ℝ) : EReal) + _ = _
  rw [← EReal.coe_add]
  push_cast
  rfl

/-- The biased exponent of a real magnitude in the normal range. -/
theorem biased_real (r : ℝ) (h1 : (2 : ℝ) ^ (-126 : ℤ) ≤ r) (h2 : r < (2 : ℝ) ^ (126 : ℤ)) :
    biased r = BitVec.ofNat 32 (ilog r + 127).toNat ∧ -126 ≤ ilog r ∧ ilog r ≤ 125 := by
  have hr : 0 < r := lt_of_lt_of_le (by positivity) h1
  have l1 : -126 ≤ ilog r := (le_ilog r hr _).mp h1
  have l2 : ¬ 126 ≤ ilog r := fun h => absurd ((le_ilog r hr _).mpr h) (not_le.mpr h2)
  refine ⟨biased_eq _ _ (by omega) fun k k1 k2 => ?_, l1, by omega⟩
  rcases Nat.lt_or_ge k 255 with k3 | k3
  · rw [pow_eq k k1 (by omega), EReal.coe_le_coe_iff, le_ilog r hr]
    omega
  · obtain rfl : k = 255 := by omega
    rw [pow_top]
    refine ⟨fun h => absurd (top_le_iff.mp h) (EReal.coe_ne_top r), fun h => ?_⟩
    omega

theorem expo_eq (y : EReal) (n : ℕ) (h : biased y = BitVec.ofNat 32 n) (hn : n < 256) :
    expo y = if n = 0 ∨ n = 255 then 0#32 else IntOp.subi (BitVec.ofNat 32 n) 126#32 := by
  unfold expo
  rw [h]
  have e : ∀ a < 256, (BitVec.ofNat 32 n == BitVec.ofNat 32 a) = decide (n = a) := by
    intro a ha
    rw [Bool.eq_iff_iff, beq_iff_eq, decide_eq_true_iff]
    refine ⟨fun g => ?_, fun g => by rw [g]⟩
    have := congrArg BitVec.toInt g
    rw [toInt_ofNat n hn, toInt_ofNat a ha] at this
    exact_mod_cast this
  show Scalar.select (IntOp.ori (BitVec.ofBool (BitVec.ofNat 32 n == BitVec.ofNat 32 0)) (BitVec.ofBool (BitVec.ofNat 32 n == BitVec.ofNat 32 255))) _ _ = _
  rw [e 0 (by omega), e 255 (by omega)]
  exact cmp_or _ _ _ _ _

/-- The two ways agree: there is an integer `z` that is the exponent in floats, and the words make its power and the
    power of `-z`. -/
theorem agree (y : EReal) (h : y < (((2 : ℝ) ^ (126 : ℤ) : ℝ) : EReal) ∨ y = ⊤) : ∃ z : ℤ, expoF log2e y = ((z : ℝ) : EReal)
    ∧ pow (IntOp.addi (expo y) 127#32) = (((2 : ℝ) ^ z : ℝ) : EReal) ∧ pow (IntOp.subi 127#32 (expo y)) = (((2 : ℝ) ^ (-z) : ℝ) : EReal) := by
  have zero : ∀ n, biased y = BitVec.ofNat 32 n → (n = 0 ∨ n = 255) → (y < (((2 : ℝ) ^ (-126 : ℤ) : ℝ) : EReal) ∨ y = ⊤) → ∃ z : ℤ, expoF log2e y = ((z : ℝ) : EReal)
      ∧ pow (IntOp.addi (expo y) 127#32) = (((2 : ℝ) ^ z : ℝ) : EReal) ∧ pow (IntOp.subi 127#32 (expo y)) = (((2 : ℝ) ^ (-z) : ℝ) : EReal) := by
    intro n hb hn hy
    refine ⟨0, ?_, ?_, ?_⟩
    · rw [expoF_eq, if_pos hy]
      norm_num
    · rw [expo_eq y n hb (by omega), if_pos hn]
      exact (pow_eq 127 (by omega) (by omega)).trans (by norm_num)
    · rw [expo_eq y n hb (by omega), if_pos hn]
      exact (pow_eq 127 (by omega) (by omega)).trans (by norm_num)
  by_cases ht : y = ⊤
  · refine zero 255 (biased_eq y 255 le_rfl fun k _ hk => ?_) (Or.inr rfl) (Or.inr ht)
    rw [ht]
    exact iff_of_true le_top hk
  by_cases hl : y < (((2 : ℝ) ^ (-126 : ℤ) : ℝ) : EReal)
  · refine zero 0 (biased_eq y 0 (by omega) fun k k1 k2 => iff_of_false (fun hk => ?_) (by omega)) (Or.inl rfl) (Or.inl hl)
    have hk' := lt_of_le_of_lt hk hl
    rcases Nat.lt_or_ge k 255 with k3 | k3
    · rw [pow_eq k k1 (by omega), EReal.coe_lt_coe_iff] at hk'
      have := (zpow_lt_zpow_iff_right₀ (one_lt_two (α := ℝ))).mp hk'
      omega
    · obtain rfl : k = 255 := by omega
      rw [pow_top] at hk'
      exact not_top_lt hk'
  · have hlt := h.resolve_right ht
    induction y using EReal.rec with
    | bot => exact absurd (EReal.bot_lt_coe _) hl
    | top => exact absurd rfl ht
    | coe r =>
      have h1 := EReal.coe_le_coe_iff.mp (not_lt.mp hl)
      obtain ⟨hb, l1, l2⟩ := biased_real r h1 (EReal.coe_lt_coe_iff.mp hlt)
      obtain ⟨n, hn⟩ : ∃ n : ℕ, ilog r + 127 = n := ⟨_, (Int.toNat_of_nonneg (by omega)).symm⟩
      rw [hn, Int.toNat_natCast] at hb
      have he := expo_eq _ n hb (by omega)
      rw [if_neg (by omega)] at he
      refine ⟨ilog r + 1, expoF_real r h1, ?_, ?_⟩
      · rw [he, show IntOp.addi (IntOp.subi (BitVec.ofNat 32 n) 126#32) 127#32 = BitVec.ofNat 32 (n + 1) by
          apply BitVec.eq_of_toNat_eq
          simp only [IntOp.addi, IntOp.subi, BitVec.toNat_add, BitVec.toNat_sub, BitVec.toNat_ofNat]
          omega, pow_eq (n + 1) (by omega) (by omega)]
        congr 2
        push_cast
        omega
      · rw [he, show IntOp.subi 127#32 (IntOp.subi (BitVec.ofNat 32 n) 126#32) = BitVec.ofNat 32 (253 - n) by
          apply BitVec.eq_of_toNat_eq
          simp only [IntOp.subi, BitVec.toNat_sub, BitVec.toNat_ofNat]
          omega, pow_eq (253 - n) (by omega) (by omega)]
        congr 2
        omega

/-- THE SCALES AGREE. -/
theorem scale_eq (y : EReal) (h : y < (((2 : ℝ) ^ (126 : ℤ) : ℝ) : EReal) ∨ y = ⊤) :
    pow (IntOp.addi (expo y) 127#32) = Ideal.exp2 (expoF log2e y) := by
  obtain ⟨z, h1, h2, -⟩ := agree y h
  rw [h1, h2, exp2_int]

/-- THE INVERSE SCALES AGREE. -/
theorem inv_eq (y : EReal) (h : y < (((2 : ℝ) ^ (126 : ℤ) : ℝ) : EReal) ∨ y = ⊤) :
    pow (IntOp.subi 127#32 (expo y)) = Ideal.exp2 (Ideal.ofBits .f32 0x00000000#32 - expoF log2e y) := by
  obtain ⟨z, h1, -, h3⟩ := agree y h
  rw [h1, h3, zero_eq, ← EReal.coe_sub, show (0 : ℝ) - (z : ℝ) = ((-z : ℤ) : ℝ) by push_cast; ring, exp2_int]

theorem two_eq : Ideal.ofBits .f32 0x40000000#32 = ((2 : ℝ) : EReal) := by
  have := pow_eq 128 (by omega) (by omega)
  unfold pow at this
  rw [shli_eq] at this
  exact this.trans (by norm_num)

/-- The exponent found in floats, the logarithm to the base two a quotient of natural logarithms. -/
def expoQ (y : EReal) : EReal :=
  Scalar.select (IntOp.ori (Ideal.cmp .olt y (Ideal.ofBits .f32 0x00800000#32)) (Ideal.cmp .oeq y (Ideal.ofBits .f32 0x7F800000#32)))
    (Ideal.ofBits .f32 0x00000000#32)
    (Ideal.liftRound Int.floor (Ideal.div (Ideal.log y) (Ideal.log (Ideal.ofBits .f32 0x40000000#32))) + Ideal.ofBits .f32 0x3F800000#32)

theorem log_real (r : ℝ) (h : 0 < r) : Ideal.log (r : EReal) = ((Real.log r : ℝ) : EReal) := by
  show (if r ≤ 0 then ⊥ else ((Real.log r : ℝ) : EReal)) = _
  rw [if_neg (not_le.mpr h)]

/-- The quotient finds the exponent that the product with `1 / log 2` finds. -/
theorem expoQ_eq (y : EReal) : expoQ y = expoF log2e y := by
  have e : expoQ y = if y < (((2 : ℝ) ^ (-126 : ℤ) : ℝ) : EReal) ∨ y = ⊤ then ((0 : ℝ) : EReal)
      else Ideal.liftRound Int.floor (Ideal.div (Ideal.log y) (Ideal.log (Ideal.ofBits .f32 0x40000000#32))) + ((1 : ℝ) : EReal) := by
    unfold expoQ
    rw [least_eq, inf_eq, one_eq, zero_eq]
    exact cmp_or _ _ _ _ _
  rw [e, expoF_eq]
  split
  · rfl
  · next h =>
    rw [not_or, not_lt] at h
    induction y using EReal.rec with
    | bot => exact absurd h.1 (not_le.mpr (EReal.bot_lt_coe _))
    | top => exact absurd rfl h.2
    | coe r =>
      have hr : 0 < r := lt_of_lt_of_le (by positivity) (EReal.coe_le_coe_iff.mp h.1)
      rw [two_eq, log_real r hr, log_real 2 two_pos, ← EReal.coe_mul]
      have h2 : Real.log 2 ≠ 0 := (Real.log_pos one_lt_two).ne'
      have d : Ideal.div ((Real.log r : ℝ) : EReal) ((Real.log 2 : ℝ) : EReal) = ((Real.log r * (Real.log 2)⁻¹ : ℝ) : EReal) := by
        rw [Ideal.div_coe h2, ← EReal.coe_mul, one_div]
      rw [d]

/-- The exponent is an integer. -/
theorem integral (y : EReal) : ∃ z : ℤ, expoF log2e y = ((z : ℝ) : EReal) := by
  by_cases h : y < (((2 : ℝ) ^ (-126 : ℤ) : ℝ) : EReal) ∨ y = ⊤
  · exact ⟨0, by rw [expoF_eq, if_pos h]; norm_num⟩
  · rw [not_or, not_lt] at h
    induction y using EReal.rec with
    | bot => exact absurd h.1 (not_le.mpr (EReal.bot_lt_coe _))
    | top => exact absurd rfl h.2
    | coe r => exact ⟨_, expoF_real r (EReal.coe_le_coe_iff.mp h.1)⟩

/-- Two to the exponent. -/
theorem power_eq (y : EReal) : Ideal.pow (Ideal.ofBits .f32 0x40000000#32) (expoQ y) = Ideal.exp2 (expoF log2e y) := by
  obtain ⟨z, h⟩ := integral y
  rw [expoQ_eq, h, two_eq]
  rfl

/-- Two to minus the exponent. -/
theorem inverse_eq (y : EReal) : Ideal.pow (Ideal.ofBits .f32 0x40000000#32) (-expoQ y)
    = Ideal.exp2 (Ideal.ofBits .f32 0x00000000#32 - expoF log2e y) := by
  obtain ⟨z, h⟩ := integral y
  rw [expoQ_eq, h, two_eq, zero_eq, ← EReal.coe_neg, ← EReal.coe_sub, zero_sub]
  rfl

end Cert.Scale

end
-- ==== Proof.Norm.lean ====
/-
  THE MATHEMATICS OF A NORMALISED AND QUANTISED ROW over the extended reals; no program is mentioned here.

  A row `v` is divided by the root of its mean square (plus a small positive number), multiplied by weights, and quantised
  with the power-of-two scale of its largest magnitude. `mag_bound` states that the magnitude the scale is taken from is
  below `2^126` or infinite, whatever the row holds, if every weight is in the range of the 32-bit floats or infinite:
  the factor before the weight is a real number of size at most 46, since the root of 2048 is less than 46.
-/
module

public import proofs.«01_k».proof.Proof.Scale
public import Idealize.ShloMosaic.Lib.Pointwise

@[expose] public section

noncomputable section

namespace Cert.Norm

open Idealize.ShloMosaic

/-- The magnitude of an extended real. -/
abbrev mabs (x : EReal) : EReal := max x (-x)

/-- An entry of the row over the root of the row's mean square. -/
def unit (v : Fin 2048 → EReal) (k : Fin 2048) : EReal :=
  v k * Ideal.rsqrt (Ideal.div (∑ x, v x * v x) (Ideal.ofBits .f32 0x45000000#32) + Ideal.ofBits .f32 0x3727C5AC#32)

/-- The normalised row. -/
def normed (v w : Fin 2048 → EReal) (k : Fin 2048) : EReal := unit v k * w k

/-- The largest magnitude of a row, times (1/448): what the scale is taken from. -/
def mag (f : Fin 2048 → EReal) : EReal :=
  Finset.fold max (Ideal.ofBits .f32 0xFF800000#32) (fun x => mabs (f x)) Finset.univ * Ideal.ofBits .f32 0x3B124925#32

/-- A code of a quantised row: the entry times the inverse scale, clipped to the range of the eight-bit floats. -/
def code (f : Fin 2048 → EReal) (k : Fin 2048) : EReal :=
  min (Ideal.ofBits .f32 0x43E00000#32) (max (Ideal.ofBits .f32 0xC3E00000#32)
    (f k * Ideal.exp2 (Ideal.ofBits .f32 0x00000000#32 - Scale.expoF Scale.log2e (mag f))))

/-- The scale of a quantised row. -/
def scale (f : Fin 2048 → EReal) : EReal := Ideal.exp2 (Scale.expoF Scale.log2e (mag f))

/-- Weights that are in the range of the 32-bit floats, or infinite. -/
def Fits (w : Fin 2048 → EReal) : Prop := ∀ k, mabs (w k) ≤ Ideal.ofBits .f32 0x7F7FFFFF#32 ∨ mabs (w k) = ⊤

/-- Row `R` of an array of three axes, its two leading axes counted through. -/
def xRow (x : (⟨3, ![16, 1536, 2048]⟩ : Shape).Idx → EReal) (R : Fin 24576) (k : Fin 2048) : EReal :=
  x (ix3 ⟨R.val / 1536, by omega⟩ ⟨R.val % 1536, by omega⟩ k)

/-! ### The constants -/

theorem width_eq : Ideal.ofBits .f32 0x45000000#32 = ((2048 : ℝ) : EReal) := by
  simp [Ideal.ofBits, Ideal.ieee]
  norm_num
  rw [← EReal.coe_mul]
  norm_num

theorem eps_pos : ∃ e : ℝ, 0 < e ∧ Ideal.ofBits .f32 0x3727C5AC#32 = (e : EReal) := by
  refine ⟨_, ?_, rfl⟩
  simp

theorem inv448_eq : ∃ c : ℝ, 0 < c ∧ c < 1 / 400 ∧ Ideal.ofBits .f32 0x3B124925#32 = (c : EReal) := by
  refine ⟨_, ?_, ?_, rfl⟩
  · simp
  · simp
    norm_num

theorem largest_lt : ∃ b : ℝ, 0 < b ∧ b ≤ (2 : ℝ) ^ (128 : ℤ) ∧ Ideal.ofBits .f32 0x7F7FFFFF#32 = (b : EReal) := by
  refine ⟨_, ?_, ?_, rfl⟩
  · simp
  · simp
    norm_num

/-! ### The bound -/

theorem sq_nonneg (x : EReal) : 0 ≤ x * x := by
  rcases le_total 0 x with h | h
  · exact mul_nonneg h h
  · rw [← neg_mul_neg]
    exact mul_nonneg (EReal.neg_nonneg.mpr h) (EReal.neg_nonneg.mpr h)

theorem coe_sum {ι : Type} (s : Finset ι) (r : ι → ℝ) : ∑ x ∈ s, ((r x : ℝ) : EReal) = ((∑ x ∈ s, r x : ℝ) : EReal) := by
  classical
  induction s using Finset.induction_on with
  | empty => simp
  | insert a s ha ih => rw [Finset.sum_insert ha, Finset.sum_insert ha, ih, EReal.coe_add]

/-- The entry over the root mean square is a real number of size at most 46, whatever the row. -/
theorem unit_bound (v : Fin 2048 → EReal) (k : Fin 2048) : ∃ ρ : ℝ, unit v k = (ρ : EReal) ∧ |ρ| ≤ 46 := by
  obtain ⟨e, he, hE⟩ := eps_pos
  unfold unit
  rw [width_eq, hE]
  by_cases hv : ∀ x, v x ≠ ⊤ ∧ v x ≠ ⊥
  · obtain ⟨r, hr⟩ : ∃ r : Fin 2048 → ℝ, ∀ x, v x = (r x : EReal) := ⟨fun x => (v x).toReal, fun x => (EReal.coe_toReal (hv x).1 (hv x).2).symm⟩
    have hs : ∑ x, v x * v x = ((∑ x, r x * r x : ℝ) : EReal) := by
      rw [← coe_sum]
      exact Finset.sum_congr rfl fun x _ => by rw [hr x, EReal.coe_mul]
    have h0 : 0 ≤ ∑ x, r x * r x := Finset.sum_nonneg fun x _ => mul_self_nonneg _
    have hk : r k * r k ≤ ∑ x, r x * r x := Finset.single_le_sum (f := fun x => r x * r x) (fun x _ => mul_self_nonneg _) (Finset.mem_univ k)
    set s := ∑ x, r x * r x
    have hd : Ideal.div ((s : ℝ) : EReal) ((2048 : ℝ) : EReal) = ((s / 2048 : ℝ) : EReal) := by
      unfold Ideal.div
      rw [if_neg (by norm_num), ← EReal.coe_inv, ← EReal.coe_mul, div_eq_mul_inv]
    have hq : 0 < s / 2048 + e := by positivity
    have hrs : Ideal.rsqrt ((s / 2048 + e : ℝ) : EReal) = (((Real.sqrt (s / 2048 + e))⁻¹ : ℝ) : EReal) := by
      show (if s / 2048 + e < 0 then ⊥ else if s / 2048 + e = 0 then ⊤ else (((Real.sqrt (s / 2048 + e))⁻¹ : ℝ) : EReal)) = _
      rw [if_neg (not_lt.mpr hq.le), if_neg hq.ne']
    rw [hs, hd, ← EReal.coe_add, hrs, hr k, ← EReal.coe_mul]
    refine ⟨_, rfl, abs_le_of_sq_le_sq ?_ (by norm_num)⟩
    rw [mul_pow, inv_pow, Real.sq_sqrt hq.le, ← div_eq_mul_inv, div_le_iff₀ hq]
    nlinarith
  · obtain ⟨x, hx⟩ := not_forall.mp hv
    have hxx : v x * v x = ⊤ := by
      rcases not_and_or.mp hx with h | h
      · rw [not_not.mp h]; rfl
      · rw [not_not.mp h]; rfl
    have hs : ∑ x, v x * v x = ⊤ := top_le_iff.mp (hxx ▸ Finset.single_le_sum (f := fun x => v x * v x) (fun x _ => sq_nonneg (v x)) (Finset.mem_univ x))
    have hd : Ideal.div ⊤ ((2048 : ℝ) : EReal) = ⊤ := by
      unfold Ideal.div
      rw [if_neg (by norm_num), ← EReal.coe_inv, EReal.top_mul_coe_of_pos (by norm_num)]
    refine ⟨0, ?_, by norm_num⟩
    rw [hs, hd, EReal.top_add_coe]
    show v k * 0 = _
    rw [mul_zero]
    rfl

theorem mabs_coe (r : ℝ) : mabs (r : EReal) = ((|r| : ℝ) : EReal) := by
  rw [abs_eq_max_neg]
  exact (EReal.coe_strictMono.monotone.map_max (a := r) (b := -r)).symm

/-- THE MAGNITUDE of a normalised row is below `2^126` or infinite. -/
theorem mag_bound (v w : Fin 2048 → EReal) (hw : Fits w) :
    mag (normed v w) < (((2 : ℝ) ^ (126 : ℤ) : ℝ) : EReal) ∨ mag (normed v w) = ⊤ := by
  obtain ⟨b, hb0, hb, hB⟩ := largest_lt
  obtain ⟨c, hc0, hc, hC⟩ := inv448_eq
  unfold Fits at hw
  rw [hB] at hw
  unfold mag
  rw [hC]
  have each : ∀ k, mabs (normed v w k) ≤ ((46 * b : ℝ) : EReal) ∨ mabs (normed v w k) = ⊤ := by
    intro k
    obtain ⟨ρ, hρ, hρ'⟩ := unit_bound v k
    unfold normed
    rw [hρ]
    rcases hw k with h | h
    · left
      have ht : w k ≠ ⊤ := fun h' => by rw [h'] at h; exact absurd (le_trans (le_max_left _ _) h) (not_le.mpr (EReal.coe_lt_top b))
      have hl : w k ≠ ⊥ := fun h' => by rw [h'] at h; exact absurd (le_trans (le_max_right _ _) h) (not_le.mpr (by rw [EReal.neg_bot]; exact EReal.coe_lt_top b))
      obtain ⟨r, hr⟩ : ∃ r : ℝ, w k = (r : EReal) := ⟨(w k).toReal, (EReal.coe_toReal ht hl).symm⟩
      rw [hr, mabs_coe, EReal.coe_le_coe_iff] at h
      rw [hr, ← EReal.coe_mul, mabs_coe, EReal.coe_le_coe_iff, abs_mul]
      exact mul_le_mul hρ' h (abs_nonneg _) (by norm_num)
    · have hw' : w k = ⊤ ∨ w k = ⊥ := by
        rcases max_choice (w k) (-w k) with h' | h' <;> rw [mabs, h'] at h
        · exact Or.inl h
        · exact Or.inr (EReal.neg_eq_top_iff.mp h)
      rcases lt_trichotomy ρ 0 with h0 | h0 | h0
      · right
        rcases hw' with h' | h' <;> rw [h']
        · rw [EReal.coe_mul_top_of_neg h0]; rfl
        · rw [EReal.coe_mul_bot_of_neg h0]; rfl
      · left
        rw [h0, EReal.coe_zero, zero_mul, ← EReal.coe_zero, mabs_coe, abs_zero, EReal.coe_le_coe_iff]
        positivity
      · right
        rcases hw' with h' | h' <;> rw [h']
        · rw [EReal.coe_mul_top_of_pos h0]; rfl
        · rw [EReal.coe_mul_bot_of_pos h0]; rfl
  by_cases hall : ∀ k, mabs (normed v w k) ≤ ((46 * b : ℝ) : EReal)
  · left
    have hmax : Finset.fold max (Ideal.ofBits .f32 0xFF800000#32) (fun x => mabs (normed v w x)) Finset.univ ≤ ((46 * b : ℝ) : EReal) := by
      rw [Finset.fold_max_le]
      refine ⟨le_of_eq_of_le (b := ⊥) ?_ bot_le, fun k _ => hall k⟩
      simp [Ideal.ofBits, Ideal.ieee]
    refine lt_of_le_of_lt (mul_le_mul_of_nonneg_right hmax (EReal.coe_nonneg.mpr hc0.le)) ?_
    rw [← EReal.coe_mul, EReal.coe_lt_coe_iff]
    have e1 : (46 * b) * c ≤ 46 * (2 : ℝ) ^ (128 : ℤ) * c := mul_le_mul_of_nonneg_right (by linarith) hc0.le
    have e2 : 46 * (2 : ℝ) ^ (128 : ℤ) * c ≤ 46 * (2 : ℝ) ^ (128 : ℤ) * (1 / 400) := mul_le_mul_of_nonneg_left hc.le (by positivity)
    have e3 : 46 * (2 : ℝ) ^ (128 : ℤ) * (1 / 400) < (2 : ℝ) ^ (126 : ℤ) := by norm_num
    linarith
  · right
    obtain ⟨k, hk⟩ := not_forall.mp hall
    have hmax : Finset.fold max (Ideal.ofBits .f32 0xFF800000#32) (fun x => mabs (normed v w x)) Finset.univ = ⊤ :=
      top_le_iff.mp ((Finset.le_fold_max _).mpr (Or.inr ⟨k, Finset.mem_univ k, ((each k).resolve_left hk).ge⟩))
    rw [hmax, EReal.top_mul_coe_of_pos hc0]

/-- A bit made by "or" of the two comparisons of a weight is set only if one of them holds. -/
theorem or_of_ori (x y : EReal) (h : IntOp.ori (BitVec.ofBool (decide (x ≤ y))) (BitVec.ofBool (decide (x = Ideal.ofBits .f32 0x7F800000#32))) = 1#1) :
    x ≤ y ∨ x = ⊤ := by
  have c := Scale.cmp_or (x ≤ y) (x = Ideal.ofBits .f32 0x7F800000#32) Bool true false
  rw [h] at c
  rw [← Scale.inf_eq]
  by_contra hn
  rw [if_neg hn] at c
  exact absurd c (by decide)

end Cert.Norm

end
-- ==== Proof.XnKernel.lean ====
/- THE RESULTS OF THE NORMALISATION CALL: every row of the array of codes and of the array of scales is the row of `x`,
   normalised and quantised (Norm.lean). A grid point makes 512 rows. -/
module

public import proofs.«01_k».proof.Proof.Gen.XnIdeal.Frame
public import proofs.«01_k».proof.Proof.Norm
public import Idealize.ShloMosaic.Lib.Pipeline.ValueKit
public import Idealize.ShloMosaic.Lib.Pointwise

@[expose] public section

noncomputable section

namespace Cert.XnIdeal.Kernel

open Cert.XnIdeal Cert.XnIdeal.Gen Idealize.ShloMosaic Idealize.ShloMosaic.TcCoe Idealize.SL.Sem
open Cert.Norm

/-- The row of a block that is normalised, with its weights. -/
abbrev rowOf (P0 : Vec Ideal S512x2048 .bf16) (P1 : Vec Ideal S1x2048 .f32) (r : Fin 512) : Fin 2048 → EReal :=
  normed (fun k => P0 (ix2 r k)) (fun k => P1 (ix2 0 k))

theorem normed_eq (P0 : Vec Ideal S512x2048 .bf16) (P1 : Vec Ideal S1x2048 .f32) (r : Fin 512) (k : Fin 2048) :
    k0_pay3 (F := Ideal) P0 P1 (ix2 r k) = rowOf P0 P1 r k := by
  pointwise [k0_pay3]
  rfl

theorem expo_eq (P0 : Vec Ideal S512x2048 .bf16) (P1 : Vec Ideal S1x2048 .f32) (r : Fin 512) :
    k0_pay4 (F := Ideal) P0 P1 (ix2 r 0) = Scale.expo (mag (rowOf P0 P1 r)) := by
  pointwise [k0_pay4]
  simp only [normed_eq]
  rfl

theorem scale_pay (e : IVec S512x1 32) (r : Fin 512) : k0_pay1 (F := Ideal) e k0_pay5 (ix2 r 0) = Scale.pow (IntOp.addi (e (ix2 r 0)) 127#32) := by
  pointwise [k0_pay1, k0_pay5]
  rfl

theorem code_pay (v : FVec Ideal S512x2048 .f32) (e : IVec S512x1 32) (r : Fin 512) (k : Fin 2048) : k0_pay2 (F := Ideal) v e (ix2 r k)
    = min (Ideal.ofBits .f32 0x43E00000#32) (max (Ideal.ofBits .f32 0xC3E00000#32) (v (ix2 r k) * Scale.pow (IntOp.subi 127#32 (e (ix2 r 0))))) := by
  pointwise [k0_pay2]
  rfl

/-- A block of codes. -/
theorem codes_block (P0 : Vec Ideal S512x2048 .bf16) (P1 : Vec Ideal S1x2048 .f32) (hw : Fits fun k => P1 (ix2 0 k)) (r : Fin 512) (k : Fin 2048) :
    out0_2 (F := Ideal) P0 P1 (ix2 r k) = code (rowOf P0 P1 r) k := by
  frame_out
  unfold k0_pay6
  frame_out
  rw [code_pay, normed_eq, expo_eq, Scale.inv_eq _ (mag_bound _ _ hw)]
  rfl

/-- A block of scales. -/
theorem scales_block (P0 : Vec Ideal S512x2048 .bf16) (P1 : Vec Ideal S1x2048 .f32) (hw : Fits fun k => P1 (ix2 0 k)) (r : Fin 512) :
    out0_3 (F := Ideal) P0 P1 (ix2 r 0) = scale (rowOf P0 P1 r) := by
  frame_out
  unfold k0_pay6
  frame_out
  rw [scale_pay, expo_eq, Scale.scale_eq _ (mag_bound _ _ hw)]
  rfl

variable (m : (ℓ : Loc nD τ sig) → Buf (Elt Ideal) ℓ) (c : Dev nD)

/-- The blocks a grid point reads and writes. -/
theorem idx : ∀ t : Fin cfg0.N, win0_0.index t = ![t.val, 0] ∧ win0_1.index t = ![0, 0] ∧ win0_2.index t = ![t.val, 0] ∧ win0_3.index t = ![t.val, 0] := by
  decide +kernel

theorem row_lt (t : Fin cfg0.N) (r : Fin 512) : t.val * 512 + r.val < 24576 := by have := lt_of_lt_of_eq t.isLt N_0; omega

/-- The array row of a block row. -/
abbrev row (t : Fin cfg0.N) (r : Fin 512) : Fin 24576 := ⟨t.val * 512 + r.val, row_lt t r⟩

/-- The normalised row `R`. -/
abbrev line (x : S16x1536x2048.Idx → EReal) (w : S2048.Idx → EReal) (R : Fin 24576) : Fin 2048 → EReal := normed (xRow x R) (fun k => w (ix1 k))

theorem x_eq (t : Fin cfg0.N) (r : Fin 512) (k : Fin 2048) : iblk m c 0 t (ix2 r k) = xRow (m ((c.tc : Thread nD τ).loc main_arg0)) (row t r) k := by
  unfold xRow
  blk_ext! [iblk, V, (idx t).1]

theorem w_eq (t : Fin cfg0.N) (k : Fin 2048) : iblk m c 1 t (ix2 0 k) = m ((c.tc : Thread nD τ).loc main_arg1) (ix1 k) := by
  blk_ext! [iblk, V, (idx t).2.1]

theorem line_eq (t : Fin cfg0.N) (r : Fin 512) :
    rowOf (iblk m c 0 t) (iblk m c 1 t) r = line (m ((c.tc : Thread nD τ).loc main_arg0)) (m ((c.tc : Thread nD τ).loc main_arg1)) (row t r) := by
  unfold rowOf line
  simp only [x_eq, w_eq]

theorem flush2 : ∀ t : Fin cfg0.N, (cfg0.win 2).flush t = true := (by decide +kernel : ∀ t : Fin grid0.N, win0_2.flush t = true)
theorem flush3 : ∀ t : Fin cfg0.N, (cfg0.win 3).flush t = true := (by decide +kernel : ∀ t : Fin grid0.N, win0_3.flush t = true)

theorem mem_blk2 (t : Fin cfg0.N) (i : S24576x2048.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v2_0).slice (win0_2.rect t)).set ↔ _
  rw [View.set_slice_whole, Rect.mem_set_unit]
  exact Iff.rfl

theorem mem_blk3 (t : Fin cfg0.N) (i : S24576x1.Idx) :
    i ∈ ((cfg0.win 3).blk t).view.set ↔ ∀ a : Fin 2, win0_3.index t a * S512x1.size a ≤ (i a).val ∧ (i a).val < win0_3.index t a * S512x1.size a + S512x1.size a := by
  show i ∈ ((View.whole main_v2_1).slice (win0_3.rect t)).set ↔ _
  rw [View.set_slice_whole, Rect.mem_set_unit]
  exact Iff.rfl

/-- The grid point that makes row `R`. -/
theorem pt_lt (R : ℕ) (h : R < 24576) : R / 512 < cfg0.N := lt_of_lt_of_eq (by omega) N_0.symm

/-- THE ARRAY OF CODES. -/
theorem codes_eq (hw : Fits fun k => m ((c.tc : Thread nD τ).loc main_arg1) (ix1 k)) : (dats m 0 c).arrAt 2 cfg0.N
    = fun i => code (line (m ((c.tc : Thread nD τ).loc main_arg0)) (m ((c.tc : Thread nD τ).loc main_arg1)) (i 0)) (i 1) := by
  refine (dats m 0 c).arrAt_eq_of_cover 2 _ (fun t _ => ?_) (fun i => ⟨⟨(i 0).val / 512, pt_lt _ (i 0).isLt⟩, flush2 _, ?_⟩)
  · show (cfg0.win 2).cut (grid0.coords t) ((dats m 0 c).after 2 t) = _
    rw [after0_2]
    funext y
    obtain ⟨r, k, rfl⟩ : ∃ (r : Fin 512) (k : Fin 2048), y = ix2 r k := ⟨y 0, y 1, eq_ix2 y⟩
    refine (codes_block _ _ ?_ r k).trans ?_
    · simpa only [w_eq] using hw
    · rw [line_eq]
      have e0 : ((cfg0.win 2).blk t).view.emb (ix2 r k) 0 = row t r := Fin.ext (by
        show win0_2.index t (0 : Fin 2) * 512 + 1 * r.val = _
        rw [(idx t).2.2.1]; show t.val * 512 + 1 * r.val = t.val * 512 + r.val; omega)
      have e1 : ((cfg0.win 2).blk t).view.emb (ix2 r k) 1 = k := Fin.ext (by
        show win0_2.index t (1 : Fin 2) * 2048 + 1 * k.val = _
        rw [(idx t).2.2.1]; show 0 * 2048 + 1 * k.val = k.val; omega)
      show _ = code (line _ _ (((cfg0.win 2).blk t).view.emb (ix2 r k) 0)) (((cfg0.win 2).blk t).view.emb (ix2 r k) 1)
      rw [e0, e1]
  · have h0 : (i 0).val < 24576 := (i 0).isLt
    have h1 : (i 1).val < 2048 := (i 1).isLt
    rw [mem_blk2, (idx _).2.2.1]
    intro a
    match a with
    | ⟨0, _⟩ => show (i 0).val / 512 * 512 ≤ (i 0).val ∧ (i 0).val < (i 0).val / 512 * 512 + 512; omega
    | ⟨1, _⟩ => show 0 * 2048 ≤ (i 1).val ∧ (i 1).val < 0 * 2048 + 2048; omega

/-- THE ARRAY OF SCALES. -/
theorem scales_eq (hw : Fits fun k => m ((c.tc : Thread nD τ).loc main_arg1) (ix1 k)) : (dats m 0 c).arrAt 3 cfg0.N
    = fun i => scale (line (m ((c.tc : Thread nD τ).loc main_arg0)) (m ((c.tc : Thread nD τ).loc main_arg1)) (i 0)) := by
  refine (dats m 0 c).arrAt_eq_of_cover 3 _ (fun t _ => ?_) (fun i => ⟨⟨(i 0).val / 512, pt_lt _ (i 0).isLt⟩, flush3 _, ?_⟩)
  · show (cfg0.win 3).cut (grid0.coords t) ((dats m 0 c).after 3 t) = _
    rw [after0_3]
    funext y
    obtain ⟨r, rfl⟩ : ∃ (r : Fin 512), y = ix2 r 0 := ⟨y 0, (eq_ix2 y).trans (congrArg (ix2 (y 0)) (Subsingleton.elim _ _))⟩
    refine (scales_block _ _ ?_ r).trans ?_
    · simpa only [w_eq] using hw
    · rw [line_eq]
      have e0 : ((cfg0.win 3).blk t).view.emb (ix2 r 0) 0 = row t r := Fin.ext (by
        show win0_3.index t (0 : Fin 2) * 512 + 1 * r.val = _
        rw [(idx t).2.2.2]; show t.val * 512 + 1 * r.val = t.val * 512 + r.val; omega)
      show _ = scale (line _ _ (((cfg0.win 3).blk t).view.emb (ix2 r 0) 0))
      rw [e0]
  · have h0 : (i 0).val < 24576 := (i 0).isLt
    have h1 : (i 1).val < 1 := (i 1).isLt
    rw [mem_blk3, (idx _).2.2.2]
    intro a
    match a with
    | ⟨0, _⟩ => show (i 0).val / 512 * 512 ≤ (i 0).val ∧ (i 0).val < (i 0).val / 512 * 512 + 512; omega
    | ⟨1, _⟩ => show 0 * 1 ≤ (i 1).val ∧ (i 1).val < 0 * 1 + 1; omega

/-- THE RUN: it leaves the codes and the scales of the normalised rows, and the arguments unchanged. -/
theorem run (ρ : Dev nD → PrngReg) (hw : ∀ c : Dev nD, Fits fun k => m ((c.tc : Thread nD τ).loc main_arg1) (ix1 k)) :
    θ_run defs (onTc (τ := τ) (main (F := Ideal))) ⟨m, fun _ => 0, ρ⟩ fun r => ∀ c : Dev nD,
      r.2.mem ((c.tc : Thread nD τ).loc main_v2_0) = (fun i => code (line (m ((c.tc : Thread nD τ).loc main_arg0)) (m ((c.tc : Thread nD τ).loc main_arg1)) (i 0)) (i 1))
      ∧ r.2.mem ((c.tc : Thread nD τ).loc main_v2_1) = (fun i => scale (line (m ((c.tc : Thread nD τ).loc main_arg0)) (m ((c.tc : Thread nD τ).loc main_arg1)) (i 0)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 2).trans (codes_eq m c (hw c)), ((h c).1 3).trans (scales_eq m c (hw c)),
    ((h c).2 main_arg0 (Pipeline.mem_restRefs_of main_arg0 (by decide) (by decide))).trans (V_main_arg0 m c),
    ((h c).2 main_arg1 (Pipeline.mem_restRefs_of main_arg1 (by decide) (by decide))).trans (V_main_arg1 m c)⟩) (run_main m ρ)

end Cert.XnIdeal.Kernel

end
-- ==== Proof.XnReference.lean ====
/- THE RESULTS OF THE REFERENCE OF THE NORMALISATION CALL: every row is the row of `x`, normalised and quantised
   (Norm.lean). -/
module

public import proofs.«01_k».proof.Proof.Gen.XnRefIdeal.Run
public import proofs.«01_k».proof.Proof.Gen.XnRefIdeal.Read
public import proofs.«01_k».proof.Proof.Norm
public import Idealize.ShloMosaic.Lib.Pipeline.ValueKit
public import Idealize.ShloMosaic.Lib.Pointwise

@[expose] public section

noncomputable section

namespace Cert.XnRefIdeal.Reference

open Cert.XnRefIdeal Cert.XnRefIdeal.Gen Cert.XnRefIdeal.Read Idealize.ShloMosaic Idealize.ShloMosaic.TcCoe Idealize.SL.Sem
open Cert.Norm

variable (x0 : (⟨S16x1536x2048, .bf16⟩ : BufTy).Contents (Elt Ideal)) (x1 : (⟨S2048, .f32⟩ : BufTy).Contents (Elt Ideal))

/-- The normalised row `R`. -/
abbrev line (x : S16x1536x2048.Idx → EReal) (w : S2048.Idx → EReal) (R : Fin 24576) : Fin 2048 → EReal := normed (xRow x R) (fun k => w (ix1 k))

/-- The rows of the argument. -/
theorem x_eq (r : Fin 24576) (k : Fin 2048) : val_main_v1 (F := Ideal) x0 (ix2 r k) = xRow x0 r k := by
  unfold xRow
  pointwise [val_main_v1, val_main_v0]

/-- The mean of the squares of a row, plus the small number. -/
theorem mean_eq (r : Fin 24576) : val_main_v8 (F := Ideal) x0 (ix2 r 0)
    = Ideal.div (∑ k, xRow x0 r k * xRow x0 r k) (Ideal.ofBits .f32 0x45000000#32) + Ideal.ofBits .f32 0x3727C5AC#32 := by
  pointwise [val_main_v8, val_main_v7, val_main_v6, val_main_v5, val_main_v4, val_main_v3, val_main_v2, val_main_cst, val_main_cst_0, val_main_cst_1]
  simp only [x_eq]

theorem normed_eq (r : Fin 24576) (k : Fin 2048) : val_main_v14 (F := Ideal) x0 x1 (ix2 r k) = line x0 x1 r k := by
  pointwise [val_main_v14, val_main_v13, val_main_v12, val_main_v11, val_main_v10, val_main_v9]
  rw [mean_eq, x_eq]
  rfl

/-- The largest magnitude of a row's numbers. -/
theorem max_eq (r : Fin 24576) : val_main_v16 (F := Ideal) x0 x1 (ix1 r)
    = Finset.fold max (Ideal.ofBits .f32 0xFF800000#32) (fun k => mabs (line x0 x1 r k)) Finset.univ := by
  simp only [← normed_eq]
  pointwise [val_main_v16]
  rfl

/-- The magnitude of a row. -/
theorem mag_eq (r : Fin 24576) : val_main_v18 (F := Ideal) x0 x1 (ix1 r) = mag (line x0 x1 r) := by
  unfold mag
  rw [← max_eq, val_main_v18_apply, val_main_v17_apply]
  generalize val_main_v16 (F := Ideal) x0 x1 (ix1 r) = y
  rfl

/-- The exponent of a row. -/
theorem expo_eq (r : Fin 24576) : val_main_v32 (F := Ideal) x0 x1 (ix1 r) = Scale.expoQ (mag (line x0 x1 r)) := by
  rw [← mag_eq, val_main_v32_apply, val_main_v31_apply, val_main_v30_apply, val_main_v28_apply, val_main_v29_apply, val_main_v27_apply,
    val_main_call0_v1_apply, val_main_call0_v0_apply, val_main_v26_apply, val_main_v25_apply, val_main_v24_apply, val_main_v23_apply,
    val_main_v22_apply, val_main_v21_apply, val_main_v20_apply, val_main_v19_apply]
  unfold Scale.expoQ
  generalize val_main_v18 (F := Ideal) x0 x1 (ix1 r) = y
  rfl

/-- The scale of a row. -/
theorem scale_eq (r : Fin 24576) : val_main_v44 (F := Ideal) x0 x1 (ix2 r 0) = scale (line x0 x1 r) := by
  have i : idx_main_v44 (ix2 r (0 : Fin 1)) = ix1 r := by funext d; fin_cases d; rfl
  unfold scale
  rw [← Scale.power_eq, ← expo_eq, val_main_v44_apply, i, val_main_v43_1_apply, val_main_v34_apply, val_main_v33_apply]
  generalize val_main_v32 (F := Ideal) x0 x1 (ix1 r) = y
  rfl

/-- The inverse scale of a row. -/
theorem inv_eq (r : Fin 24576) : val_main_v37 (F := Ideal) x0 x1 (ix1 r)
    = Ideal.exp2 (Ideal.ofBits .f32 0x00000000#32 - Scale.expoF Scale.log2e (mag (line x0 x1 r))) := by
  rw [← Scale.inverse_eq, ← expo_eq, val_main_v37_apply, val_main_v36_apply, val_main_v35_apply]
  generalize val_main_v32 (F := Ideal) x0 x1 (ix1 r) = y
  rfl

/-- The codes of a row. -/
theorem code_eq (r : Fin 24576) (k : Fin 2048) : val_main_v43_0 (F := Ideal) x0 x1 (ix2 r k) = code (line x0 x1 r) k := by
  have i : idx_main_v38 (idx_main_v39 (ix2 r k)) = ix1 r := by funext d; fin_cases d; rfl
  unfold code
  rw [← inv_eq, ← normed_eq, val_main_v43_0_apply, val_main_v42_apply, val_main_v41_apply, val_main_call1_v4_apply, val_main_call1_v3_apply,
    val_main_call1_v2_apply, val_main_call1_v1_apply, val_main_call1_v0_apply, val_main_v40_apply, val_main_v39_apply, val_main_v38_apply, i]
  generalize val_main_v37 (F := Ideal) x0 x1 (ix1 r) = y
  generalize val_main_v14 (F := Ideal) x0 x1 (ix2 r k) = z
  rfl

variable (m : (ℓ : Loc nD τ sig) → Buf (Elt Ideal) ℓ)

/-- THE RUN: it leaves the codes and the scales of the normalised rows, and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v43_0) = (fun i => code (line (m ((c.tc : Thread nD τ).loc main_arg0)) (m ((c.tc : Thread nD τ).loc main_arg1)) (i 0)) (i 1))
      ∧ r.2.mem ((c.tc : Thread nD τ).loc main_v44) = (fun i => scale (line (m ((c.tc : Thread nD τ).loc main_arg0)) (m ((c.tc : Thread nD τ).loc main_arg1)) (i 0)))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2.1.trans ?_, (h c).2.2⟩) (Value.run m ρ)
  · rw [val_main_v43_0_eq]
    funext i
    obtain ⟨r, k, rfl⟩ : ∃ (r : Fin 24576) (k : Fin 2048), i = ix2 r k := ⟨i 0, i 1, eq_ix2 i⟩
    exact code_eq _ _ r k
  · rw [val_main_v44_eq]
    funext i
    obtain ⟨r, rfl⟩ : ∃ (r : Fin 24576), i = ix2 r 0 := ⟨i 0, (eq_ix2 i).trans (congrArg (ix2 (i 0)) (Subsingleton.elim _ _))⟩
    exact scale_eq _ _ r

/-- The run ends, the arguments are unchanged, and every counter is zero: the program has no semaphore. -/
theorem frame (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 := by
  refine (θ_run defs _ _).mono (fun r h => ⟨fun c => (h c).2.2, funext fun g => ?_⟩) (Value.run m ρ)
  obtain ⟨t, s⟩ := g
  cases s with
  | reg s => exact s.elim0
  | dma s => exact s.elim0

end Cert.XnRefIdeal.Reference

end
-- ==== Proof.XnAgree.lean ====
/- THE VALUE CLAIM of the normalisation call: from equal arguments, every weight of the norm in the range of the 32-bit
   floats or infinite, the kernel and the reference end with equal codes and equal scales over the extended reals. -/
module

public import proofs.«01_k».proof.Defs
public import proofs.«01_k».proof.Proof.Gen.Pre_xn_weights_float
public import proofs.«01_k».proof.Proof.XnKernel
public import proofs.«01_k».proof.Proof.XnReference

@[expose] public section

noncomputable section

namespace Cert.XnAgree

open Idealize.ShloMosaic Idealize.ShloMosaic.TcCoe Idealize.SL.Sem
open Cert.Norm

section Weights

open Cert.Pre_xn_weights_float

/-- The precondition at a weight. -/
theorem fits (a0 : FVec Ideal S16x1536x2048 .bf16) (a1 : FVec Ideal S2048 .f32) (h : fn (F := Ideal) a0 a1 = fun _ => 1#1) :
    Fits fun k => a1 (ix1 k) := by
  intro k
  have e : fn (F := Ideal) a0 a1 (ix1 k) = IntOp.ori (BitVec.ofBool (decide (mabs (a1 (ix1 k)) ≤ Ideal.ofBits .f32 0x7F7FFFFF#32)))
      (BitVec.ofBool (decide (mabs (a1 (ix1 k)) = Ideal.ofBits .f32 0x7F800000#32))) := by
    pointwise [fn]
    rfl
  rw [h] at e
  exact or_of_ori _ _ e.symm

end Weights

theorem algebraic : algebraic_XnIdeal_XnRefIdeal_pre_xn_weights_float := by
  intro m g m' g' hpre hagree
  refine ⟨_, _, Cert.XnIdeal.Kernel.run m g fun c => fits _ _ (hpre c), ?_⟩
  refine (θ_run Cert.XnRefIdeal.defs _ _).mono (fun r h c => ⟨(h c).1.trans ?_, (h c).2.1.trans ?_, (h c).2.2⟩) (Cert.XnRefIdeal.Reference.run m' g')
  · rw [(hagree c).1, (hagree c).2]
    rfl
  · rw [(hagree c).1, (hagree c).2]
    rfl

end Cert.XnAgree

end
-- ==== Proof.Hidden.lean ====
/- THE MATHEMATICS OF A ROW OF THE HIDDEN STATE; no program is mentioned here. -/
module

public import proofs.«01_k».proof.Proof.Norm

@[expose] public section

noncomputable section

namespace Cert.Hidden

/-- A row of the hidden state: the residual row `x`, plus the dot products of a row of codes with the columns of the
    weights, times the scale of the row and the scale of the column. -/
def hid (a : Fin 8192 → EReal) (s : EReal) (W : Fin 8192 → Fin 2048 → EReal) (sd x : Fin 2048 → EReal) (k : Fin 2048) : EReal :=
  x k + (∑ j, a j * W j k) * s * sd k

end Cert.Hidden

end
-- ==== Proof.DownKernel.lean ====
/- THE RESULTS OF THE DOWN CALL: every row of the hidden state (Hidden.lean), and every row of the array of codes and of the
   array of scales, which is the row of the hidden state, normalised and quantised (Norm.lean). A grid point makes 512
   rows. -/
module

public import proofs.«01_k».proof.Proof.Gen.DownIdeal.Frame
public import proofs.«01_k».proof.Proof.Hidden
public import Idealize.ShloMosaic.Lib.Pipeline.ValueKit
public import Idealize.ShloMosaic.Lib.Pointwise

@[expose] public section

noncomputable section

namespace Cert.DownIdeal.Kernel

open Cert.DownIdeal Cert.DownIdeal.Gen Idealize.ShloMosaic Idealize.ShloMosaic.TcCoe Idealize.SL.Sem
open Cert.Norm Cert.Hidden

section Block

variable (A : Vec Ideal S512x8192 .fp8e4m3) (W : Vec Ideal S8192x2048 .fp8e4m3) (s : Vec Ideal S512x1 .f32) (sd : Vec Ideal S1x2048 .f32)
  (x : Vec Ideal S512x2048 .bf16) (w : Vec Ideal S1x2048 .f32)

/-- A row of the block's hidden state. -/
abbrev hidOf (r : Fin 512) : Fin 2048 → EReal :=
  hid (fun j => A (ix2 r j)) (s (ix2 r 0)) (fun j k => W (ix2 j k)) (fun k => sd (ix2 0 k)) (fun k => x (ix2 r k))

/-- The same row, normalised. -/
abbrev rowOf (r : Fin 512) : Fin 2048 → EReal := normed (hidOf A W s sd x r) (fun k => w (ix2 0 k))

theorem hid_eq (r : Fin 512) (k : Fin 2048) : k0_pay4 (F := Ideal) A W s sd x (ix2 r k) = hidOf A W s sd x r k := by
  pointwise [k0_pay4]
  rfl

theorem normed_eq (r : Fin 512) (k : Fin 2048) : k0_pay5 (F := Ideal) A W s sd x w (ix2 r k) = rowOf A W s sd x w r k := by
  pointwise [k0_pay5]
  simp only [hid_eq]
  rfl

theorem mag_eq (r : Fin 512) : k0_pay6 (F := Ideal) A W s sd x w (ix2 r 0) = mag (rowOf A W s sd x w r) := by
  pointwise [k0_pay6]
  simp only [normed_eq]
  rfl

theorem expo_eq (y : FVec Ideal S512x1 .f32) (r : Fin 512) :
    k0_pay1 (F := Ideal) y (iota .tc S512x256 32 [1] iota_S512x256_d1_w32) 23#32 (ix2 r 0) = Scale.expo (y (ix2 r 0)) := by
  pointwise [k0_pay1]
  rfl

theorem scale_pay (y : FVec Ideal S512x1 .f32) (i : IVec S512x256 32) (b : BitVec 32) (r : Fin 512) :
    k0_pay2 (F := Ideal) y i b (ix2 r 0) = Scale.pow (IntOp.addi (k0_pay1 (F := Ideal) y i b (ix2 r 0)) 127#32) := by
  pointwise [k0_pay2]
  rfl

theorem code_pay (v : FVec Ideal S512x2048 .f32) (y : FVec Ideal S512x1 .f32) (i : IVec S512x256 32) (b : BitVec 32) (r : Fin 512) (k : Fin 2048) :
    k0_pay3 (F := Ideal) v y i b (ix2 r k) = min (Ideal.ofBits .f32 0x43E00000#32) (max (Ideal.ofBits .f32 0xC3E00000#32)
      (v (ix2 r k) * Scale.pow (IntOp.subi 127#32 (k0_pay1 (F := Ideal) y i b (ix2 r 0))))) := by
  pointwise [k0_pay3]
  rfl

/-- A block of the hidden state. -/
theorem hid_block (r : Fin 512) (k : Fin 2048) : out0_6 (F := Ideal) A s W sd x w (ix2 r k) = hidOf A W s sd x r k := by
  frame_out
  exact hid_eq _ _ _ _ _ r k

/-- A block of codes. -/
theorem codes_block (hw : Fits fun k => w (ix2 0 k)) (r : Fin 512) (k : Fin 2048) :
    out0_7 (F := Ideal) A s W sd x w (ix2 r k) = code (rowOf A W s sd x w r) k := by
  frame_out
  unfold k0_pay8 k0_pay7
  frame_out
  rw [code_pay, expo_eq, normed_eq, mag_eq, Scale.inv_eq _ (mag_bound _ _ hw)]
  rfl

/-- A block of scales. -/
theorem scales_block (hw : Fits fun k => w (ix2 0 k)) (r : Fin 512) :
    out0_8 (F := Ideal) A s W sd x w (ix2 r 0) = scale (rowOf A W s sd x w r) := by
  frame_out
  unfold k0_pay8 k0_pay7
  frame_out
  rw [scale_pay, expo_eq, mag_eq, Scale.scale_eq _ (mag_bound _ _ hw)]
  rfl

end Block

end Cert.DownIdeal.Kernel

end
-- ==== Proof.DownArrays.lean ====
/- THE ARRAYS THE DOWN CALL LEAVES: the blocks of the grid points (DownKernel.lean) put together, and the run. -/
module

public import proofs.«01_k».proof.Proof.DownKernel

@[expose] public section

noncomputable section

namespace Cert.DownIdeal.Kernel

open Cert.DownIdeal Cert.DownIdeal.Gen Idealize.ShloMosaic Idealize.ShloMosaic.TcCoe Idealize.SL.Sem
open Cert.Norm Cert.Hidden

variable (m : (ℓ : Loc nD τ sig) → Buf (Elt Ideal) ℓ) (c : Dev nD)

/-- The blocks a grid point reads. -/
theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![0, 0] := by
  decide +kernel

/-- The blocks a grid point writes, every one of them when the point is done. -/
theorem idxOut : ∀ t : Fin cfg0.N, (win0_6.index t = ![t.val, 0] ∧ win0_7.index t = ![t.val, 0] ∧ win0_8.index t = ![t.val, 0])
    ∧ win0_6.flush t = true ∧ win0_7.flush t = true ∧ win0_8.flush t = true := by
  decide +kernel

theorem row_lt (t : Fin cfg0.N) (r : Fin 512) : t.val * 512 + r.val < 24576 := by have := lt_of_lt_of_eq t.isLt N_0; omega

/-- The array row of a block row. -/
abbrev row (t : Fin cfg0.N) (r : Fin 512) : Fin 24576 := ⟨t.val * 512 + r.val, row_lt t r⟩

/-- Row `R` of the hidden state, from the arguments. -/
abbrev hidden (R : Fin 24576) : Fin 2048 → EReal :=
  hid (fun j => m ((c.tc : Thread nD τ).loc main_arg0) (ix2 R j)) (m ((c.tc : Thread nD τ).loc main_arg1) (ix2 R 0))
    (fun j k => m ((c.tc : Thread nD τ).loc main_arg2) (ix2 j k)) (fun k => m ((c.tc : Thread nD τ).loc main_arg3) (ix1 k))
    (xRow (m ((c.tc : Thread nD τ).loc main_arg4)) R)

/-- The same row, normalised. -/
abbrev line (R : Fin 24576) : Fin 2048 → EReal := normed (hidden m c R) (fun k => m ((c.tc : Thread nD τ).loc main_arg5) (ix1 k))

theorem a_eq (t : Fin cfg0.N) (r : Fin 512) (j : Fin 8192) : iblk m c 0 t (ix2 r j) = m ((c.tc : Thread nD τ).loc main_arg0) (ix2 (row t r) j) := by
  blk_ext! [iblk, V, (idx t).1]

theorem s_eq (t : Fin cfg0.N) (r : Fin 512) : iblk m c 1 t (ix2 r 0) = m ((c.tc : Thread nD τ).loc main_arg1) (ix2 (row t r) 0) := by
  blk_ext! [iblk, V, (idx t).2.1]

theorem W_eq (t : Fin cfg0.N) (j : Fin 8192) (k : Fin 2048) : iblk m c 2 t (ix2 j k) = m ((c.tc : Thread nD τ).loc main_arg2) (ix2 j k) := by
  blk_ext! [iblk, V, (idx t).2.2.1]

theorem sd_eq (t : Fin cfg0.N) (k : Fin 2048) : iblk m c 3 t (ix2 0 k) = m ((c.tc : Thread nD τ).loc main_arg3) (ix1 k) := by
  blk_ext! [iblk, V, (idx t).2.2.2.1]

theorem x_eq (t : Fin cfg0.N) (r : Fin 512) (k : Fin 2048) : iblk m c 4 t (ix2 r k) = xRow (m ((c.tc : Thread nD τ).loc main_arg4)) (row t r) k := by
  unfold xRow
  blk_ext! [iblk, V, (idx t).2.2.2.2.1]

theorem w_eq (t : Fin cfg0.N) (k : Fin 2048) : iblk m c 5 t (ix2 0 k) = m ((c.tc : Thread nD τ).loc main_arg5) (ix1 k) := by
  blk_ext! [iblk, V, (idx t).2.2.2.2.2]

theorem hidden_eq (t : Fin cfg0.N) (r : Fin 512) :
    hidOf (iblk m c 0 t) (iblk m c 2 t) (iblk m c 1 t) (iblk m c 3 t) (iblk m c 4 t) r = hidden m c (row t r) := by
  unfold hidOf hidden
  simp only [a_eq, s_eq, W_eq, sd_eq, x_eq]

theorem line_eq (t : Fin cfg0.N) (r : Fin 512) :
    rowOf (iblk m c 0 t) (iblk m c 2 t) (iblk m c 1 t) (iblk m c 3 t) (iblk m c 4 t) (iblk m c 5 t) r = line m c (row t r) := by
  unfold rowOf line
  rw [hidden_eq]
  simp only [w_eq]

/-- The grid point that makes row `R`. -/
theorem pt_lt (R : ℕ) (h : R < 24576) : R / 512 < cfg0.N := lt_of_lt_of_eq (by omega) N_0.symm

theorem mem_blk6 (t : Fin cfg0.N) (i : S24576x2048.Idx) :
    i ∈ ((cfg0.win 6).blk t).view.set ↔ ∀ a : Fin 2, win0_6.index t a * S512x2048.size a ≤ (i a).val ∧ (i a).val < win0_6.index t a * S512x2048.size a + S512x2048.size a := by
  show i ∈ ((View.whole main_v3_0).slice (win0_6.rect t)).set ↔ _
  rw [View.set_slice_whole, Rect.mem_set_unit]
  exact Iff.rfl

theorem mem_blk7 (t : Fin cfg0.N) (i : S24576x2048.Idx) :
    i ∈ ((cfg0.win 7).blk t).view.set ↔ ∀ a : Fin 2, win0_7.index t a * S512x2048.size a ≤ (i a).val ∧ (i a).val < win0_7.index t a * S512x2048.size a + S512x2048.size a := by
  show i ∈ ((View.whole main_v3_1).slice (win0_7.rect t)).set ↔ _
  rw [View.set_slice_whole, Rect.mem_set_unit]
  exact Iff.rfl

theorem mem_blk8 (t : Fin cfg0.N) (i : S24576x1.Idx) :
    i ∈ ((cfg0.win 8).blk t).view.set ↔ ∀ a : Fin 2, win0_8.index t a * S512x1.size a ≤ (i a).val ∧ (i a).val < win0_8.index t a * S512x1.size a + S512x1.size a := by
  show i ∈ ((View.whole main_v3_2).slice (win0_8.rect t)).set ↔ _
  rw [View.set_slice_whole, Rect.mem_set_unit]
  exact Iff.rfl

/-- THE HIDDEN STATE. -/
theorem hid_array : (dats m 0 c).arrAt 6 cfg0.N = fun i => hidden m c (i 0) (i 1) := by
  refine (dats m 0 c).arrAt_eq_of_cover 6 _ (fun t _ => ?_) (fun i => ⟨⟨(i 0).val / 512, pt_lt _ (i 0).isLt⟩, (idxOut _).2.1, ?_⟩)
  · show (cfg0.win 6).cut (grid0.coords t) ((dats m 0 c).after 6 t) = _
    rw [after0_6]
    funext y
    obtain ⟨r, k, rfl⟩ : ∃ (r : Fin 512) (k : Fin 2048), y = ix2 r k := ⟨y 0, y 1, eq_ix2 y⟩
    refine (hid_block _ _ _ _ _ _ r k).trans ?_
    · rw [hidden_eq]
      have e0 : ((cfg0.win 6).blk t).view.emb (ix2 r k) 0 = row t r := Fin.ext (by
        show win0_6.index t (0 : Fin 2) * 512 + 1 * r.val = _
        rw [(idxOut t).1.1]; show t.val * 512 + 1 * r.val = t.val * 512 + r.val; omega)
      have e1 : ((cfg0.win 6).blk t).view.emb (ix2 r k) 1 = k := Fin.ext (by
        show win0_6.index t (1 : Fin 2) * 2048 + 1 * k.val = _
        rw [(idxOut t).1.1]; show 0 * 2048 + 1 * k.val = k.val; omega)
      show _ = hidden m c (((cfg0.win 6).blk t).view.emb (ix2 r k) 0) (((cfg0.win 6).blk t).view.emb (ix2 r k) 1)
      rw [e0, e1]
  · have h0 : (i 0).val < 24576 := (i 0).isLt
    have h1 : (i 1).val < 2048 := (i 1).isLt
    rw [mem_blk6, (idxOut _).1.1]
    intro a
    match a with
    | ⟨0, _⟩ => show (i 0).val / 512 * 512 ≤ (i 0).val ∧ (i 0).val < (i 0).val / 512 * 512 + 512; omega
    | ⟨1, _⟩ => show 0 * 2048 ≤ (i 1).val ∧ (i 1).val < 0 * 2048 + 2048; omega

/-- THE ARRAY OF CODES. -/
theorem codes_array (hw : Fits fun k => m ((c.tc : Thread nD τ).loc main_arg5) (ix1 k)) : (dats m 0 c).arrAt 7 cfg0.N = fun i => code (line m c (i 0)) (i 1) := by
  refine (dats m 0 c).arrAt_eq_of_cover 7 _ (fun t _ => ?_) (fun i => ⟨⟨(i 0).val / 512, pt_lt _ (i 0).isLt⟩, (idxOut _).2.2.1, ?_⟩)
  · show (cfg0.win 7).cut (grid0.coords t) ((dats m 0 c).after 7 t) = _
    rw [after0_7]
    funext y
    obtain ⟨r, k, rfl⟩ : ∃ (r : Fin 512) (k : Fin 2048), y = ix2 r k := ⟨y 0, y 1, eq_ix2 y⟩
    refine (codes_block _ _ _ _ _ _ ?_ r k).trans ?_
    · simpa only [w_eq] using hw
    · rw [line_eq]
      have e0 : ((cfg0.win 7).blk t).view.emb (ix2 r k) 0 = row t r := Fin.ext (by
        show win0_7.index t (0 : Fin 2) * 512 + 1 * r.val = _
        rw [(idxOut t).1.2.1]; show t.val * 512 + 1 * r.val = t.val * 512 + r.val; omega)
      have e1 : ((cfg0.win 7).blk t).view.emb (ix2 r k) 1 = k := Fin.ext (by
        show win0_7.index t (1 : Fin 2) * 2048 + 1 * k.val = _
        rw [(idxOut t).1.2.1]; show 0 * 2048 + 1 * k.val = k.val; omega)
      show _ = code (line m c (((cfg0.win 7).blk t).view.emb (ix2 r k) 0)) (((cfg0.win 7).blk t).view.emb (ix2 r k) 1)
      rw [e0, e1]
  · have h0 : (i 0).val < 24576 := (i 0).isLt
    have h1 : (i 1).val < 2048 := (i 1).isLt
    rw [mem_blk7, (idxOut _).1.2.1]
    intro a
    match a with
    | ⟨0, _⟩ => show (i 0).val / 512 * 512 ≤ (i 0).val ∧ (i 0).val < (i 0).val / 512 * 512 + 512; omega
    | ⟨1, _⟩ => show 0 * 2048 ≤ (i 1).val ∧ (i 1).val < 0 * 2048 + 2048; omega

/-- THE ARRAY OF SCALES. -/
theorem scales_array (hw : Fits fun k => m ((c.tc : Thread nD τ).loc main_arg5) (ix1 k)) : (dats m 0 c).arrAt 8 cfg0.N = fun i => scale (line m c (i 0)) := by
  refine (dats m 0 c).arrAt_eq_of_cover 8 _ (fun t _ => ?_) (fun i => ⟨⟨(i 0).val / 512, pt_lt _ (i 0).isLt⟩, (idxOut _).2.2.2, ?_⟩)
  · show (cfg0.win 8).cut (grid0.coords t) ((dats m 0 c).after 8 t) = _
    rw [after0_8]
    funext y
    obtain ⟨r, rfl⟩ : ∃ (r : Fin 512), y = ix2 r 0 := ⟨y 0, (eq_ix2 y).trans (congrArg (ix2 (y 0)) (Subsingleton.elim _ _))⟩
    refine (scales_block _ _ _ _ _ _ ?_ r).trans ?_
    · simpa only [w_eq] using hw
    · rw [line_eq]
      have e0 : ((cfg0.win 8).blk t).view.emb (ix2 r 0) 0 = row t r := Fin.ext (by
        show win0_8.index t (0 : Fin 2) * 512 + 1 * r.val = _
        rw [(idxOut t).1.2.2]; show t.val * 512 + 1 * r.val = t.val * 512 + r.val; omega)
      show _ = scale (line m c (((cfg0.win 8).blk t).view.emb (ix2 r 0) 0))
      rw [e0]
  · have h0 : (i 0).val < 24576 := (i 0).isLt
    have h1 : (i 1).val < 1 := (i 1).isLt
    rw [mem_blk8, (idxOut _).1.2.2]
    intro a
    match a with
    | ⟨0, _⟩ => show (i 0).val / 512 * 512 ≤ (i 0).val ∧ (i 0).val < (i 0).val / 512 * 512 + 512; omega
    | ⟨1, _⟩ => show 0 * 1 ≤ (i 1).val ∧ (i 1).val < 0 * 1 + 1; omega

/-- THE RUN: it leaves the hidden state, the codes and the scales, and the arguments unchanged. -/
theorem run (ρ : Dev nD → PrngReg)
    (hw : ∀ c : Dev nD, Fits fun k => m ((c.tc : Thread nD τ).loc main_arg5) (ix1 k)) :
    θ_run defs (onTc (τ := τ) (main (F := Ideal))) ⟨m, fun _ => 0, ρ⟩ fun r => ∀ c : Dev nD,
      r.2.mem ((c.tc : Thread nD τ).loc main_v3_0) = (fun i => hidden m c (i 0) (i 1))
      ∧ r.2.mem ((c.tc : Thread nD τ).loc main_v3_1) = (fun i => code (line m c (i 0)) (i 1))
      ∧ r.2.mem ((c.tc : Thread nD τ).loc main_v3_2) = (fun i => scale (line m c (i 0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h c).1 6).trans (hid_array m c), ((h c).1 7).trans (codes_array m c (hw c)), ((h c).1 8).trans (scales_array m c (hw c)),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩) (run_main m ρ)

end Cert.DownIdeal.Kernel

end
-- ==== Proof.DownReference.lean ====
/- THE RESULTS OF THE REFERENCE OF THE DOWN CALL: every row of the hidden state (Hidden.lean), and every row of codes and of
   scales, which is the row of the hidden state, normalised and quantised (Norm.lean). The dot products are the array that
   the reference's one kernel leaves. -/
module

public import proofs.«01_k».proof.Proof.Gen.DownRefIdeal.Run
public import proofs.«01_k».proof.Proof.Gen.DownRefIdeal.Read
public import proofs.«01_k».proof.Proof.Hidden
public import Idealize.ShloMosaic.Lib.Pipeline.ValueKit
public import Idealize.ShloMosaic.Lib.Pointwise

@[expose] public section

noncomputable section

namespace Cert.DownRefIdeal.Reference

open Cert.DownRefIdeal Cert.DownRefIdeal.Gen Cert.DownRefIdeal.Read Idealize.ShloMosaic Idealize.ShloMosaic.TcCoe Idealize.SL.Sem
open Cert.Norm Cert.Hidden

section Values

variable (x1 : (⟨S24576x1, .f32⟩ : BufTy).Contents (Elt Ideal)) (x3 x5 : (⟨S2048, .f32⟩ : BufTy).Contents (Elt Ideal))
  (r0 e0 : (⟨S24576x2048, .f32⟩ : BufTy).Contents (Elt Ideal))

/-- A row of the hidden state, from the dot products `r0` and the residual `e0`. -/
abbrev hidOf (r : Fin 24576) (k : Fin 2048) : EReal := e0 (ix2 r k) + r0 (ix2 r k) * x1 (ix2 r 0) * x3 (ix1 k)

/-- The same row, normalised. -/
abbrev rowOf (r : Fin 24576) : Fin 2048 → EReal := normed (hidOf x1 x3 r0 e0 r) (fun k => x5 (ix1 k))

theorem hid_eq (r : Fin 24576) (k : Fin 2048) : val_main_v9 (F := Ideal) x1 x3 r0 e0 (ix2 r k) = hidOf x1 x3 r0 e0 r k := by
  pointwise [val_main_v9, val_main_v8, val_main_v7, val_main_v6, val_main_v5, val_main_v4, val_main_v3]

theorem wide_eq (r : Fin 24576) (k : Fin 2048) : val_main_v10 (F := Ideal) x1 x3 r0 e0 (ix2 r k) = hidOf x1 x3 r0 e0 r k := hid_eq x1 x3 r0 e0 r k

/-- The mean of the squares of a row, plus the small number. -/
theorem mean_eq (r : Fin 24576) : val_main_v17 (F := Ideal) x1 x3 r0 e0 (ix2 r 0)
    = Ideal.div (∑ k, hidOf x1 x3 r0 e0 r k * hidOf x1 x3 r0 e0 r k) (Ideal.ofBits .f32 0x45000000#32) + Ideal.ofBits .f32 0x3727C5AC#32 := by
  pointwise [val_main_v17, val_main_v16, val_main_v15, val_main_v14, val_main_v13, val_main_v12, val_main_v11, val_main_cst, val_main_cst_0, val_main_cst_1]
  simp only [wide_eq]

theorem normed_eq (r : Fin 24576) (k : Fin 2048) : val_main_v23 (F := Ideal) x1 x3 x5 r0 e0 (ix2 r k) = rowOf x1 x3 x5 r0 e0 r k := by
  pointwise [val_main_v23, val_main_v22, val_main_v21, val_main_v20, val_main_v19, val_main_v18]
  rw [mean_eq, wide_eq]
  rfl

/-- The largest magnitude of a row's numbers. -/
theorem max_eq (r : Fin 24576) : val_main_v25 (F := Ideal) x1 x3 x5 r0 e0 (ix1 r)
    = Finset.fold max (Ideal.ofBits .f32 0xFF800000#32) (fun k => mabs (rowOf x1 x3 x5 r0 e0 r k)) Finset.univ := by
  simp only [← normed_eq]
  pointwise [val_main_v25]
  rfl

/-- The magnitude of a row. -/
theorem mag_eq (r : Fin 24576) : val_main_v27 (F := Ideal) x1 x3 x5 r0 e0 (ix1 r) = mag (rowOf x1 x3 x5 r0 e0 r) := by
  unfold mag
  rw [← max_eq, val_main_v27_apply, val_main_v26_apply]
  generalize val_main_v25 (F := Ideal) x1 x3 x5 r0 e0 (ix1 r) = y
  rfl

/-- The exponent of a row. -/
theorem expo_eq (r : Fin 24576) : val_main_v41 (F := Ideal) x1 x3 x5 r0 e0 (ix1 r) = Scale.expoQ (mag (rowOf x1 x3 x5 r0 e0 r)) := by
  rw [← mag_eq, val_main_v41_apply, val_main_v40_apply, val_main_v39_apply, val_main_v37_apply, val_main_v38_apply, val_main_v36_apply,
    val_main_call0_v1_apply, val_main_call0_v0_apply, val_main_v35_apply, val_main_v34_apply, val_main_v33_apply, val_main_v32_apply,
    val_main_v31_apply, val_main_v30_apply, val_main_v29_apply, val_main_v28_apply]
  unfold Scale.expoQ
  generalize val_main_v27 (F := Ideal) x1 x3 x5 r0 e0 (ix1 r) = y
  rfl

/-- The scale of a row. -/
theorem scale_eq (r : Fin 24576) : val_main_v53 (F := Ideal) x1 x3 x5 r0 e0 (ix2 r 0) = scale (rowOf x1 x3 x5 r0 e0 r) := by
  have i : idx_main_v53 (ix2 r (0 : Fin 1)) = ix1 r := by funext d; fin_cases d; rfl
  unfold scale
  rw [← Scale.power_eq, ← expo_eq, val_main_v53_apply, i, val_main_v52_1_apply, val_main_v43_apply, val_main_v42_apply]
  generalize val_main_v41 (F := Ideal) x1 x3 x5 r0 e0 (ix1 r) = y
  rfl

/-- The inverse scale of a row. -/
theorem inv_eq (r : Fin 24576) : val_main_v46 (F := Ideal) x1 x3 x5 r0 e0 (ix1 r)
    = Ideal.exp2 (Ideal.ofBits .f32 0x00000000#32 - Scale.expoF Scale.log2e (mag (rowOf x1 x3 x5 r0 e0 r))) := by
  rw [← Scale.inverse_eq, ← expo_eq, val_main_v46_apply, val_main_v45_apply, val_main_v44_apply]
  generalize val_main_v41 (F := Ideal) x1 x3 x5 r0 e0 (ix1 r) = y
  rfl

/-- The codes of a row. -/
theorem code_eq (r : Fin 24576) (k : Fin 2048) : val_main_v52_0 (F := Ideal) x1 x3 x5 r0 e0 (ix2 r k) = code (rowOf x1 x3 x5 r0 e0 r) k := by
  have i : idx_main_v47 (idx_main_v48 (ix2 r k)) = ix1 r := by funext d; fin_cases d; rfl
  unfold code
  rw [← inv_eq, ← normed_eq, val_main_v52_0_apply, val_main_v51_apply, val_main_v50_apply, val_main_call1_v4_apply, val_main_call1_v3_apply,
    val_main_call1_v2_apply, val_main_call1_v1_apply, val_main_call1_v0_apply, val_main_v49_apply, val_main_v48_apply, val_main_v47_apply, i]
  generalize val_main_v46 (F := Ideal) x1 x3 x5 r0 e0 (ix1 r) = y
  generalize val_main_v23 (F := Ideal) x1 x3 x5 r0 e0 (ix2 r k) = z
  rfl

end Values

section Region

/-- The array of all dot products of the rows of codes with the columns of the weights. -/
def dots (A : S24576x8192.Idx → EReal) (W : S8192x2048.Idx → EReal) : S24576x2048.Idx → EReal :=
  fun i => ∑ j : Fin 8192, A (ix2 (i 0) j) * W (ix2 j (i 1))

theorem pay_eq (A : Vec Ideal S24576x8192 .fp8e4m3) (W : Vec Ideal S8192x2048 .fp8e4m3) : k0_pay1 (F := Ideal) A W = dots A W := by
  funext i
  obtain ⟨r, k, rfl⟩ : ∃ r k, i = ix2 r k := ⟨i 0, i 1, eq_ix2 i⟩
  pointwise [k0_pay1]
  rfl

variable (m : (ℓ : Loc nD τ sig) → Buf (Elt Ideal) ℓ) (c : Dev nD)

/-- What the kernel that computes the products leaves. -/
theorem dots_eq : Value.reg_main_v2 m c = dots (m ((c.tc : Thread nD τ).loc main_arg0)) (m ((c.tc : Thread nD τ).loc main_arg2)) := by
  refine (dats m 0 c).arrAt_eq_of_after_last 2 t0_0 (by decide +kernel)
    (dots (m ((c.tc : Thread nD τ).loc main_arg0)) (m ((c.tc : Thread nD τ).loc main_arg2))) (fun j => ?_) (Memref.isWhole_whole _)
  blk_simp
  rw [after0_2]
  frame_out
  rw [pay_eq]
  have e0 : iblk m c 0 t0_0 = m ((c.tc : Thread nD τ).loc main_arg0) := by
    funext i
    blk_ext! [iblk, V, show win0_0.index t0_0 = ![0, 0] by decide]
  have e1 : iblk m c 1 t0_0 = m ((c.tc : Thread nD τ).loc main_arg2) := by
    funext i
    blk_ext! [iblk, V, show win0_1.index t0_0 = ![0, 0] by decide]
  rw [e0, e1]

/-- The residual, its two leading axes counted through. -/
abbrev residual (x : FVec Ideal S16x1536x2048 .bf16) : FVec Ideal S24576x2048 .f32 :=
  extf .f32 (shapeCast S24576x2048 x shapeCasts_S16x1536x2048_S24576x2048) bitsLt_bf16_f32

theorem x_eq (x : FVec Ideal S16x1536x2048 .bf16) (r : Fin 24576) (k : Fin 2048) : residual x (ix2 r k) = xRow x r k := by
  unfold xRow
  pointwise [residual]

end Region

variable (m : (ℓ : Loc nD τ sig) → Buf (Elt Ideal) ℓ) (c : Dev nD)

/-- Row `R` of the hidden state, from the arguments. -/
abbrev hidden (R : Fin 24576) : Fin 2048 → EReal :=
  hid (fun j => m ((c.tc : Thread nD τ).loc main_arg0) (ix2 R j)) (m ((c.tc : Thread nD τ).loc main_arg1) (ix2 R 0))
    (fun j k => m ((c.tc : Thread nD τ).loc main_arg2) (ix2 j k)) (fun k => m ((c.tc : Thread nD τ).loc main_arg3) (ix1 k))
    (xRow (m ((c.tc : Thread nD τ).loc main_arg4)) R)

/-- The same row, normalised. -/
abbrev line (R : Fin 24576) : Fin 2048 → EReal := normed (hidden m c R) (fun k => m ((c.tc : Thread nD τ).loc main_arg5) (ix1 k))

/-- The row of the hidden state that the reference computes, from the arguments. -/
theorem hidden_eq (r : Fin 24576) : hidOf (m ((c.tc : Thread nD τ).loc main_arg1)) (m ((c.tc : Thread nD τ).loc main_arg3))
    (dots (m ((c.tc : Thread nD τ).loc main_arg0)) (m ((c.tc : Thread nD τ).loc main_arg2)))
    (residual (m ((c.tc : Thread nD τ).loc main_arg4))) r = hidden m c r := by
  funext k
  unfold hidOf hidden hid
  rw [x_eq]
  rfl

/-- THE RUN: it leaves the hidden state, the codes and the scales, and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v9) = (fun i => hidden m c (i 0) (i 1))
      ∧ r.2.mem ((c.tc : Thread nD τ).loc main_v52_0) = (fun i => code (line m c (i 0)) (i 1))
      ∧ r.2.mem ((c.tc : Thread nD τ).loc main_v53) = (fun i => scale (line m c (i 0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨(h c).1.trans ?_, (h c).2.1.trans ?_, (h c).2.2.1.trans ?_, (h c).2.2.2⟩) (Value.run m ρ)
  · rw [val_main_v9_eq, Value.exit_main_arg1, Value.exit_main_arg3, Value.exit_main_v2, Value.exit_main_v1, dots_eq]
    funext i
    obtain ⟨r, k, rfl⟩ : ∃ (r : Fin 24576) (k : Fin 2048), i = ix2 r k := ⟨i 0, i 1, eq_ix2 i⟩
    exact (hid_eq _ _ _ _ r k).trans (congrFun (hidden_eq m c r) k)
  · rw [val_main_v52_0_eq, Value.exit_main_arg1, Value.exit_main_arg3, Value.exit_main_arg5, Value.exit_main_v2, Value.exit_main_v1, dots_eq]
    funext i
    obtain ⟨r, k, rfl⟩ : ∃ (r : Fin 24576) (k : Fin 2048), i = ix2 r k := ⟨i 0, i 1, eq_ix2 i⟩
    exact (code_eq _ _ _ _ _ r k).trans (congrArg (fun f => code (normed f _) k) (hidden_eq m c r))
  · rw [val_main_v53_eq, Value.exit_main_arg1, Value.exit_main_arg3, Value.exit_main_arg5, Value.exit_main_v2, Value.exit_main_v1, dots_eq]
    funext i
    obtain ⟨r, rfl⟩ : ∃ (r : Fin 24576), i = ix2 r 0 := ⟨i 0, (eq_ix2 i).trans (congrArg (ix2 (i 0)) (Subsingleton.elim _ _))⟩
    exact (scale_eq _ _ _ _ _ r).trans (congrArg (fun f => scale (normed f _)) (hidden_eq m c r))

end Cert.DownRefIdeal.Reference

end
-- ==== Proof.DownAgree.lean ====
/- THE VALUE CLAIM of the down call: from equal arguments, every weight of the norm in the range of the 32-bit
   floats or infinite, the kernel and the reference end with equal hidden states, codes and scales over the extended reals. -/
module

public import proofs.«01_k».proof.Defs
public import proofs.«01_k».proof.Proof.Gen.Pre_down_weights_float
public import proofs.«01_k».proof.Proof.DownArrays
public import proofs.«01_k».proof.Proof.DownReference

@[expose] public section

noncomputable section

namespace Cert.DownAgree

open Idealize.ShloMosaic Idealize.ShloMosaic.TcCoe Idealize.SL.Sem
open Cert.Norm

section Weights

open Cert.Pre_down_weights_float

/-- The precondition at a weight. -/
theorem fits (a0 : FVec Ideal S24576x8192 .fp8e4m3) (a1 : FVec Ideal S24576x1 .f32) (a2 : FVec Ideal S8192x2048 .fp8e4m3) (a3 : FVec Ideal S2048 .f32)
    (a4 : FVec Ideal S16x1536x2048 .bf16) (a5 : FVec Ideal S2048 .f32) (h : fn (F := Ideal) a0 a1 a2 a3 a4 a5 = fun _ => 1#1) : Fits fun k => a5 (ix1 k) := by
  intro k
  have e : fn (F := Ideal) a0 a1 a2 a3 a4 a5 (ix1 k) = IntOp.ori (BitVec.ofBool (decide (mabs (a5 (ix1 k)) ≤ Ideal.ofBits .f32 0x7F7FFFFF#32)))
      (BitVec.ofBool (decide (mabs (a5 (ix1 k)) = Ideal.ofBits .f32 0x7F800000#32))) := by
    pointwise [fn]
    rfl
  rw [h] at e
  exact or_of_ori _ _ e.symm

end Weights

/-- From equal arguments the two programs make the same rows of the hidden state. -/
theorem hidden_agree (m : (ℓ : Loc Cert.DownIdeal.nD Cert.DownIdeal.τ Cert.DownIdeal.sig) → Buf (Elt Ideal) ℓ)
    (m' : (ℓ : Loc Cert.DownRefIdeal.nD Cert.DownRefIdeal.τ Cert.DownRefIdeal.sig) → Buf (Elt Ideal) ℓ) (c : Dev Cert.DownIdeal.nD)
    (h0 : m' ((c.tc : Thread Cert.DownRefIdeal.nD Cert.DownRefIdeal.τ).loc Cert.DownRefIdeal.main_arg0) = m ((c.tc : Thread Cert.DownIdeal.nD Cert.DownIdeal.τ).loc Cert.DownIdeal.main_arg0))
    (h1 : m' ((c.tc : Thread Cert.DownRefIdeal.nD Cert.DownRefIdeal.τ).loc Cert.DownRefIdeal.main_arg1) = m ((c.tc : Thread Cert.DownIdeal.nD Cert.DownIdeal.τ).loc Cert.DownIdeal.main_arg1))
    (h2 : m' ((c.tc : Thread Cert.DownRefIdeal.nD Cert.DownRefIdeal.τ).loc Cert.DownRefIdeal.main_arg2) = m ((c.tc : Thread Cert.DownIdeal.nD Cert.DownIdeal.τ).loc Cert.DownIdeal.main_arg2))
    (h3 : m' ((c.tc : Thread Cert.DownRefIdeal.nD Cert.DownRefIdeal.τ).loc Cert.DownRefIdeal.main_arg3) = m ((c.tc : Thread Cert.DownIdeal.nD Cert.DownIdeal.τ).loc Cert.DownIdeal.main_arg3))
    (h4 : m' ((c.tc : Thread Cert.DownRefIdeal.nD Cert.DownRefIdeal.τ).loc Cert.DownRefIdeal.main_arg4) = m ((c.tc : Thread Cert.DownIdeal.nD Cert.DownIdeal.τ).loc Cert.DownIdeal.main_arg4)) (R : Fin 24576) :
    Cert.DownRefIdeal.Reference.hidden m' c R = Cert.DownIdeal.Kernel.hidden m c R := by
  unfold Cert.DownRefIdeal.Reference.hidden
  rw [h0, h1, h2, h3, h4]

theorem algebraic : algebraic_DownIdeal_DownRefIdeal_pre_down_weights_float := by
  intro m g m' g' hpre hagree
  refine ⟨_, _, _, Cert.DownIdeal.Kernel.run m g fun c => fits _ _ _ _ _ _ (hpre c), ?_⟩
  have hh := fun c R => hidden_agree m m' c (hagree c).1 (hagree c).2.1 (hagree c).2.2.1 (hagree c).2.2.2.1 (hagree c).2.2.2.2.1 R
  have hl : ∀ c R, Cert.DownRefIdeal.Reference.line m' c R = Cert.DownIdeal.Kernel.line m c R := fun c R => by
    unfold Cert.DownRefIdeal.Reference.line
    rw [hh, (hagree c).2.2.2.2.2]
  refine (θ_run Cert.DownRefIdeal.defs _ _).mono (fun r h c => ⟨(h c).1.trans ?_, (h c).2.1.trans ?_, (h c).2.2.1.trans ?_, (h c).2.2.2⟩)
    (Cert.DownRefIdeal.Reference.run m' g')
  · funext i
    exact congrFun (hh c (i 0)) (i 1)
  · funext i
    exact congrArg (fun f => code f (i 1)) (hl c (i 0))
  · funext i
    exact congrArg scale (hl c (i 0))

end Cert.DownAgree

end
-- ==== Proof.GateUpPre.lean ====
/- THE PRECONDITION of the gate-up call, read: its six bounds, entry by entry. -/
module

public import proofs.«01_k».proof.Proof.Gen.Pre_gate_up_bounded
public import proofs.«01_k».proof.Proof.Norm

@[expose] public section

noncomputable section

namespace Cert.GateUpAgree

open Idealize.ShloMosaic
open Cert.Norm (mabs)
open Cert.Pre_gate_up_bounded Cert.Pre_gate_up_bounded.Facts

theorem and_one (p q : BitVec 1) (h : IntOp.andi p q = 1#1) : p = 1#1 ∧ q = 1#1 := by
  rcases BitVec.eq_zero_or_eq_one p with rfl | rfl <;> rcases BitVec.eq_zero_or_eq_one q with rfl | rfl <;> revert h <;> decide

theorem of_ole (x y : EReal) {inst : Decidable (x ≤ y)} (h : BitVec.ofBool (@decide (x ≤ y) inst) = 1#1) : x ≤ y := by
  by_contra hn
  rw [decide_eq_false hn] at h
  exact absurd h (by decide)

theorem b448 : Ideal.ofBits .f32 0x43E00000#32 = ((448 : ℝ) : EReal) := by
  simp [Ideal.ofBits, Ideal.ieee]
  rw [← EReal.coe_mul]
  norm_num

theorem b65536 : Ideal.ofBits .f32 0x47800000#32 = ((65536 : ℝ) : EReal) := by
  simp [Ideal.ofBits, Ideal.ieee]
  rw [← EReal.coe_mul]
  norm_num

/-- The conjunction of two words of one bit at an index. -/
theorem and_at {s : Shape} (p q : IVec s 1) (j : s.Idx) (h : andi p q j = 1#1) : p j = 1#1 ∧ q j = 1#1 := and_one _ _ h

/-- An array whose greatest magnitude is at most `c` has every entry at most `c` in magnitude. -/
theorem each_le {s t u : Shape} {axes : List (Fin s.rank)} (x : FVec Ideal s .f32) (init : FVec Ideal u .f32) (c : FVec Ideal t .f32)
    (h : s.ReducesTo axes t) (hu : 0 < u.numel) (j : t.Idx) (hj : ∀ j' : t.Idx, j' = j)
    (e : cmpf .ole (Host.reduce FloatOps.maximumf (Host.absf x) init h hu) c j = 1#1) (i : s.Idx) : mabs (x i) ≤ c j := by
  have e' : Host.reduce (max : EReal → EReal → EReal) (Host.absf x) init h hu j ≤ c j := of_ole _ _ e
  rw [Host.reduce_eq_fold] at e'
  exact ((Finset.fold_max_le _).1 e').2 i (Finset.mem_filter.2 ⟨Finset.mem_univ _, hj _⟩)

theorem ix0_only (j : S_.Idx) : j = ix0 := by
  funext k
  exact k.elim0

variable (a0 : FVec Ideal S24576x2048 .f32) (a1 : FVec Ideal S24576x1 .f32) (a2 : FVec Ideal S2048x8192 .f32) (a3 : FVec Ideal S8192 .f32)
  (a4 : FVec Ideal S2048x8192 .f32) (a5 : FVec Ideal S8192 .f32)

/-- The precondition, its six bounds apart. -/
theorem split (h : fn (F := Ideal) a0 a1 a2 a3 a4 a5 = fun _ => 1#1) :
    (∀ k : Fin 24576 × Fin 2048, mabs (a0 (ix2 k.1 k.2)) ≤ ((448 : ℝ) : EReal)) ∧ (∀ k : Fin 2048 × Fin 8192, mabs (a2 (ix2 k.1 k.2)) ≤ ((448 : ℝ) : EReal))
      ∧ (∀ k : Fin 2048 × Fin 8192, mabs (a4 (ix2 k.1 k.2)) ≤ ((448 : ℝ) : EReal)) ∧ (∀ k : Fin 24576 × Fin 1, mabs (a1 (ix2 k.1 k.2)) ≤ ((65536 : ℝ) : EReal))
      ∧ (∀ k : Fin 8192, mabs (a3 (ix1 k)) ≤ ((65536 : ℝ) : EReal)) ∧ (∀ k : Fin 8192, mabs (a5 (ix1 k)) ≤ ((65536 : ℝ) : EReal)) := by
  have e := congrFun h ix0
  unfold fn fn_part1 at e
  dsimp only at e
  obtain ⟨e, h5⟩ := and_at _ _ _ e
  obtain ⟨e, h3⟩ := and_at _ _ _ e
  obtain ⟨e, h1⟩ := and_at _ _ _ e
  obtain ⟨e, h4⟩ := and_at _ _ _ e
  obtain ⟨h0, h2⟩ := and_at _ _ _ e
  exact ⟨fun k => (each_le _ _ _ reducesTo_S24576x2048_S_d0_1 h_S_ _ ix0_only h0 (ix2 k.1 k.2)).trans_eq b448, fun k => (each_le _ _ _ reducesTo_S2048x8192_S_d0_1 h_S_ _ ix0_only h2 (ix2 k.1 k.2)).trans_eq b448,
    fun k => (each_le _ _ _ reducesTo_S2048x8192_S_d0_1 h_S_ _ ix0_only h4 (ix2 k.1 k.2)).trans_eq b448, fun k => (each_le _ _ _ reducesTo_S24576x1_S_d0_1 h_S_ _ ix0_only h1 (ix2 k.1 k.2)).trans_eq b65536,
    fun k => (each_le _ _ _ reducesTo_S8192_S_d0 h_S_ _ ix0_only h3 (ix1 k)).trans_eq b65536, fun k => (each_le _ _ _ reducesTo_S8192_S_d0 h_S_ _ ix0_only h5 (ix1 k)).trans_eq b65536⟩

end Cert.GateUpAgree

end
-- ==== Proof.GateUpCases.lean ====
/- THE BODY OF THE GATE-UP KERNEL, READ. What a grid point leaves in the three carried arrays (the activations of a block of rows,
   the running maximum of 128 lanes, the inverse scale) and in the block of codes, over what the point before left. -/
module

public import proofs.«01_k».proof.Proof.GateUpIdealFrame
public import Idealize.ShloMosaic.Lib.Pipeline.ValueKit
public import Idealize.ShloMosaic.Lib.Pointwise
public import Idealize.ShloMosaic.Lib.WritesUnit
public import Idealize.ShloMosaic.Lib.VecWindow

@[expose] public section

set_option maxRecDepth 16384

set_option maxHeartbeats 1000000

noncomputable section

namespace Cert.GateUpIdeal.Cases

open Cert.GateUpIdeal Cert.GateUpIdeal.Gen Idealize.ShloMosaic Idealize.ShloMosaic.TcCoe Idealize.SL.Sem
open Idealize.ShloMosaic.Tactic

/-- A number clipped to the range of the eight-bit floats. -/
def clip (x : EReal) : EReal := min (Ideal.ofBits .f32 0x43E00000#32) (max (Ideal.ofBits .f32 0xC3E00000#32) x)

theorem hz : (![0, 0] : Fin 2 → Nat) = fun _ => 0 := funext fun a => by fin_cases a <;> rfl

theorem cast_small : ∀ j : Fin 16, (Scalar.indexCast (BitVec.ofNat 32 j.val) : Index).toNat = j.val := by decide

/-- The slice of the activations a column step stores. -/
theorem off9 (i : grid0.Coords) : k0_off9 i = ![(i 1).val, 0, 0] := by
  have e := cast_small (i 1)
  funext a
  match a with
  | ⟨0, _⟩ => exact e
  | ⟨1, _⟩ => rfl
  | ⟨2, _⟩ => rfl

/-- The lane of a column of a block. -/
abbrev lane (q : Fin 512) : Fin 128 := ⟨q.val % 128, Nat.mod_lt _ (by decide)⟩

theorem off1 (i : grid0.Coords) : k0_off1 i = ![(i 1).val, 0, 0] := by
  have e := cast_small (i 1)
  funext a
  match a with
  | ⟨0, _⟩ => exact e
  | ⟨1, _⟩ => rfl
  | ⟨2, _⟩ => rfl

theorem off2 (i : grid0.Coords) : k0_off2 i = ![(i 1).val, 0, 128] := by
  have e := cast_small (i 1)
  funext a
  match a with
  | ⟨0, _⟩ => exact e
  | ⟨1, _⟩ => rfl
  | ⟨2, _⟩ => rfl

theorem off3 (i : grid0.Coords) : k0_off3 i = ![(i 1).val, 0, 256] := by
  have e := cast_small (i 1)
  funext a
  match a with
  | ⟨0, _⟩ => exact e
  | ⟨1, _⟩ => rfl
  | ⟨2, _⟩ => rfl

theorem off4 (i : grid0.Coords) : k0_off4 i = ![(i 1).val, 0, 384] := by
  have e := cast_small (i 1)
  funext a
  match a with
  | ⟨0, _⟩ => exact e
  | ⟨1, _⟩ => rfl
  | ⟨2, _⟩ => rfl

theorem off5 (i : grid0.Coords) : k0_off5 i = ![(i 1).val, 0, 0] := by
  have e := cast_small (i 1)
  funext a
  match a with
  | ⟨0, _⟩ => exact e
  | ⟨1, _⟩ => rfl
  | ⟨2, _⟩ => rfl

theorem off6 (i : grid0.Coords) : k0_off6 i = ![(i 1).val, 0, 128] := by
  have e := cast_small (i 1)
  funext a
  match a with
  | ⟨0, _⟩ => exact e
  | ⟨1, _⟩ => rfl
  | ⟨2, _⟩ => rfl

theorem off7 (i : grid0.Coords) : k0_off7 i = ![(i 1).val, 0, 256] := by
  have e := cast_small (i 1)
  funext a
  match a with
  | ⟨0, _⟩ => exact e
  | ⟨1, _⟩ => rfl
  | ⟨2, _⟩ => rfl

theorem off8 (i : grid0.Coords) : k0_off8 i = ![(i 1).val, 0, 384] := by
  have e := cast_small (i 1)
  funext a
  match a with
  | ⟨0, _⟩ => exact e
  | ⟨1, _⟩ => rfl
  | ⟨2, _⟩ => rfl

/-- A load of a part of a slice of the activations, at an index. -/
theorem ld_slice (i : grid0.Coords) (xs0 : Vec Ideal S16x512x512 .f32) {off : Fin 3 → ℕ} {o : ℕ} (h : off = ![(i 1).val, 0, o]) (inb : ∀ a, off a + S1x512x128.size a ≤ S16x512x512.size a)
    (s : Fin 16) (hs : s.val = (i 1).val) (r q : Fin 512) (a : Fin 128) (hq : q.val = o + a.val) :
    View.ld xs0 (Rect.unit (s := S16x512x512) off S1x512x128.size inb) (ix3 (0 : Fin 1) r a) = xs0 (ix3 s r q) := by
  subst h
  refine View.ld_unit_apply_of xs0 _ _ _ _ _ ?_
  intro d
  match d with
  | ⟨0, _⟩ => show s.val = (i 1).val + 0; omega
  | ⟨1, _⟩ => show r.val = 0 + r.val; omega
  | ⟨2, _⟩ => show q.val = o + a.val; omega

theorem codes4 (v14 : Vec Ideal S512x128 .f32) (v : Vec Ideal S1x512x128 .f32) (r : Fin 512) (a : Fin 128) :
    k0_pay4 (k0_pay12 v14 v) (ix2 r a) = clip (v (ix3 (0 : Fin 1) r a) * v14 (ix2 r a)) := by
  pointwise [k0_pay4, k0_pay12]
  rfl

theorem codes17 (v14 : Vec Ideal S512x128 .f32) (v : Vec Ideal S1x512x128 .f32) (r : Fin 512) (a : Fin 128) :
    k0_pay17 (k0_pay16 v14 v) (ix2 r a) = clip (v (ix3 (0 : Fin 1) r a) * v14 (ix2 r a)) := by
  pointwise [k0_pay17, k0_pay16]
  rfl

theorem codes9 (v14 : Vec Ideal S512x128 .f32) (v : Vec Ideal S1x512x128 .f32) (r : Fin 512) (a : Fin 128) :
    k0_pay9 v14 v (ix2 r a) = clip (v (ix3 (0 : Fin 1) r a) * v14 (ix2 r a)) := by
  pointwise [k0_pay9]
  rfl

theorem codes10 (v14 : Vec Ideal S512x128 .f32) (v : Vec Ideal S1x512x128 .f32) (r : Fin 512) (a : Fin 128) :
    k0_pay10 v14 v (ix2 r a) = clip (v (ix3 (0 : Fin 1) r a) * v14 (ix2 r a)) := by
  pointwise [k0_pay10]
  rfl

theorem codes11 (v14 : Vec Ideal S512x128 .f32) (v : Vec Ideal S1x512x128 .f32) (r : Fin 512) (a : Fin 128) :
    k0_pay11 v14 v (ix2 r a) = clip (v (ix3 (0 : Fin 1) r a) * v14 (ix2 r a)) := by
  pointwise [k0_pay11]
  rfl

theorem codes13 (v14 : Vec Ideal S512x128 .f32) (v : Vec Ideal S1x512x128 .f32) (r : Fin 512) (a : Fin 128) :
    k0_pay13 v14 v (ix2 r a) = clip (v (ix3 (0 : Fin 1) r a) * v14 (ix2 r a)) := by
  pointwise [k0_pay13]
  rfl

theorem codes14 (v14 : Vec Ideal S512x128 .f32) (v : Vec Ideal S1x512x128 .f32) (r : Fin 512) (a : Fin 128) :
    k0_pay14 v14 v (ix2 r a) = clip (v (ix3 (0 : Fin 1) r a) * v14 (ix2 r a)) := by
  pointwise [k0_pay14]
  rfl

theorem codes15 (v14 : Vec Ideal S512x128 .f32) (v : Vec Ideal S1x512x128 .f32) (r : Fin 512) (a : Fin 128) :
    k0_pay15 v14 v (ix2 r a) = clip (v (ix3 (0 : Fin 1) r a) * v14 (ix2 r a)) := by
  pointwise [k0_pay15]
  rfl

variable (c : Dev nD) (i : grid0.Coords) (arg2 : Memref sig .tc .vmem S512x2048 .fp8e4m3) (harg2 : arg2.IsWhole) (arg3 : Memref sig .tc .vmem S512x1 .f32) (harg3 : arg3.IsWhole) (arg4 : Memref sig .tc .vmem S2048x512 .fp8e4m3) (harg4 : arg4.IsWhole) (arg5 : Memref sig .tc .vmem S1x512 .f32) (harg5 : arg5.IsWhole) (arg6 : Memref sig .tc .vmem S2048x512 .fp8e4m3) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S16x512x512 .f32) (harg10 : arg10.IsWhole) (arg11 : Memref sig .tc .vmem S512x128 .f32) (harg11 : arg11.IsWhole) (arg12 : Memref sig .tc .vmem S512x128 .f32) (harg12 : arg12.IsWhole)
  (x0 : Vec Ideal S512x2048 .fp8e4m3) (x1 : Vec Ideal S512x1 .f32) (x2 : Vec Ideal S2048x512 .fp8e4m3) (x3 : Vec Ideal S1x512 .f32) (x4 : Vec Ideal S2048x512 .fp8e4m3) (x5 : Vec Ideal S1x512 .f32) (xs0 : Vec Ideal S16x512x512 .f32) (xs1 : Vec Ideal S512x128 .f32) (xs2 : Vec Ideal S512x128 .f32)

/-- Case A leaves the lanes' maxima, its block taken in. -/
theorem sout0_A_1_eq (hc0 : cond0_0 i) (hc1 : cond0_1 i) (hc2 : ¬cond0_2 i) (hc3 : cond0_3 i) :
    sout0_A_1 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 = k0_pay5 (k0_pay18 x0 x1 x2 x3 x4 x5) (k0_pay3 (F := Ideal)) (k0_pay20 x0 x1 x2 x3 x4 x5) := by
  unfold sout0_A_1
  refine (View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 hc2 hc3 x0 x1 x2 x3 x4 x5)).trans ?_
  unfold kernelRun0_A
  dsimp only
  sl_unfold_words
  rw [View.canon_cons_unit_zero (S := S512x128) hz]
  simp only [View.readCov_unit_zero (S := S512x128) _ hz]
  simp only [View.readAt_eq_ld, harg2.read_unread, harg3.read_unread, harg4.read_unread, harg5.read_unread, harg6.read_unread, harg7.read_unread, harg10.read_unread, harg11.read_unread, harg12.read_unread, View.ld_unit_zero (S := S512x128) hz, View.ld_unit_zero (S := S512x2048) hz, View.ld_unit_zero (S := S2048x512) hz, View.ld_unit_zero (S := S512x1) hz, View.ld_unit_zero (S := S1x512) hz]
  exact congrArg (fun z => k0_pay5 (k0_pay18 x0 x1 x2 x3 x4 x5) z (k0_pay20 x0 x1 x2 x3 x4 x5)) (View.readCov_cons_toLoadRect ..)

/-- Case A leaves the activations of its block in their slice. -/
theorem sout0_A_0_mem (hc0 : cond0_0 i) (hc1 : cond0_1 i) (hc2 : ¬cond0_2 i) (hc3 : cond0_3 i) (s : Fin 16) (hs : s.val = (i 1).val) (r q : Fin 512) :
    sout0_A_0 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 (ix3 s r q) = k0_pay18 x0 x1 x2 x3 x4 x5 (ix2 r q) := by
  unfold sout0_A_0
  unfold kernelRun0_A
  dsimp only
  sl_unfold_words
  refine (View.read_writes_cons_unit_of_mem _ _ _ _ _ (ix3 s r q) (ix3 (0 : Fin 1) r q) (off9 i) (by
    intro a
    match a with
    | ⟨0, _⟩ => show s.val = (i 1).val + 0; omega
    | ⟨1, _⟩ => show r.val = 0 + r.val; omega
    | ⟨2, _⟩ => show q.val = 0 + q.val; omega)).trans ?_
  simp only [View.readAt_eq_ld, harg2.read_unread, harg3.read_unread, harg4.read_unread, harg5.read_unread, harg6.read_unread, harg7.read_unread, harg10.read_unread, harg11.read_unread, harg12.read_unread, View.ld_unit_zero (S := S512x128) hz, View.ld_unit_zero (S := S512x2048) hz, View.ld_unit_zero (S := S2048x512) hz, View.ld_unit_zero (S := S512x1) hz, View.ld_unit_zero (S := S1x512) hz]
  pointwise [k0_pay19]

/-- Case B leaves the lanes' maxima, its block taken in. -/
theorem sout0_B_1_eq (hc0 : ¬cond0_0 i) (hc1 : ¬cond0_1 i) (hc2 : ¬cond0_2 i) (hc3 : cond0_3 i) :
    sout0_B_1 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 xs2 = k0_pay5 (k0_pay18 x0 x1 x2 x3 x4 x5) xs1 (k0_pay20 x0 x1 x2 x3 x4 x5) := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg10.read_unread, harg11.read_unread, harg12.read_unread, View.ld_unit_zero (S := S512x128) hz, View.ld_unit_zero (S := S512x2048) hz, View.ld_unit_zero (S := S2048x512) hz, View.ld_unit_zero (S := S512x1) hz, View.ld_unit_zero (S := S1x512) hz]
  try rfl

/-- Case B leaves the activations of its block in their slice. -/
theorem sout0_B_0_mem (hc0 : ¬cond0_0 i) (hc1 : ¬cond0_1 i) (hc2 : ¬cond0_2 i) (hc3 : cond0_3 i) (s : Fin 16) (hs : s.val = (i 1).val) (r q : Fin 512) :
    sout0_B_0 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 xs2 (ix3 s r q) = k0_pay18 x0 x1 x2 x3 x4 x5 (ix2 r q) := by
  unfold sout0_B_0
  unfold kernelRun0_B
  dsimp only
  sl_unfold_words
  refine (View.read_writes_cons_unit_of_mem _ _ _ _ _ (ix3 s r q) (ix3 (0 : Fin 1) r q) (off9 i) (by
    intro a
    match a with
    | ⟨0, _⟩ => show s.val = (i 1).val + 0; omega
    | ⟨1, _⟩ => show r.val = 0 + r.val; omega
    | ⟨2, _⟩ => show q.val = 0 + q.val; omega)).trans ?_
  simp only [View.readAt_eq_ld, harg2.read_unread, harg3.read_unread, harg4.read_unread, harg5.read_unread, harg6.read_unread, harg7.read_unread, harg10.read_unread, harg11.read_unread, harg12.read_unread, View.ld_unit_zero (S := S512x128) hz, View.ld_unit_zero (S := S512x2048) hz, View.ld_unit_zero (S := S2048x512) hz, View.ld_unit_zero (S := S512x1) hz, View.ld_unit_zero (S := S1x512) hz]
  pointwise [k0_pay19]

/-- Case B keeps the other slices. -/
theorem sout0_B_0_not_mem (hc0 : ¬cond0_0 i) (hc1 : ¬cond0_1 i) (hc2 : ¬cond0_2 i) (hc3 : cond0_3 i) (s : Fin 16) (hs : s.val ≠ (i 1).val) (r q : Fin 512) :
    sout0_B_0 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 xs2 (ix3 s r q) = xs0 (ix3 s r q) := by
  unfold sout0_B_0
  unfold kernelRun0_B
  dsimp only
  sl_unfold_words
  refine (View.read_writes_cons_unit_of_not_mem _ _ _ _ _ (ix3 s r q) (off9 i) 0 (by
    show s.val < (i 1).val ∨ (i 1).val + 1 ≤ s.val
    omega)).trans ?_
  rw [View.writes_nil, harg10.read_unread]

/-- Case C leaves the lanes' maxima, its block taken in. -/
theorem sout0_C_1_eq (hc0 : ¬cond0_0 i) (hc1 : cond0_1 i) (hc2 : ¬cond0_2 i) (hc3 : cond0_3 i) :
    sout0_C_1 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 = k0_pay5 (k0_pay18 x0 x1 x2 x3 x4 x5) (k0_pay3 (F := Ideal)) (k0_pay20 x0 x1 x2 x3 x4 x5) := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1)]
  unfold kernelRun0_C
  dsimp only
  sl_unfold_words
  rw [View.canon_cons_unit_zero (S := S512x128) hz]
  simp only [View.readCov_unit_zero (S := S512x128) _ hz]
  simp only [View.readAt_eq_ld, harg2.read_unread, harg3.read_unread, harg4.read_unread, harg5.read_unread, harg6.read_unread, harg7.read_unread, harg10.read_unread, harg11.read_unread, harg12.read_unread, View.ld_unit_zero (S := S512x128) hz, View.ld_unit_zero (S := S512x2048) hz, View.ld_unit_zero (S := S2048x512) hz, View.ld_unit_zero (S := S512x1) hz, View.ld_unit_zero (S := S1x512) hz]
  try rfl

/-- Case C leaves the activations of its block in their slice. -/
theorem sout0_C_0_mem (hc0 : ¬cond0_0 i) (hc1 : cond0_1 i) (hc2 : ¬cond0_2 i) (hc3 : cond0_3 i) (s : Fin 16) (hs : s.val = (i 1).val) (r q : Fin 512) :
    sout0_C_0 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 (ix3 s r q) = k0_pay18 x0 x1 x2 x3 x4 x5 (ix2 r q) := by
  unfold sout0_C_0
  unfold kernelRun0_C
  dsimp only
  sl_unfold_words
  refine (View.read_writes_cons_unit_of_mem _ _ _ _ _ (ix3 s r q) (ix3 (0 : Fin 1) r q) (off9 i) (by
    intro a
    match a with
    | ⟨0, _⟩ => show s.val = (i 1).val + 0; omega
    | ⟨1, _⟩ => show r.val = 0 + r.val; omega
    | ⟨2, _⟩ => show q.val = 0 + q.val; omega)).trans ?_
  simp only [View.readAt_eq_ld, harg2.read_unread, harg3.read_unread, harg4.read_unread, harg5.read_unread, harg6.read_unread, harg7.read_unread, harg10.read_unread, harg11.read_unread, harg12.read_unread, View.ld_unit_zero (S := S512x128) hz, View.ld_unit_zero (S := S512x2048) hz, View.ld_unit_zero (S := S2048x512) hz, View.ld_unit_zero (S := S512x1) hz, View.ld_unit_zero (S := S1x512) hz]
  pointwise [k0_pay19]

/-- Case C keeps the other slices. -/
theorem sout0_C_0_not_mem (hc0 : ¬cond0_0 i) (hc1 : cond0_1 i) (hc2 : ¬cond0_2 i) (hc3 : cond0_3 i) (s : Fin 16) (hs : s.val ≠ (i 1).val) (r q : Fin 512) :
    sout0_C_0 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 (ix3 s r q) = xs0 (ix3 s r q) := by
  unfold sout0_C_0
  unfold kernelRun0_C
  dsimp only
  sl_unfold_words
  refine (View.read_writes_cons_unit_of_not_mem _ _ _ _ _ (ix3 s r q) (off9 i) 0 (by
    show s.val < (i 1).val ∨ (i 1).val + 1 ≤ s.val
    omega)).trans ?_
  rw [View.writes_nil, harg10.read_unread]

/-- Case C leaves the inverse scale of the rows it found complete. -/
theorem sout0_C_2_eq (hc0 : ¬cond0_0 i) (hc1 : cond0_1 i) (hc2 : ¬cond0_2 i) (hc3 : cond0_3 i) :
    sout0_C_2 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 = k0_pay8 xs1 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg10.read_unread, harg11.read_unread, harg12.read_unread, View.ld_unit_zero (S := S512x128) hz, View.ld_unit_zero (S := S512x2048) hz, View.ld_unit_zero (S := S2048x512) hz, View.ld_unit_zero (S := S512x1) hz, View.ld_unit_zero (S := S1x512) hz]
  try rfl

/-- Case D leaves the inverse scale of the rows it found complete. -/
theorem sout0_D_2_eq (hc0 : ¬cond0_0 i) (hc1 : cond0_1 i) (hc2 : cond0_2 i) (hc3 : ¬cond0_3 i) :
    sout0_D_2 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 = k0_pay8 xs1 := by
  unfold sout0_D_2
  rw [View.read_writes_eq_canon _ _ _ (scover0_D_2 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1)]
  unfold kernelRun0_D
  dsimp only
  sl_unfold_words
  rw [View.canon_unit_zero hz]
  simp only [View.readAt_eq_ld, harg2.read_unread, harg3.read_unread, harg4.read_unread, harg5.read_unread, harg6.read_unread, harg7.read_unread, harg10.read_unread, harg11.read_unread, harg12.read_unread, View.ld_unit_zero (S := S512x128) hz, View.ld_unit_zero (S := S512x2048) hz, View.ld_unit_zero (S := S2048x512) hz, View.ld_unit_zero (S := S512x1) hz, View.ld_unit_zero (S := S1x512) hz]
  try rfl

/-- Case B leaves the codes of the slice it found: its numbers times the inverse scale, clipped. -/
theorem out0_B_6_at (hc0 : ¬cond0_0 i) (hc1 : ¬cond0_1 i) (hc2 : ¬cond0_2 i) (hc3 : cond0_3 i) (s : Fin 16) (hs : s.val = (i 1).val) (r q : Fin 512) :
    out0_B_6 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 xs2 (ix2 r q) = clip (xs0 (ix3 s r q) * xs2 (ix2 r (lane q))) := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 xs2)]
  unfold kernelRun0_B
  dsimp only
  sl_unfold_words
  canon_tiles x h using cover0_B_6 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 xs2 (ix2 r q)
  all_goals
    obtain ⟨r', a, rfl⟩ : ∃ (r' : Fin 512) (a : Fin 128), x = ix2 r' a := ⟨x 0, x 1, eq_ix2 x⟩
    obtain rfl : r = r' := Fin.ext h0
    first | (change q.val = _ + a.val at h1) | (change q.val = a.val at h1)
    have ha : a = lane q := Fin.ext (by have := a.isLt; show a.val = q.val % 128; omega)
    simp (disch := decide) only [View.readCov_unit_lit', View.readAt_eq_ld, View.ld_unit_lit', harg10.read_unread, harg11.read_unread, harg12.read_unread]
    first | refine (codes4 _ _ _ _).trans ?_ | refine (codes9 _ _ _ _).trans ?_ | refine (codes10 _ _ _ _).trans ?_ | refine (codes11 _ _ _ _).trans ?_ | refine (codes13 _ _ _ _).trans ?_ | refine (codes14 _ _ _ _).trans ?_ | refine (codes15 _ _ _ _).trans ?_ | refine (codes17 _ _ _ _).trans ?_
    rw [← ha]
    refine congrArg (fun z => clip (z * _)) ?_
    first | exact ld_slice i xs0 (off1 i) _ s hs r q a (by omega) | exact ld_slice i xs0 (off2 i) _ s hs r q a (by omega) | exact ld_slice i xs0 (off3 i) _ s hs r q a (by omega) | exact ld_slice i xs0 (off4 i) _ s hs r q a (by omega)

/-- Case C leaves the codes of the slice it found: its numbers times the inverse scale, clipped. -/
theorem out0_C_6_at (hc0 : ¬cond0_0 i) (hc1 : cond0_1 i) (hc2 : ¬cond0_2 i) (hc3 : cond0_3 i) (s : Fin 16) (hs : s.val = (i 1).val) (r q : Fin 512) :
    out0_C_6 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 (ix2 r q) = clip (xs0 (ix3 s r q) * (k0_pay8 xs1) (ix2 r (lane q))) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1)]
  unfold kernelRun0_C
  dsimp only
  sl_unfold_words
  canon_tiles x h using cover0_C_6 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 (ix2 r q)
  all_goals
    obtain ⟨r', a, rfl⟩ : ∃ (r' : Fin 512) (a : Fin 128), x = ix2 r' a := ⟨x 0, x 1, eq_ix2 x⟩
    obtain rfl : r = r' := Fin.ext h0
    first | (change q.val = _ + a.val at h1) | (change q.val = a.val at h1)
    have ha : a = lane q := Fin.ext (by have := a.isLt; show a.val = q.val % 128; omega)
    simp (disch := decide) only [View.readCov_unit_lit', View.readAt_eq_ld, View.ld_unit_lit', harg10.read_unread, harg11.read_unread, harg12.read_unread]
    first | refine (codes4 _ _ _ _).trans ?_ | refine (codes9 _ _ _ _).trans ?_ | refine (codes10 _ _ _ _).trans ?_ | refine (codes11 _ _ _ _).trans ?_ | refine (codes13 _ _ _ _).trans ?_ | refine (codes14 _ _ _ _).trans ?_ | refine (codes15 _ _ _ _).trans ?_ | refine (codes17 _ _ _ _).trans ?_
    rw [← ha]
    refine congrArg (fun z => clip (z * _)) ?_
    first | exact ld_slice i xs0 (off1 i) _ s hs r q a (by omega) | exact ld_slice i xs0 (off2 i) _ s hs r q a (by omega) | exact ld_slice i xs0 (off3 i) _ s hs r q a (by omega) | exact ld_slice i xs0 (off4 i) _ s hs r q a (by omega)

/-- Case D leaves the codes of the slice it found: its numbers times the inverse scale, clipped. -/
theorem out0_D_6_at (hc0 : ¬cond0_0 i) (hc1 : cond0_1 i) (hc2 : cond0_2 i) (hc3 : ¬cond0_3 i) (s : Fin 16) (hs : s.val = (i 1).val) (r q : Fin 512) :
    out0_D_6 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 (ix2 r q) = clip (xs0 (ix3 s r q) * (k0_pay8 xs1) (ix2 r (lane q))) := by
  unfold out0_D_6
  rw [View.read_writes_eq_canon _ _ _ (cover0_D_6 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1)]
  unfold kernelRun0_D
  dsimp only
  sl_unfold_words
  canon_tiles x h using cover0_D_6 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 (ix2 r q)
  all_goals
    obtain ⟨r', a, rfl⟩ : ∃ (r' : Fin 512) (a : Fin 128), x = ix2 r' a := ⟨x 0, x 1, eq_ix2 x⟩
    obtain rfl : r = r' := Fin.ext h0
    first | (change q.val = _ + a.val at h1) | (change q.val = a.val at h1)
    have ha : a = lane q := Fin.ext (by have := a.isLt; show a.val = q.val % 128; omega)
    simp (disch := decide) only [View.readCov_unit_lit', View.readAt_eq_ld, View.ld_unit_lit', harg10.read_unread, harg11.read_unread, harg12.read_unread]
    first | refine (codes4 _ _ _ _).trans ?_ | refine (codes9 _ _ _ _).trans ?_ | refine (codes10 _ _ _ _).trans ?_ | refine (codes11 _ _ _ _).trans ?_ | refine (codes13 _ _ _ _).trans ?_ | refine (codes14 _ _ _ _).trans ?_ | refine (codes15 _ _ _ _).trans ?_ | refine (codes17 _ _ _ _).trans ?_
    rw [← ha]
    refine congrArg (fun z => clip (z * _)) ?_
    first | exact ld_slice i xs0 (off1 i) _ s hs r q a (by omega) | exact ld_slice i xs0 (off2 i) _ s hs r q a (by omega) | exact ld_slice i xs0 (off3 i) _ s hs r q a (by omega) | exact ld_slice i xs0 (off4 i) _ s hs r q a (by omega)

/-- Case E leaves the codes of the slice it found: its numbers times the inverse scale, clipped. -/
theorem out0_E_6_at (hc0 : ¬cond0_0 i) (hc1 : ¬cond0_1 i) (hc2 : cond0_2 i) (hc3 : ¬cond0_3 i) (s : Fin 16) (hs : s.val = (i 1).val) (r q : Fin 512) :
    out0_E_6 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 xs2 (ix2 r q) = clip (xs0 (ix3 s r q) * xs2 (ix2 r (lane q))) := by
  unfold out0_E_6
  rw [View.read_writes_eq_canon _ _ _ (cover0_E_6 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 xs2)]
  unfold kernelRun0_E
  dsimp only
  sl_unfold_words
  canon_tiles x h using cover0_E_6 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 xs2 (ix2 r q)
  all_goals
    obtain ⟨r', a, rfl⟩ : ∃ (r' : Fin 512) (a : Fin 128), x = ix2 r' a := ⟨x 0, x 1, eq_ix2 x⟩
    obtain rfl : r = r' := Fin.ext h0
    first | (change q.val = _ + a.val at h1) | (change q.val = a.val at h1)
    have ha : a = lane q := Fin.ext (by have := a.isLt; show a.val = q.val % 128; omega)
    simp (disch := decide) only [View.readCov_unit_lit', View.readAt_eq_ld, View.ld_unit_lit', harg10.read_unread, harg11.read_unread, harg12.read_unread]
    first | refine (codes4 _ _ _ _).trans ?_ | refine (codes9 _ _ _ _).trans ?_ | refine (codes10 _ _ _ _).trans ?_ | refine (codes11 _ _ _ _).trans ?_ | refine (codes13 _ _ _ _).trans ?_ | refine (codes14 _ _ _ _).trans ?_ | refine (codes15 _ _ _ _).trans ?_ | refine (codes17 _ _ _ _).trans ?_
    rw [← ha]
    refine congrArg (fun z => clip (z * _)) ?_
    first | exact ld_slice i xs0 (off1 i) _ s hs r q a (by omega) | exact ld_slice i xs0 (off2 i) _ s hs r q a (by omega) | exact ld_slice i xs0 (off3 i) _ s hs r q a (by omega) | exact ld_slice i xs0 (off4 i) _ s hs r q a (by omega)

end Cert.GateUpIdeal.Cases

end
-- ==== Proof.GateUpSteps.lean ====
/- ONE GRID POINT of the gate-up kernel over the point before it, whichever of the five cases runs: the slice of activations it stores, the
   lanes' maxima, the inverse scale, and the block of codes. -/
module

public import proofs.«01_k».proof.Proof.GateUpCases

@[expose] public section

set_option maxHeartbeats 2000000

noncomputable section

namespace Cert.GateUpIdeal.Steps

open Cert.GateUpIdeal Cert.GateUpIdeal.Gen Cert.GateUpIdeal.Cases Idealize.ShloMosaic Idealize.ShloMosaic.TcCoe Idealize.SL.Sem

variable (m : (ℓ : Loc nD τ sig) → Buf (Elt Ideal) ℓ) (c : Dev nD) (t : Fin cfg0.N)

theorem lt784 : t.val < 784 := lt_of_lt_of_eq t.isLt N_0

/-- What the point before left. -/
abbrev prev := outsAt0 m c (t.val - 1) (Nat.lt_of_le_of_lt (Nat.sub_le _ _) t.isLt)

/-- The activations of the blocks that the point reads. -/
abbrev acts : FVec Ideal S512x512 .f32 := k0_pay18 (F := Ideal) (iblk m c 0 t) (iblk m c 1 t) (iblk m c 2 t) (iblk m c 3 t) (iblk m c 4 t) (iblk m c 5 t)

/-- Their first 128 columns. -/
abbrev acts0 : FVec Ideal S512x128 .f32 := k0_pay20 (F := Ideal) (iblk m c 0 t) (iblk m c 1 t) (iblk m c 2 t) (iblk m c 3 t) (iblk m c 4 t) (iblk m c 5 t)

theorem slice_eq : (grid0.coords t 1).val = t.val % 16 := by
  have e1 : (grid0.coords t 1).val = t.val / 1 % 16 := Pipeline.Grid.coords_val t 1 (by decide) rfl
  rw [e1, Nat.div_one]

theorem act_mem (h3 : t.val < 768) (s : Fin 16) (hs : s.val = t.val % 16) (r q : Fin 512) :
    (outsAt0 m c t.val t.isLt).2.1 (ix3 s r q) = acts m c t (ix2 r q) := by
  have ht := lt784 t
  by_cases h1 : t.val % 16 = 0
  · by_cases h0 : t.val % 784 = 0
    · exact (congrArg (fun z => z.2.1 (ix3 s r q)) (outsAt0_A m c t h0 h1 (by omega) h3)).trans (sout0_A_0_mem c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t)
        ((hcond0_0 t).mpr (by omega)) ((hcond0_1 t).mpr (by omega)) (fun h => (by omega : ¬768 ≤ t.val) ((hcond0_2 t).mp h)) ((hcond0_3 t).mpr (by omega)) s (hs.trans (slice_eq t).symm) r q)
    · exact (congrArg (fun z => z.2.1 (ix3 s r q)) (outsAt0_C m c t h0 h1 (by omega) h3)).trans (sout0_C_0_mem c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (prev m c t).2.1 (prev m c t).2.2.1
        (fun h => (by omega : ¬t.val % 784 = 0) ((hcond0_0 t).mp h)) ((hcond0_1 t).mpr (by omega)) (fun h => (by omega : ¬768 ≤ t.val) ((hcond0_2 t).mp h)) ((hcond0_3 t).mpr (by omega)) s (hs.trans (slice_eq t).symm) r q)
  · exact (congrArg (fun z => z.2.1 (ix3 s r q)) (outsAt0_B m c t (by omega) h1 (by omega) h3)).trans (sout0_B_0_mem c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (prev m c t).2.1 (prev m c t).2.2.1 (prev m c t).2.2.2
        (fun h => (by omega : ¬t.val % 784 = 0) ((hcond0_0 t).mp h)) (fun h => (by omega : ¬t.val % 16 = 0) ((hcond0_1 t).mp h)) (fun h => (by omega : ¬768 ≤ t.val) ((hcond0_2 t).mp h)) ((hcond0_3 t).mpr (by omega)) s (hs.trans (slice_eq t).symm) r q)

theorem act_keep (h0 : t.val ≠ 0) (s : Fin 16) (hs : t.val < 768 → s.val ≠ t.val % 16) (r q : Fin 512) :
    (outsAt0 m c t.val t.isLt).2.1 (ix3 s r q) = (prev m c t).2.1 (ix3 s r q) := by
  have ht := lt784 t
  by_cases h3 : t.val < 768
  · have hs' := hs h3
    by_cases h1 : t.val % 16 = 0
    · exact (congrArg (fun z => z.2.1 (ix3 s r q)) (outsAt0_C m c t (by omega) h1 (by omega) h3)).trans (sout0_C_0_not_mem c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (prev m c t).2.1 (prev m c t).2.2.1
        (fun h => (by omega : ¬t.val % 784 = 0) ((hcond0_0 t).mp h)) ((hcond0_1 t).mpr (by omega)) (fun h => (by omega : ¬768 ≤ t.val) ((hcond0_2 t).mp h)) ((hcond0_3 t).mpr (by omega)) s (fun h => hs' (h.trans (slice_eq t))) r q)
    · exact (congrArg (fun z => z.2.1 (ix3 s r q)) (outsAt0_B m c t (by omega) h1 (by omega) h3)).trans (sout0_B_0_not_mem c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (prev m c t).2.1 (prev m c t).2.2.1 (prev m c t).2.2.2
        (fun h => (by omega : ¬t.val % 784 = 0) ((hcond0_0 t).mp h)) (fun h => (by omega : ¬t.val % 16 = 0) ((hcond0_1 t).mp h)) (fun h => (by omega : ¬768 ≤ t.val) ((hcond0_2 t).mp h)) ((hcond0_3 t).mpr (by omega)) s (fun h => hs' (h.trans (slice_eq t))) r q)
  · by_cases h1 : t.val % 16 = 0
    · exact (congrArg (fun z => z.2.1 (ix3 s r q)) (outsAt0_D m c t (by omega) h1 (by omega) h3)).trans rfl
    · exact (congrArg (fun z => z.2.1 (ix3 s r q)) (outsAt0_E m c t (by omega) h1 (by omega) h3)).trans rfl

theorem max_first (h3 : t.val < 768) (h1 : t.val % 16 = 0) : ∃ z : Vec Ideal S512x128 .f32, (∀ i, z i = Ideal.ofBits .f32 0x00000000#32) ∧
    (outsAt0 m c t.val t.isLt).2.2.1 = k0_pay5 (F := Ideal) (acts m c t) z (acts0 m c t) := by
  have ht := lt784 t
  by_cases h0 : t.val % 784 = 0
  · exact ⟨k0_pay3 (F := Ideal), fun i => by pointwise [k0_pay3], (congrArg (fun z => z.2.2.1) (outsAt0_A m c t h0 h1 (by omega) h3)).trans (sout0_A_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t)
        ((hcond0_0 t).mpr (by omega)) ((hcond0_1 t).mpr (by omega)) (fun h => (by omega : ¬768 ≤ t.val) ((hcond0_2 t).mp h)) ((hcond0_3 t).mpr (by omega)))⟩
  · exact ⟨k0_pay3 (F := Ideal), fun i => by pointwise [k0_pay3], (congrArg (fun z => z.2.2.1) (outsAt0_C m c t h0 h1 (by omega) h3)).trans (sout0_C_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (prev m c t).2.1 (prev m c t).2.2.1
        (fun h => (by omega : ¬t.val % 784 = 0) ((hcond0_0 t).mp h)) ((hcond0_1 t).mpr (by omega)) (fun h => (by omega : ¬768 ≤ t.val) ((hcond0_2 t).mp h)) ((hcond0_3 t).mpr (by omega)))⟩

theorem max_next (h3 : t.val < 768) (h1 : t.val % 16 ≠ 0) :
    (outsAt0 m c t.val t.isLt).2.2.1 = k0_pay5 (F := Ideal) (acts m c t) (prev m c t).2.2.1 (acts0 m c t) := by
  have ht := lt784 t
  exact (congrArg (fun z => z.2.2.1) (outsAt0_B m c t (by omega) h1 (by omega) h3)).trans (sout0_B_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (prev m c t).2.1 (prev m c t).2.2.1 (prev m c t).2.2.2
        (fun h => (by omega : ¬t.val % 784 = 0) ((hcond0_0 t).mp h)) (fun h => (by omega : ¬t.val % 16 = 0) ((hcond0_1 t).mp h)) (fun h => (by omega : ¬768 ≤ t.val) ((hcond0_2 t).mp h)) ((hcond0_3 t).mpr (by omega)))

theorem inv_first (h0 : t.val ≠ 0) (h1 : t.val % 16 = 0) : (outsAt0 m c t.val t.isLt).2.2.2 = k0_pay8 (F := Ideal) (prev m c t).2.2.1 := by
  have ht := lt784 t
  by_cases h3 : t.val < 768
  · exact (congrArg (fun z => z.2.2.2) (outsAt0_C m c t (by omega) h1 (by omega) h3)).trans (sout0_C_2_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (prev m c t).2.1 (prev m c t).2.2.1
        (fun h => (by omega : ¬t.val % 784 = 0) ((hcond0_0 t).mp h)) ((hcond0_1 t).mpr (by omega)) (fun h => (by omega : ¬768 ≤ t.val) ((hcond0_2 t).mp h)) ((hcond0_3 t).mpr (by omega)))
  · exact (congrArg (fun z => z.2.2.2) (outsAt0_D m c t (by omega) h1 (by omega) h3)).trans (sout0_D_2_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (prev m c t).2.1 (prev m c t).2.2.1
        (fun h => (by omega : ¬t.val % 784 = 0) ((hcond0_0 t).mp h)) ((hcond0_1 t).mpr (by omega)) ((hcond0_2 t).mpr (by omega)) (fun h => (by omega : ¬t.val < 768) ((hcond0_3 t).mp h)))

theorem inv_next (h1 : t.val % 16 ≠ 0) : (outsAt0 m c t.val t.isLt).2.2.2 = (prev m c t).2.2.2 := by
  have ht := lt784 t
  by_cases h3 : t.val < 768
  · exact (congrArg (fun z => z.2.2.2) (outsAt0_B m c t (by omega) h1 (by omega) h3)).trans rfl
  · exact (congrArg (fun z => z.2.2.2) (outsAt0_E m c t (by omega) h1 (by omega) h3)).trans rfl

/-- The block of codes: the slice of activations that the point found, times the inverse scale, clipped. -/
theorem out_eq (h0 : t.val ≠ 0) (s : Fin 16) (hs : s.val = t.val % 16) (r q : Fin 512) :
    (outsAt0 m c t.val t.isLt).1 (ix2 r q) = clip ((prev m c t).2.1 (ix3 s r q) * (outsAt0 m c t.val t.isLt).2.2.2 (ix2 r (lane q))) := by
  have ht := lt784 t
  have hs' := hs.trans (slice_eq t).symm
  by_cases h1 : t.val % 16 = 0
  · rw [inv_first m c t h0 h1]
    by_cases h3 : t.val < 768
    · exact (congrArg (fun z => z.1 (ix2 r q)) (outsAt0_C m c t (by omega) h1 (by omega) h3)).trans (out0_C_6_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (prev m c t).2.1 (prev m c t).2.2.1
        (fun h => (by omega : ¬t.val % 784 = 0) ((hcond0_0 t).mp h)) ((hcond0_1 t).mpr h1) (fun h => (by omega : ¬768 ≤ t.val) ((hcond0_2 t).mp h)) ((hcond0_3 t).mpr h3) s hs' r q)
    · exact (congrArg (fun z => z.1 (ix2 r q)) (outsAt0_D m c t (by omega) h1 (by omega) h3)).trans (out0_D_6_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (prev m c t).2.1 (prev m c t).2.2.1
        (fun h => (by omega : ¬t.val % 784 = 0) ((hcond0_0 t).mp h)) ((hcond0_1 t).mpr h1) ((hcond0_2 t).mpr (by omega)) (fun h => (by omega : ¬t.val < 768) ((hcond0_3 t).mp h)) s hs' r q)
  · rw [inv_next m c t h1]
    by_cases h3 : t.val < 768
    · exact (congrArg (fun z => z.1 (ix2 r q)) (outsAt0_B m c t (by omega) h1 (by omega) h3)).trans (out0_B_6_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (prev m c t).2.1 (prev m c t).2.2.1 (prev m c t).2.2.2
        (fun h => (by omega : ¬t.val % 784 = 0) ((hcond0_0 t).mp h)) (fun h => (by omega : ¬t.val % 16 = 0) ((hcond0_1 t).mp h)) (fun h => (by omega : ¬768 ≤ t.val) ((hcond0_2 t).mp h)) ((hcond0_3 t).mpr h3) s hs' r q)
    · exact (congrArg (fun z => z.1 (ix2 r q)) (outsAt0_E m c t (by omega) h1 (by omega) h3)).trans (out0_E_6_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (prev m c t).2.1 (prev m c t).2.2.1 (prev m c t).2.2.2
        (fun h => (by omega : ¬t.val % 784 = 0) ((hcond0_0 t).mp h)) (fun h => (by omega : ¬t.val % 16 = 0) ((hcond0_1 t).mp h)) ((hcond0_2 t).mpr (by omega)) (fun h => (by omega : ¬t.val < 768) ((hcond0_3 t).mp h)) s hs' r q)

end Cert.GateUpIdeal.Steps

end
-- ==== Proof.GateUpMath.lean ====
/- THE MATHEMATICS OF A ROW OF GATED ACTIVATIONS over the extended reals; no program is mentioned here. A number of the row is
   gate * logistic(gate) * up, both factors a dot product times two scales; the row is quantised with the power-of-two
   scale of its largest magnitude. `row_bound`: where codes and weights are at most 448 and scales at most 65536 in magnitude,
   the magnitude the scale is taken from is below `2^126`. -/
module

public import proofs.«01_k».proof.Proof.Norm

@[expose] public section

noncomputable section

namespace Cert.Gated

open Idealize.ShloMosaic
open Cert.Norm (mabs mabs_coe coe_sum inv448_eq)

/-- A gated activation. -/
def act (g u : EReal) : EReal := g * Ideal.logistic g * u

/-- A row of gated activations: the row `x` of codes with its scale `s`, and the two weights with their scales. -/
def row (x : Fin 2048 → EReal) (s : EReal) (wg : Fin 2048 → Fin 8192 → EReal) (sg : Fin 8192 → EReal) (wu : Fin 2048 → Fin 8192 → EReal)
    (su : Fin 8192 → EReal) (k : Fin 8192) : EReal :=
  act ((∑ j, x j * wg j k) * s * sg k) ((∑ j, x j * wu j k) * s * su k)

/-- The largest magnitude of a row. -/
def top (f : Fin 8192 → EReal) : EReal := Finset.fold max (Ideal.ofBits .f32 0xFF800000#32) (fun x => mabs (f x)) Finset.univ

/-- The largest magnitude of a row, times (1/448): what the scale is taken from. -/
def mag (f : Fin 8192 → EReal) : EReal := top f * Ideal.ofBits .f32 0x3B124925#32

/-- A code of a quantised row. -/
def code (f : Fin 8192 → EReal) (k : Fin 8192) : EReal :=
  min (Ideal.ofBits .f32 0x43E00000#32) (max (Ideal.ofBits .f32 0xC3E00000#32)
    (f k * Ideal.exp2 (Ideal.ofBits .f32 0x00000000#32 - Scale.expoF Scale.log2e (mag f))))

theorem bot_eq : Ideal.ofBits .f32 0xFF800000#32 = ⊥ := by
  simp [Ideal.ofBits, Ideal.ieee]

theorem mabs_nonneg (x : EReal) : 0 ≤ mabs x := by
  rcases le_total 0 x with h | h
  · exact le_trans h (le_max_left _ _)
  · exact le_trans (EReal.neg_nonneg.mpr h) (le_max_right _ _)

theorem top_le (f : Fin 8192 → EReal) (x : EReal) : top f ≤ x ↔ ∀ k, mabs (f k) ≤ x := by
  unfold top
  rw [Finset.fold_max_le, bot_eq]
  exact ⟨fun h k => h.2 k (Finset.mem_univ k), fun h => ⟨bot_le, fun k _ => h k⟩⟩

/-- A number that is real and at most `b` in magnitude. -/
def Within (b : ℝ) (x : EReal) : Prop := ∃ r : ℝ, x = (r : EReal) ∧ |r| ≤ b

theorem within_of_le (b : ℝ) (x : EReal) (h : mabs x ≤ (b : EReal)) : Within b x := by
  have ht : x ≠ ⊤ := fun h' => by rw [h'] at h; exact absurd (le_trans (le_max_left _ _) h) (not_le.mpr (EReal.coe_lt_top b))
  have hl : x ≠ ⊥ := fun h' => by rw [h'] at h; exact absurd (le_trans (le_max_right _ _) h) (not_le.mpr (by rw [EReal.neg_bot]; exact EReal.coe_lt_top b))
  refine ⟨x.toReal, (EReal.coe_toReal ht hl).symm, ?_⟩
  rw [← EReal.coe_toReal ht hl, mabs_coe, EReal.coe_le_coe_iff] at h
  exact h

theorem within_mul (a b : ℝ) (x y : EReal) (hx : Within a x) (hy : Within b y) : Within (a * b) (x * y) := by
  obtain ⟨r, rfl, hr⟩ := hx
  obtain ⟨s, rfl, hs⟩ := hy
  refine ⟨r * s, (EReal.coe_mul r s).symm, ?_⟩
  rw [abs_mul]
  exact mul_le_mul hr hs (abs_nonneg _) (le_trans (abs_nonneg _) hr)

theorem within_sum (b : ℝ) (f : Fin 2048 → EReal) (h : ∀ j, Within b (f j)) : Within (2048 * b) (∑ j, f j) := by
  choose r hr hb using h
  refine ⟨∑ j, r j, ?_, ?_⟩
  · rw [← coe_sum]
    exact Finset.sum_congr rfl fun j _ => hr j
  · refine le_trans (Finset.abs_sum_le_sum_abs _ _) (le_trans (Finset.sum_le_sum fun j _ => hb j) ?_)
    simp

theorem within_logistic (b : ℝ) (x : EReal) (h : Within b x) : Within 1 (Ideal.logistic x) := by
  obtain ⟨r, rfl, -⟩ := h
  have hp : 0 < 1 + Real.exp (-r) := by positivity
  refine ⟨1 * (1 / (1 + Real.exp (-r))), ?_, ?_⟩
  · unfold Ideal.logistic
    rw [← EReal.coe_neg, Ideal.exp_coe, ← EReal.coe_one, ← EReal.coe_add, Ideal.div_coe hp.ne', ← EReal.coe_mul]
  · rw [one_mul, abs_of_pos (by positivity), div_le_one hp]
    linarith [Real.exp_pos (-r)]

/-- THE MAGNITUDE of a row of bounded numbers. -/
theorem row_bound (x : Fin 2048 → EReal) (s : EReal) (wg : Fin 2048 → Fin 8192 → EReal) (sg : Fin 8192 → EReal) (wu : Fin 2048 → Fin 8192 → EReal)
    (su : Fin 8192 → EReal) (hx : ∀ j, Within 448 (x j)) (hs : Within 65536 s) (hg : ∀ j k, Within 448 (wg j k)) (hsg : ∀ k, Within 65536 (sg k))
    (hu : ∀ j k, Within 448 (wu j k)) (hsu : ∀ k, Within 65536 (su k)) :
    mag (row x s wg sg wu su) < (((2 : ℝ) ^ (126 : ℤ) : ℝ) : EReal) ∨ mag (row x s wg sg wu su) = ⊤ := by
  left
  have each : ∀ k, Within (2048 * (448 * 448) * 65536 * 65536 * 1 * (2048 * (448 * 448) * 65536 * 65536)) (row x s wg sg wu su k) := by
    intro k
    have g := within_mul _ _ _ _ (within_mul _ _ _ _ (within_sum _ _ fun j => within_mul _ _ _ _ (hx j) (hg j k)) hs) (hsg k)
    have u := within_mul _ _ _ _ (within_mul _ _ _ _ (within_sum _ _ fun j => within_mul _ _ _ _ (hx j) (hu j k)) hs) (hsu k)
    exact within_mul _ _ _ _ (within_mul _ _ _ _ g (within_logistic _ _ g)) u
  obtain ⟨c, hc0, hc, hC⟩ := inv448_eq
  have ht : top (row x s wg sg wu su) ≤ ((2048 * (448 * 448) * 65536 * 65536 * 1 * (2048 * (448 * 448) * 65536 * 65536) : ℝ) : EReal) := by
    rw [top_le]
    intro k
    obtain ⟨r, h1, h2⟩ := each k
    rw [h1, mabs_coe, EReal.coe_le_coe_iff]
    exact h2
  unfold mag
  rw [hC]
  refine lt_of_le_of_lt (mul_le_mul_of_nonneg_right ht (EReal.coe_nonneg.mpr hc0.le)) ?_
  rw [← EReal.coe_mul, EReal.coe_lt_coe_iff]
  have e2 : (2048 * (448 * 448) * 65536 * 65536 * 1 * (2048 * (448 * 448) * 65536 * 65536) : ℝ) * c ≤ (2048 * (448 * 448) * 65536 * 65536 * 1 * (2048 * (448 * 448) * 65536 * 65536) : ℝ) * (1 / 400) :=
    mul_le_mul_of_nonneg_left hc.le (by positivity)
  have e3 : (2048 * (448 * 448) * 65536 * 65536 * 1 * (2048 * (448 * 448) * 65536 * 65536) : ℝ) * (1 / 400) < (2 : ℝ) ^ (126 : ℤ) := by norm_num
  linarith

end Cert.Gated

end
-- ==== Proof.GateUpBlocks.lean ====
/- THE BLOCKS OF THE GATE-UP KERNEL at an index: point `t` below 768 makes the activations of rows `512 * (t / 16)` on, columns
   `512 * (t % 16)` on; every point writes a block of codes one row of blocks behind it. -/
module

public import proofs.«01_k».proof.Proof.GateUpIdealFrame
public import proofs.«01_k».proof.Proof.GateUpMath
public import Idealize.ShloMosaic.Lib.Pipeline.ValueKit
public import Idealize.ShloMosaic.Lib.Pointwise

@[expose] public section

set_option maxRecDepth 16384

noncomputable section

namespace Cert.GateUpIdeal.Blocks

open Cert.GateUpIdeal Cert.GateUpIdeal.Gen Idealize.ShloMosaic Idealize.ShloMosaic.TcCoe Idealize.SL.Sem
open Cert.Gated

variable (m : (ℓ : Loc nD τ sig) → Buf (Elt Ideal) ℓ) (c : Dev nD)

/-- The blocks a grid point reads. -/
theorem idx : ∀ t : Fin cfg0.N, t.val < 768 → win0_0.index t = ![t.val / 16, 0] ∧ win0_1.index t = ![t.val / 16, 0] ∧ win0_2.index t = ![0, t.val % 16]
    ∧ win0_3.index t = ![0, t.val % 16] ∧ win0_4.index t = ![0, t.val % 16] ∧ win0_5.index t = ![0, t.val % 16] := by
  decide +kernel

/-- The block of codes it writes. -/
theorem idx6 : ∀ t : Fin cfg0.N, win0_6.index t = ![t.val / 16 - 1, t.val % 16] := by
  decide +kernel

/-- Row `R` of the gated activations, from the arguments. -/
abbrev line (R : Fin 24576) : Fin 8192 → EReal :=
  row (fun j => m ((c.tc : Thread nD τ).loc main_arg0) (ix2 R j)) (m ((c.tc : Thread nD τ).loc main_arg1) (ix2 R 0))
    (fun j k => m ((c.tc : Thread nD τ).loc main_arg2) (ix2 j k)) (fun k => m ((c.tc : Thread nD τ).loc main_arg3) (ix1 k))
    (fun j k => m ((c.tc : Thread nD τ).loc main_arg4) (ix2 j k)) (fun k => m ((c.tc : Thread nD τ).loc main_arg5) (ix1 k))

variable (t : Fin cfg0.N) (ht : t.val < 768)

/-- The array row of a block row. -/
abbrev rowAt (r : Fin 512) : Fin 24576 := ⟨t.val / 16 * 512 + r.val, by omega⟩

/-- The array column of a block column. -/
abbrev colAt (q : Fin 512) : Fin 8192 := ⟨t.val % 16 * 512 + q.val, by omega⟩

include ht

theorem x_eq (r : Fin 512) (j : Fin 2048) : iblk m c 0 t (ix2 r j) = m ((c.tc : Thread nD τ).loc main_arg0) (ix2 (rowAt t ht r) j) := by
  blk_ext! [iblk, V, (idx t ht).1]
theorem xs_eq (r : Fin 512) : iblk m c 1 t (ix2 r 0) = m ((c.tc : Thread nD τ).loc main_arg1) (ix2 (rowAt t ht r) 0) := by
  blk_ext! [iblk, V, (idx t ht).2.1]
theorem wg_eq (j : Fin 2048) (q : Fin 512) : iblk m c 2 t (ix2 j q) = m ((c.tc : Thread nD τ).loc main_arg2) (ix2 j (colAt t q)) := by
  blk_ext! [iblk, V, (idx t ht).2.2.1]
theorem sg_eq (q : Fin 512) : iblk m c 3 t (ix2 0 q) = m ((c.tc : Thread nD τ).loc main_arg3) (ix1 (colAt t q)) := by
  blk_ext! [iblk, V, (idx t ht).2.2.2.1]
theorem wu_eq (j : Fin 2048) (q : Fin 512) : iblk m c 4 t (ix2 j q) = m ((c.tc : Thread nD τ).loc main_arg4) (ix2 j (colAt t q)) := by
  blk_ext! [iblk, V, (idx t ht).2.2.2.2.1]
theorem su_eq (q : Fin 512) : iblk m c 5 t (ix2 0 q) = m ((c.tc : Thread nD τ).loc main_arg5) (ix1 (colAt t q)) := by
  blk_ext! [iblk, V, (idx t ht).2.2.2.2.2]

/-- The activations a point makes. -/
theorem acts_eq (r q : Fin 512) :
    k0_pay18 (F := Ideal) (iblk m c 0 t) (iblk m c 1 t) (iblk m c 2 t) (iblk m c 3 t) (iblk m c 4 t) (iblk m c 5 t) (ix2 r q) = line m c (rowAt t ht r) (colAt t q) := by
  pointwise [k0_pay18]
  simp only [x_eq m c t ht, xs_eq m c t ht, wg_eq m c t ht, sg_eq m c t ht, wu_eq m c t ht, su_eq m c t ht]
  rfl

end Cert.GateUpIdeal.Blocks

end
-- ==== Proof.GateUpWalk.lean ====
/- THE WALK of the gate-up kernel over its grid. The slices of activations hold the last 16 blocks made (`act_inv`); the lanes' maxima
   are those of the row of blocks so far (`max_inv`); from one row of blocks behind, the inverse scale is that of the whole row
   (`inv_inv`), hence the block a point writes is the codes of the row of blocks before its own (`out_inv`). -/
module

public import proofs.«01_k».proof.Proof.GateUpSteps
public import proofs.«01_k».proof.Proof.GateUpBlocks

@[expose] public section

noncomputable section

namespace Cert.GateUpIdeal.Walk

open Cert.GateUpIdeal Cert.GateUpIdeal.Gen Cert.GateUpIdeal.Cases Cert.GateUpIdeal.Steps Cert.GateUpIdeal.Blocks
open Idealize.ShloMosaic Idealize.ShloMosaic.TcCoe Idealize.SL.Sem
open Cert.Norm (mabs)
open Cert.Gated

/-- A column of a block: quarter `k`, lane `a`. -/
abbrev quarter (k : Fin 4) (a : Fin 128) : Fin 512 := ⟨k.val * 128 + a.val, by omega⟩

section Payloads

theorem max_pay (A : FVec Ideal S512x512 .f32) (v : Vec Ideal S512x128 .f32) (A0 : FVec Ideal S512x128 .f32) (r : Fin 512) (a : Fin 128) :
    k0_pay5 (F := Ideal) A v A0 (ix2 r a) = max (max (max (max (v (ix2 r a)) (mabs (A0 (ix2 r a)))) (mabs (A (ix2 r (quarter 1 a)))))
      (mabs (A (ix2 r (quarter 2 a))))) (mabs (A (ix2 r (quarter 3 a)))) := by
  pointwise [k0_pay5]
  rfl

theorem inv_pay (v : Vec Ideal S512x128 .f32) (r : Fin 512) (a : Fin 128) :
    k0_pay8 (F := Ideal) v (ix2 r a) = Scale.pow (IntOp.subi 127#32 (k0_pay6 (F := Ideal) v (ix2 r 0))) := by
  pointwise [k0_pay8]
  rfl

theorem expo_pay (v : Vec Ideal S512x128 .f32) (r : Fin 512) : k0_pay6 (F := Ideal) v (ix2 r 0)
    = Scale.expo (Finset.fold max (Ideal.ofBits .f32 0xFF800000#32) (fun a : Fin 128 => v (ix2 r a)) Finset.univ * Ideal.ofBits .f32 0x3B124925#32) := by
  pointwise [k0_pay6]
  rfl

theorem first_pay (x0 : Vec Ideal S512x2048 .fp8e4m3) (x1 : Vec Ideal S512x1 .f32) (x2 : Vec Ideal S2048x512 .fp8e4m3) (x3 : Vec Ideal S1x512 .f32)
    (x4 : Vec Ideal S2048x512 .fp8e4m3) (x5 : Vec Ideal S1x512 .f32) (r : Fin 512) (a : Fin 128) :
    k0_pay20 (F := Ideal) x0 x1 x2 x3 x4 x5 (ix2 r a) = k0_pay18 (F := Ideal) x0 x1 x2 x3 x4 x5 (ix2 r (quarter 0 a)) := by
  unfold k0_pay20
  generalize k0_pay18 (F := Ideal) x0 x1 x2 x3 x4 x5 = A
  have e : quarter 0 a = ⟨a.val, by omega⟩ := Fin.ext (by show 0 * 128 + a.val = a.val; omega)
  rw [e]
  pointwise []

end Payloads

variable (m : (ℓ : Loc nD τ sig) → Buf (Elt Ideal) ℓ) (c : Dev nD)

theorem lt_N (p : ℕ) (hp : p < 768) : p < cfg0.N := lt_of_lt_of_eq (by omega) N_0.symm

/-- The slices of activations. -/
theorem act_inv (n : ℕ) : ∀ (hn : n < cfg0.N) (p : ℕ) (hp : p < 768), p ≤ n → n < p + 16 → ∀ s : Fin 16, s.val = p % 16 → ∀ r q : Fin 512,
    (outsAt0 m c n hn).2.1 (ix3 s r q) = acts m c ⟨p, lt_N p hp⟩ (ix2 r q) := by
  induction n with
  | zero =>
    intro hn p hp h1 h2 s hs r q
    obtain rfl : p = 0 := by omega
    exact act_mem m c ⟨0, hn⟩ hp s hs r q
  | succ n ih =>
    intro hn p hp h1 h2 s hs r q
    by_cases h : p = n + 1
    · subst h
      exact act_mem m c ⟨n + 1, hn⟩ hp s hs r q
    · refine (act_keep m c ⟨n + 1, hn⟩ (Nat.succ_ne_zero n) s (fun _ => ?_) r q).trans (ih _ p hp (by omega) (by omega) s hs r q)
      show s.val ≠ (n + 1) % 16
      omega

theorem max_pay_le (t : Fin cfg0.N) (v : Vec Ideal S512x128 .f32) (r : Fin 512) (a : Fin 128) (x : EReal) :
    k0_pay5 (F := Ideal) (acts m c t) v (acts0 m c t) (ix2 r a) ≤ x ↔ v (ix2 r a) ≤ x ∧ ∀ k : Fin 4, mabs (acts m c t (ix2 r (quarter k a))) ≤ x := by
  rw [max_pay, show acts0 m c t (ix2 r a) = acts m c t (ix2 r (quarter 0 a)) from first_pay ..]
  simp only [max_le_iff]
  constructor
  · rintro ⟨⟨⟨⟨hv, h0⟩, h1⟩, h2⟩, h3⟩
    exact ⟨hv, fun k => match k with | 0 => h0 | 1 => h1 | 2 => h2 | 3 => h3⟩
  · rintro ⟨hv, h⟩
    exact ⟨⟨⟨⟨hv, h 0⟩, h 1⟩, h 2⟩, h 3⟩

/-- The lanes' maxima. -/
theorem max_inv (n : ℕ) : ∀ (hn : n < 768) (r : Fin 512) (a : Fin 128) (x : EReal), (outsAt0 m c n (lt_N n hn)).2.2.1 (ix2 r a) ≤ x ↔
    0 ≤ x ∧ ∀ (p : ℕ) (hp : p ≤ n), p / 16 = n / 16 → ∀ k : Fin 4, mabs (acts m c ⟨p, lt_N p (by omega)⟩ (ix2 r (quarter k a))) ≤ x := by
  have first : ∀ (n : ℕ) (hn : n < 768), n % 16 = 0 → ∀ (r : Fin 512) (a : Fin 128) (x : EReal), (outsAt0 m c n (lt_N n hn)).2.2.1 (ix2 r a) ≤ x ↔
      0 ≤ x ∧ ∀ (p : ℕ) (hp : p ≤ n), p / 16 = n / 16 → ∀ k : Fin 4, mabs (acts m c ⟨p, lt_N p (by omega)⟩ (ix2 r (quarter k a))) ≤ x := by
    intro n hn h r a x
    obtain ⟨z, hz, e⟩ := max_first m c ⟨n, lt_N n hn⟩ hn h
    rw [show (outsAt0 m c n (lt_N n hn)).2.2.1 = _ from e, max_pay_le, hz, Scale.zero_eq, EReal.coe_zero]
    refine and_congr_right fun _ => ⟨fun H p hp hpn k => ?_, fun H k => H n le_rfl rfl k⟩
    obtain rfl : p = n := by omega
    exact H k
  induction n with
  | zero => exact fun hn => first 0 hn rfl
  | succ n ih =>
    intro hn r a x
    by_cases h : (n + 1) % 16 = 0
    · exact first (n + 1) hn h r a x
    · have e := max_next m c ⟨n + 1, lt_N _ hn⟩ hn h
      rw [show (outsAt0 m c (n + 1) (lt_N _ hn)).2.2.1 = _ from e, max_pay_le]
      rw [show (prev m c ⟨n + 1, lt_N _ hn⟩).2.2.1 (ix2 r a) ≤ x ↔ _ from ih (by omega) r a x]
      constructor
      · rintro ⟨⟨h0, H⟩, H'⟩
        refine ⟨h0, fun p hp hpn k => ?_⟩
        by_cases hpe : p = n + 1
        · subst hpe
          exact H' k
        · exact H p (by omega) (by omega) k
      · rintro ⟨h0, H⟩
        exact ⟨⟨h0, fun p hp hpn k => H p (by omega) (by omega) k⟩, fun k => H (n + 1) le_rfl rfl k⟩

/-- Row `r` of the row of blocks before point `n`. -/
abbrev rowBefore (n : ℕ) (hn : n < 784) (r : Fin 512) : Fin 24576 := ⟨(n / 16 - 1) * 512 + r.val, by omega⟩

/-- At the end of a row of blocks the largest of the lanes' maxima is the largest magnitude of the row. -/
theorem top_inv (n : ℕ) (hn : n < 784) (h16 : 16 ≤ n) (h : n % 16 = 0) (r : Fin 512) :
    Finset.fold max (Ideal.ofBits .f32 0xFF800000#32) (fun a : Fin 128 => (outsAt0 m c (n - 1) (lt_N _ (by omega))).2.2.1 (ix2 r a)) Finset.univ
      = top (line m c (rowBefore n hn r)) := by
  refine eq_of_forall_ge_iff fun x => ?_
  rw [top_le, Finset.fold_max_le, bot_eq]
  constructor
  · rintro ⟨-, H⟩ k
    have hk : k.val < 8192 := k.isLt
    have hp : (n / 16 - 1) * 16 + k.val / 512 < 768 := by omega
    have := ((max_inv m c (n - 1) (by omega) r ⟨k.val % 128, by omega⟩ x).1 (H _ (Finset.mem_univ _))).2
      ((n / 16 - 1) * 16 + k.val / 512) (by omega) (by omega) ⟨k.val % 512 / 128, by omega⟩
    rw [show acts m c ⟨(n / 16 - 1) * 16 + k.val / 512, lt_N _ hp⟩ _ = _ from acts_eq m c ⟨(n / 16 - 1) * 16 + k.val / 512, lt_N _ hp⟩ hp r _] at this
    have e1 : rowAt ⟨(n / 16 - 1) * 16 + k.val / 512, lt_N _ hp⟩ hp r = rowBefore n hn r := Fin.ext (by
      show ((n / 16 - 1) * 16 + k.val / 512) / 16 * 512 + r.val = (n / 16 - 1) * 512 + r.val; omega)
    have e2 : colAt ⟨(n / 16 - 1) * 16 + k.val / 512, lt_N _ hp⟩ (quarter ⟨k.val % 512 / 128, by omega⟩ ⟨k.val % 128, by omega⟩) = k := Fin.ext (by
      show ((n / 16 - 1) * 16 + k.val / 512) % 16 * 512 + (k.val % 512 / 128 * 128 + k.val % 128) = k.val; omega)
    rw [e1, e2] at this
    exact this
  · intro H
    refine ⟨bot_le, fun a _ => (max_inv m c (n - 1) (by omega) r a x).2 ⟨le_trans (mabs_nonneg _) (H 0), fun p hp hpn k => ?_⟩⟩
    have hp' : p < 768 := by omega
    rw [show acts m c ⟨p, lt_N p hp'⟩ _ = _ from acts_eq m c ⟨p, lt_N p hp'⟩ hp' r _]
    have e1 : rowAt ⟨p, lt_N p hp'⟩ hp' r = rowBefore n hn r := Fin.ext (by
      show p / 16 * 512 + r.val = (n / 16 - 1) * 512 + r.val; omega)
    rw [e1]
    exact H _

/-- The inverse scale. -/
theorem inv_inv (n : ℕ) : ∀ (hn : n < 784) (h16 : 16 ≤ n) (r : Fin 512) (a : Fin 128), (outsAt0 m c n (lt_of_lt_of_eq hn N_0.symm)).2.2.2 (ix2 r a)
    = Scale.pow (IntOp.subi 127#32 (Scale.expo (mag (line m c (rowBefore n hn r))))) := by
  induction n with
  | zero => intro hn h16; omega
  | succ n ih =>
    intro hn h16 r a
    by_cases h : (n + 1) % 16 = 0
    · have e := inv_first m c ⟨n + 1, lt_of_lt_of_eq hn N_0.symm⟩ (Nat.succ_ne_zero n) h
      rw [show (outsAt0 m c (n + 1) (lt_of_lt_of_eq hn N_0.symm)).2.2.2 = _ from e, inv_pay, expo_pay]
      unfold mag
      rw [← top_inv m c (n + 1) hn h16 h r]
    · have e := inv_next m c ⟨n + 1, lt_of_lt_of_eq hn N_0.symm⟩ h
      refine (congrFun e (ix2 r a)).trans ((ih (by omega) (by omega) r a).trans ?_)
      have e1 : rowBefore n (by omega) r = rowBefore (n + 1) hn r := Fin.ext (by
        show (n / 16 - 1) * 512 + r.val = ((n + 1) / 16 - 1) * 512 + r.val; omega)
      rw [e1]

/-- Column `q` of the columns of blocks of point `n`. -/
abbrev colOf (n : ℕ) (q : Fin 512) : Fin 8192 := ⟨n % 16 * 512 + q.val, by omega⟩

/-- The block of codes a point writes. -/
theorem out_inv (hb : ∀ R, mag (line m c R) < (((2 : ℝ) ^ (126 : ℤ) : ℝ) : EReal) ∨ mag (line m c R) = ⊤) (n : ℕ) (hn : n < 784) (h16 : 16 ≤ n) (r q : Fin 512) :
    (outsAt0 m c n (lt_of_lt_of_eq hn N_0.symm)).1 (ix2 r q) = code (line m c (rowBefore n hn r)) (colOf n q) := by
  have hp : n - 16 < 768 := by omega
  refine (out_eq m c ⟨n, lt_of_lt_of_eq hn N_0.symm⟩ (by show n ≠ 0; omega) ⟨n % 16, by omega⟩ rfl r q).trans ?_
  rw [show (outsAt0 m c n (lt_of_lt_of_eq hn N_0.symm)).2.2.2 (ix2 r (lane q)) = _ from inv_inv m c n hn h16 r (lane q), Scale.inv_eq _ (hb _)]
  rw [show (prev m c ⟨n, lt_of_lt_of_eq hn N_0.symm⟩).2.1 (ix3 ⟨n % 16, by omega⟩ r q) = _ from
    act_inv m c (n - 1) _ (n - 16) hp (by omega) (by omega) ⟨n % 16, by omega⟩ (by show n % 16 = (n - 16) % 16; omega) r q]
  rw [show acts m c ⟨n - 16, lt_N _ hp⟩ (ix2 r q) = _ from acts_eq m c ⟨n - 16, lt_N _ hp⟩ hp r q]
  have e1 : rowAt ⟨n - 16, lt_N _ hp⟩ hp r = rowBefore n hn r := Fin.ext (by
    show (n - 16) / 16 * 512 + r.val = (n / 16 - 1) * 512 + r.val; omega)
  have e2 : colAt ⟨n - 16, lt_N _ hp⟩ q = colOf n q := Fin.ext (by
    show (n - 16) % 16 * 512 + q.val = n % 16 * 512 + q.val; omega)
  rw [e1, e2]
  rfl

end Cert.GateUpIdeal.Walk

end
-- ==== Proof.GateUpIdealValue.lean ====
/- THE FRAME OF `GateUpIdeal`, Value: the array of codes after the run, what each grid point writes back of it, and what the carried arrays hold from point to point.
   What the body leaves in the block of codes is named, what it leaves in the block of scales is not. -/
module

public import proofs.«01_k».proof.Proof.GateUpIdealFrame
public import Idealize.ShloMosaic.Lib.Pipeline.Value

@[expose] public section

noncomputable section

namespace Cert.GateUpIdeal.Value

open Cert.GateUpIdeal Cert.GateUpIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 6's array: the run's contents for that window after the body (`Gen.outsAt0`: its component 0), read through the window's block. -/
theorem flushed6 (c : Dev nD) (t : Fin cfg0.N) :
    (dats m 0 c).flushed 6 t = (cfg0.win 6).cut (grid0.coords t) ((outsAt0 m c t.val t.isLt).1) := by
  show (cfg0.win 6).cut (grid0.coords t) ((dats m 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — by the frame's rewriting lemma for the case. -/
theorem flushed6_A (c : Dev nD) (t : Fin cfg0.N) (h0 : t.val % 784 = 0) (h1 : t.val % 16 = 0) (h2 : ¬768 ≤ t.val) (h3 : t.val < 768) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) ((hcond0_1 t).mpr h1) (fun h => h2 ((hcond0_2 t).mp h)) ((hcond0_3 t).mpr h3) (iblk m c 0 t) (iblk m c 1 t) (iblk m c 2 t) (iblk m c 3 t) (iblk m c 4 t) (iblk m c 5 t)) := by
  simp only [flushed6, outsAt0_A m c t h0 h1 h2 h3]

/-- … so at a point where case B runs, what its write-back would write is that case's NAMED TERM for the window (`Gen.out0_B_6`: the pieces
    its run found, read back) at the point's memrefs and input blocks, and for an output the case reads back what the point before left (`Gen.outsAt0` at `t - 1`) — by the frame's rewriting lemma for the case. -/
theorem flushed6_B (c : Dev nD) (t : Fin cfg0.N) (h0 : ¬t.val % 784 = 0) (h1 : ¬t.val % 16 = 0) (h2 : ¬768 ≤ t.val) (h3 : t.val < 768) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed6, outsAt0_B m c t h0 h1 h2 h3]

/-- … so at a point where case C runs, what its write-back would write is that case's NAMED TERM for the window (`Gen.out0_C_6`: the pieces
    its run found, read back) at the point's memrefs and input blocks, and for an output the case reads back what the point before left (`Gen.outsAt0` at `t - 1`) — by the frame's rewriting lemma for the case. -/
theorem flushed6_C (c : Dev nD) (t : Fin cfg0.N) (h0 : ¬t.val % 784 = 0) (h1 : t.val % 16 = 0) (h2 : ¬768 ≤ t.val) (h3 : t.val < 768) :
    (dats m 0 c).flushed 6 t = (cfg0.win 6).cut (grid0.coords t) (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1) := by
  simp only [flushed6, outsAt0_C m c t h0 h1 h2 h3]

/-- … so at a point where case D runs, what its write-back would write is that case's NAMED TERM for the window (`Gen.out0_D_6`: the pieces
    its run found, read back) at the point's memrefs and input blocks, and for an output the case reads back what the point before left (`Gen.outsAt0` at `t - 1`) — by the frame's rewriting lemma for the case. -/
theorem flushed6_D (c : Dev nD) (t : Fin cfg0.N) (h0 : ¬t.val % 784 = 0) (h1 : t.val % 16 = 0) (h2 : 768 ≤ t.val) (h3 : ¬t.val < 768) :
    (dats m 0 c).flushed 6 t = (cfg0.win 6).cut (grid0.coords t) (out0_D_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1) := by
  simp only [flushed6, outsAt0_D m c t h0 h1 h2 h3]

/-- … so at a point where case E runs, what its write-back would write is that case's NAMED TERM for the window (`Gen.out0_E_6`: the pieces
    its run found, read back) at the point's memrefs and input blocks, and for an output the case reads back what the point before left (`Gen.outsAt0` at `t - 1`) — by the frame's rewriting lemma for the case. -/
theorem flushed6_E (c : Dev nD) (t : Fin cfg0.N) (h0 : ¬t.val % 784 = 0) (h1 : ¬t.val % 16 = 0) (h2 : 768 ≤ t.val) (h3 : ¬t.val < 768) :
    (dats m 0 c).flushed 6 t = (cfg0.win 6).cut (grid0.coords t) (out0_E_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed6, outsAt0_E m c t h0 h1 h2 h3]

-- no `blocks6`: window 6's index map revisits a block index, or its points could not be enumerated here;
-- the final array is still the frame's `arrAt`, to read with Lib/Pipeline/Value.lean's lemmas by hand

/-- An index that no flushing point's block covers keeps output window 6's array contents at region entry. -/
theorem entry6 (c : Dev nD) (i : S24576x8192.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- A NAMED output window's array after the frame run: `(dats m 0 c).arrAt w N`, read off the run's relational post (`h`:
    the proof data with the windows `Gen.forgets0` forgotten) at any window `w` it does not forget (`hw`), by
    Lib/Pipeline/Cells.lean `Dat.toRForget_arrAt_iff`. -/
theorem finalR_out0 (r : PUnit × MemSt nD τ sig (Elt F)) (h : Pipeline.RDat.FramePost (cfgs 0) (fun c => (dats m 0 c).toRForget forgets0) (V m) r) (c : Dev nD) (w : Fin 8) (hw : forgets0 w = false) :
    r.2.mem ((cfg0.spec w).arr.view.loc (c : Thread nD τ)) = (dats m 0 c).arrAt w cfg0.N :=
  ((dats m 0 c).toRForget_arrAt_iff hw _ _).mp ((h c).1 w)

/-- After the frame run, output window 6's array is `(dats m 0 c).arrAt 6 N`. -/
theorem post6 (r : PUnit × MemSt nD τ sig (Elt F)) (h : Pipeline.RDat.FramePost (cfgs 0) (fun c => (dats m 0 c).toRForget forgets0) (V m) r) (c : Dev nD) :
    r.2.mem ((c : Thread nD τ).loc main_v5_0) = (dats m 0 c).arrAt 6 cfg0.N :=
  finalR_out0 m r h c 6 forgets0_6

/-- After the frame run, argument `main_arg0` is as launched: no window stages it, and the run leaves the region's other buffers as they were. -/
theorem kept_main_arg0 (r : PUnit × MemSt nD τ sig (Elt F)) (h : Pipeline.RDat.FramePost (cfgs 0) (fun c => (dats m 0 c).toRForget forgets0) (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt F)) (h : Pipeline.RDat.FramePost (cfgs 0) (fun c => (dats m 0 c).toRForget forgets0) (V m) r) (c : Dev nD) :
    r.2.mem ((c : Thread nD τ).loc main_arg1) = m ((c : Thread nD τ).loc main_arg1) :=
  (Pipeline.RDat.FramePost.arr_in h c 1 rfl).trans ((A_eq m c 1).trans (V_main_arg1 m c))

/-- After the frame run, argument `main_arg2` is as launched: no window stages it, and the run leaves the region's other buffers as they were. -/
theorem kept_main_arg2 (r : PUnit × MemSt nD τ sig (Elt F)) (h : Pipeline.RDat.FramePost (cfgs 0) (fun c => (dats m 0 c).toRForget forgets0) (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.RDat.FramePost (cfgs 0) (fun c => (dats m 0 c).toRForget forgets0) (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.RDat.FramePost (cfgs 0) (fun c => (dats m 0 c).toRForget forgets0) (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.RDat.FramePost (cfgs 0) (fun c => (dats m 0 c).toRForget forgets0) (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The frame run with each output array the frame names after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v5_0) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c,
      kept_main_arg0 m r h c,
      kept_main_arg1 m r h c,
      kept_main_arg2 m r h c,
      kept_main_arg3 m r h c,
      kept_main_arg4 m r h c,
      kept_main_arg5 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S16x512x512 .f32) : Vec F S16x512x512 .f32 :=
  if h0 : n % 784 = 0 then
    if h1 : n % 16 = 0 then
      if h2 : 768 ≤ n then
        acc
      else
        if h3 : n < 768 then
          sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) ((hcond0_0 (⟨n, hb⟩ : Fin cfg0.N)).mpr h0) ((hcond0_1 (⟨n, hb⟩ : Fin cfg0.N)).mpr h1) (fun h => h2 ((hcond0_2 (⟨n, hb⟩ : Fin cfg0.N)).mp h)) ((hcond0_3 (⟨n, hb⟩ : Fin cfg0.N)).mpr h3) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N))
        else
          acc
    else
      acc
  else
    if h1 : n % 16 = 0 then
      if h2 : 768 ≤ n then
        if h3 : n < 768 then
          acc
        else
          sout0_D_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) ((hcond0_2 (⟨n, hb⟩ : Fin cfg0.N)).mpr h2) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.1
      else
        if h3 : n < 768 then
          sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) ((hcond0_3 (⟨n, hb⟩ : Fin cfg0.N)).mpr h3) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.1
        else
          acc
    else
      if h2 : 768 ≤ n then
        if h3 : n < 768 then
          acc
        else
          sout0_E_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2
      else
        if h3 : n < 768 then
          sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (fun h => h2 ((hcond0_2 (⟨n, hb⟩ : Fin cfg0.N)).mp h)) ((hcond0_3 (⟨n, hb⟩ : Fin cfg0.N)).mpr h3) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2
        else
          acc

/-- WHAT CARRIED SCRATCH 0 HOLDS after point `t`: the fold of its run up to `t`, from the reset at the run's first point
    `784·(t / 784)` (Lib/Pipeline/Value.lean `Pipeline.eq_accAt_of_mod`, by the frame's `outsAt0_κ`; without enumerating the points). -/
theorem soutsAt0_0_eq (c : Dev nD) (t : Fin cfg0.N) :
    (outsAt0 m c t.val t.isLt).2.1 = Pipeline.accAt (fun n h => scAt0_0 m c n h (VS0_0.read (Elt F) VS0_0.junk)) (scAt0_0 m c) (784 * (t.val / 784)) (t.val % 784)
      (by have h1 := t.isLt; have h2 := Nat.div_add_mod t.val 784; omega) :=
  Pipeline.eq_accAt_of_mod (fun n h => (outsAt0 m c n h).2.1) 784 (fun n h => scAt0_0 m c n h (VS0_0.read (Elt F) VS0_0.junk)) (scAt0_0 m c)
    (fun n h hn => by
      have hN := lt_of_lt_of_eq h (show cfg0.N = 784 from N_0)
      by_cases h0 : n % 784 = 0 <;> by_cases h1 : n % 16 = 0 <;> by_cases h2 : 768 ≤ n <;> by_cases h3 : n < 768
      all_goals first | (exfalso; omega) | (rw [outsAt0_A m c ⟨n, h⟩ h0 h1 h2 h3]; dsimp only; unfold scAt0_0; rw [dif_pos h0, dif_pos h1, dif_neg h2, dif_pos h3] <;> try rfl) | (rw [outsAt0_B m c ⟨n, h⟩ h0 h1 h2 h3]; dsimp only; unfold scAt0_0; rw [dif_neg h0, dif_neg h1, dif_neg h2, dif_pos h3] <;> try rfl) | (rw [outsAt0_C m c ⟨n, h⟩ h0 h1 h2 h3]; dsimp only; unfold scAt0_0; rw [dif_neg h0, dif_pos h1, dif_neg h2, dif_pos h3] <;> try rfl) | (rw [outsAt0_D m c ⟨n, h⟩ h0 h1 h2 h3]; dsimp only; unfold scAt0_0; rw [dif_neg h0, dif_pos h1, dif_pos h2, dif_neg h3] <;> try rfl) | (rw [outsAt0_E m c ⟨n, h⟩ h0 h1 h2 h3]; dsimp only; unfold scAt0_0; rw [dif_neg h0, dif_neg h1, dif_pos h2, dif_neg h3] <;> try rfl))
    (fun n h hn => by
      have hN := lt_of_lt_of_eq h (show cfg0.N = 784 from N_0)
      by_cases h0 : (n + 1) % 784 = 0 <;> by_cases h1 : (n + 1) % 16 = 0 <;> by_cases h2 : 768 ≤ (n + 1) <;> by_cases h3 : (n + 1) < 768
      all_goals first | (exfalso; omega) | (rw [outsAt0_A m c ⟨n + 1, h⟩ h0 h1 h2 h3]; dsimp only; unfold scAt0_0; rw [dif_pos h0, dif_pos h1, dif_neg h2, dif_pos h3] <;> try rfl) | (rw [outsAt0_B m c ⟨n + 1, h⟩ h0 h1 h2 h3]; dsimp only; unfold scAt0_0; rw [dif_neg h0, dif_neg h1, dif_neg h2, dif_pos h3] <;> try rfl) | (rw [outsAt0_C m c ⟨n + 1, h⟩ h0 h1 h2 h3]; dsimp only; unfold scAt0_0; rw [dif_neg h0, dif_pos h1, dif_neg h2, dif_pos h3] <;> try rfl) | (rw [outsAt0_D m c ⟨n + 1, h⟩ h0 h1 h2 h3]; dsimp only; unfold scAt0_0; rw [dif_neg h0, dif_pos h1, dif_pos h2, dif_neg h3] <;> try rfl) | (rw [outsAt0_E m c ⟨n + 1, h⟩ h0 h1 h2 h3]; dsimp only; unfold scAt0_0; rw [dif_neg h0, dif_neg h1, dif_pos h2, dif_neg h3] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2.1 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 784 from N_0)
  have hd : n / 784 = 0 := Nat.div_eq_of_lt hN
  have hm : n % 784 = n := Nat.mod_eq_of_lt hN
  simpa only [hd, hm, Nat.mul_zero] using e

/-! ## Carried scratch 1: what each point leaves in it, and its fold -/

/-- What point `n` leaves in carried scratch 1, over what the point before left in it (`acc`): the case the conditions'
    closed forms select at `n`, the frame's own term for it (`Gen.sout0_κ_1`; anything else the case takes of the point
    before, another carried scratch or an output it reads back, stays `Gen.outsAt0`'s at `n - 1`); a case at the first point
    stores the scratch whole without reading what it held, and `acc` does not enter there (nor where no point meets the
    conditions: `acc`, never read). -/
def scAt0_1 (c : Dev nD) (n : ℕ) (hb : n < cfg0.N) (acc : Vec F S512x128 .f32) : Vec F S512x128 .f32 :=
  if h0 : n % 784 = 0 then
    if h1 : n % 16 = 0 then
      if h2 : 768 ≤ n then
        acc
      else
        if h3 : n < 768 then
          sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) ((hcond0_0 (⟨n, hb⟩ : Fin cfg0.N)).mpr h0) ((hcond0_1 (⟨n, hb⟩ : Fin cfg0.N)).mpr h1) (fun h => h2 ((hcond0_2 (⟨n, hb⟩ : Fin cfg0.N)).mp h)) ((hcond0_3 (⟨n, hb⟩ : Fin cfg0.N)).mpr h3) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N))
        else
          acc
    else
      acc
  else
    if h1 : n % 16 = 0 then
      if h2 : 768 ≤ n then
        if h3 : n < 768 then
          acc
        else
          sout0_D_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) ((hcond0_2 (⟨n, hb⟩ : Fin cfg0.N)).mpr h2) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc
      else
        if h3 : n < 768 then
          sout0_C_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) ((hcond0_3 (⟨n, hb⟩ : Fin cfg0.N)).mpr h3) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc
        else
          acc
    else
      if h2 : 768 ≤ n then
        if h3 : n < 768 then
          acc
        else
          sout0_E_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc (outsAt0 m c ((⟨n, hb⟩ : Fin cfg0.N).val - 1) (Nat.lt_of_le_of_lt (Nat.sub_le _ _) (⟨n, hb⟩ : Fin cfg0.N).isLt)).2.2.2
      else
        if h3 : n < 768 then
          sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (fun h => h2 ((hcond0_2 (⟨n, hb⟩ : Fin cfg0.N)).mp h)) ((hcond0_3 (⟨n, hb⟩ : Fin cfg0.N)).mpr h3) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc (outsAt0 m c ((⟨n, hb⟩ : Fin cfg0.N).val - 1) (Nat.lt_of_le_of_lt (Nat.sub_le _ _) (⟨n, hb⟩ : Fin cfg0.N).isLt)).2.2.2
        else
          acc

/-- WHAT CARRIED SCRATCH 1 HOLDS after point `t`: the fold of its run up to `t`, from the reset at the run's first point
    `784·(t / 784)` (Lib/Pipeline/Value.lean `Pipeline.eq_accAt_of_mod`, by the frame's `outsAt0_κ`; without enumerating the points). -/
theorem soutsAt0_1_eq (c : Dev nD) (t : Fin cfg0.N) :
    (outsAt0 m c t.val t.isLt).2.2.1 = Pipeline.accAt (fun n h => scAt0_1 m c n h (VS0_1.read (Elt F) VS0_1.junk)) (scAt0_1 m c) (784 * (t.val / 784)) (t.val % 784)
      (by have h1 := t.isLt; have h2 := Nat.div_add_mod t.val 784; omega) :=
  Pipeline.eq_accAt_of_mod (fun n h => (outsAt0 m c n h).2.2.1) 784 (fun n h => scAt0_1 m c n h (VS0_1.read (Elt F) VS0_1.junk)) (scAt0_1 m c)
    (fun n h hn => by
      have hN := lt_of_lt_of_eq h (show cfg0.N = 784 from N_0)
      by_cases h0 : n % 784 = 0 <;> by_cases h1 : n % 16 = 0 <;> by_cases h2 : 768 ≤ n <;> by_cases h3 : n < 768
      all_goals first | (exfalso; omega) | (rw [outsAt0_A m c ⟨n, h⟩ h0 h1 h2 h3]; dsimp only; unfold scAt0_1; rw [dif_pos h0, dif_pos h1, dif_neg h2, dif_pos h3] <;> try rfl) | (rw [outsAt0_B m c ⟨n, h⟩ h0 h1 h2 h3]; dsimp only; unfold scAt0_1; rw [dif_neg h0, dif_neg h1, dif_neg h2, dif_pos h3] <;> try rfl) | (rw [outsAt0_C m c ⟨n, h⟩ h0 h1 h2 h3]; dsimp only; unfold scAt0_1; rw [dif_neg h0, dif_pos h1, dif_neg h2, dif_pos h3] <;> try rfl) | (rw [outsAt0_D m c ⟨n, h⟩ h0 h1 h2 h3]; dsimp only; unfold scAt0_1; rw [dif_neg h0, dif_pos h1, dif_pos h2, dif_neg h3] <;> try rfl) | (rw [outsAt0_E m c ⟨n, h⟩ h0 h1 h2 h3]; dsimp only; unfold scAt0_1; rw [dif_neg h0, dif_neg h1, dif_pos h2, dif_neg h3] <;> try rfl))
    (fun n h hn => by
      have hN := lt_of_lt_of_eq h (show cfg0.N = 784 from N_0)
      by_cases h0 : (n + 1) % 784 = 0 <;> by_cases h1 : (n + 1) % 16 = 0 <;> by_cases h2 : 768 ≤ (n + 1) <;> by_cases h3 : (n + 1) < 768
      all_goals first | (exfalso; omega) | (rw [outsAt0_A m c ⟨n + 1, h⟩ h0 h1 h2 h3]; dsimp only; unfold scAt0_1; rw [dif_pos h0, dif_pos h1, dif_neg h2, dif_pos h3] <;> try rfl) | (rw [outsAt0_B m c ⟨n + 1, h⟩ h0 h1 h2 h3]; dsimp only; unfold scAt0_1; rw [dif_neg h0, dif_neg h1, dif_neg h2, dif_pos h3] <;> try rfl) | (rw [outsAt0_C m c ⟨n + 1, h⟩ h0 h1 h2 h3]; dsimp only; unfold scAt0_1; rw [dif_neg h0, dif_pos h1, dif_neg h2, dif_pos h3] <;> try rfl) | (rw [outsAt0_D m c ⟨n + 1, h⟩ h0 h1 h2 h3]; dsimp only; unfold scAt0_1; rw [dif_neg h0, dif_pos h1, dif_pos h2, dif_neg h3] <;> try rfl) | (rw [outsAt0_E m c ⟨n + 1, h⟩ h0 h1 h2 h3]; dsimp only; unfold scAt0_1; rw [dif_neg h0, dif_neg h1, dif_pos h2, dif_neg h3] <;> try rfl))
    (by decide) t.val t.isLt _

/-- One run spans the grid (the only reset is at point 0): after point `n` the scratch is the fold from 0 to `n`. -/
theorem soutsAt0_1_sweep (c : Dev nD) (n : ℕ) (hn : n < cfg0.N) :
    (outsAt0 m c n hn).2.2.1 = Pipeline.accAt (fun n h => scAt0_1 m c n h (VS0_1.read (Elt F) VS0_1.junk)) (scAt0_1 m c) 0 n (by omega) := by
  have e := soutsAt0_1_eq m c ⟨n, hn⟩
  have hN := lt_of_lt_of_eq hn (show cfg0.N = 784 from N_0)
  have hd : n / 784 = 0 := Nat.div_eq_of_lt hN
  have hm : n % 784 = n := Nat.mod_eq_of_lt hN
  simpa only [hd, hm, Nat.mul_zero] using e

/-! ## Carried scratch 2: what each point leaves in it, and its fold -/

/-- What point `n` leaves in carried scratch 2, over what the point before left in it (`acc`): the case the conditions'
    closed forms select at `n`, the frame's own term for it (`Gen.sout0_κ_2`; anything else the case takes of the point
    before, another carried scratch or an output it reads back, stays `Gen.outsAt0`'s at `n - 1`); a case at the points ≡ 0 (mod 16)
    stores the scratch whole without reading what it held, and `acc` does not enter there (nor where no point meets the
    conditions: `acc`, never read). -/
def scAt0_2 (c : Dev nD) (n : ℕ) (hb : n < cfg0.N) (acc : Vec F S512x128 .f32) : Vec F S512x128 .f32 :=
  if h0 : n % 784 = 0 then
    if h1 : n % 16 = 0 then
      if h2 : 768 ≤ n then
        acc
      else
        if h3 : n < 768 then
          sout0_A_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) ((hcond0_0 (⟨n, hb⟩ : Fin cfg0.N)).mpr h0) ((hcond0_1 (⟨n, hb⟩ : Fin cfg0.N)).mpr h1) (fun h => h2 ((hcond0_2 (⟨n, hb⟩ : Fin cfg0.N)).mp h)) ((hcond0_3 (⟨n, hb⟩ : Fin cfg0.N)).mpr h3) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N))
        else
          acc
    else
      acc
  else
    if h1 : n % 16 = 0 then
      if h2 : 768 ≤ n then
        if h3 : n < 768 then
          acc
        else
          sout0_D_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) ((hcond0_2 (⟨n, hb⟩ : Fin cfg0.N)).mpr h2) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1
      else
        if h3 : n < 768 then
          sout0_C_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) ((hcond0_3 (⟨n, hb⟩ : Fin cfg0.N)).mpr h3) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1
        else
          acc
    else
      if h2 : 768 ≤ n then
        if h3 : n < 768 then
          acc
        else
          sout0_E_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 acc
      else
        if h3 : n < 768 then
          sout0_B_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (fun h => h2 ((hcond0_2 (⟨n, hb⟩ : Fin cfg0.N)).mp h)) ((hcond0_3 (⟨n, hb⟩ : Fin cfg0.N)).mpr h3) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 acc
        else
          acc

/-- WHAT CARRIED SCRATCH 2 HOLDS after point `t`: the fold of its run up to `t`, from the reset at the run's first point
    `16·(t / 16)` (Lib/Pipeline/Value.lean `Pipeline.eq_accAt_of_mod`, by the frame's `outsAt0_κ`; without enumerating the points). -/
theorem soutsAt0_2_eq (c : Dev nD) (t : Fin cfg0.N) :
    (outsAt0 m c t.val t.isLt).2.2.2 = Pipeline.accAt (fun n h => scAt0_2 m c n h (VS0_2.read (Elt F) VS0_2.junk)) (scAt0_2 m c) (16 * (t.val / 16)) (t.val % 16)
      (by have h1 := t.isLt; have h2 := Nat.div_add_mod t.val 16; omega) :=
  Pipeline.eq_accAt_of_mod (fun n h => (outsAt0 m c n h).2.2.2) 16 (fun n h => scAt0_2 m c n h (VS0_2.read (Elt F) VS0_2.junk)) (scAt0_2 m c)
    (fun n h hn => by
      have hN := lt_of_lt_of_eq h (show cfg0.N = 784 from N_0)
      by_cases h0 : n % 784 = 0 <;> by_cases h1 : n % 16 = 0 <;> by_cases h2 : 768 ≤ n <;> by_cases h3 : n < 768
      all_goals first | (exfalso; omega) | (rw [outsAt0_A m c ⟨n, h⟩ h0 h1 h2 h3]; dsimp only; unfold scAt0_2; rw [dif_pos h0, dif_pos h1, dif_neg h2, dif_pos h3] <;> try rfl) | (rw [outsAt0_B m c ⟨n, h⟩ h0 h1 h2 h3]; dsimp only; unfold scAt0_2; rw [dif_neg h0, dif_neg h1, dif_neg h2, dif_pos h3] <;> try rfl) | (rw [outsAt0_C m c ⟨n, h⟩ h0 h1 h2 h3]; dsimp only; unfold scAt0_2; rw [dif_neg h0, dif_pos h1, dif_neg h2, dif_pos h3] <;> try rfl) | (rw [outsAt0_D m c ⟨n, h⟩ h0 h1 h2 h3]; dsimp only; unfold scAt0_2; rw [dif_neg h0, dif_pos h1, dif_pos h2, dif_neg h3] <;> try rfl) | (rw [outsAt0_E m c ⟨n, h⟩ h0 h1 h2 h3]; dsimp only; unfold scAt0_2; rw [dif_neg h0, dif_neg h1, dif_pos h2, dif_neg h3] <;> try rfl))
    (fun n h hn => by
      have hN := lt_of_lt_of_eq h (show cfg0.N = 784 from N_0)
      by_cases h0 : (n + 1) % 784 = 0 <;> by_cases h1 : (n + 1) % 16 = 0 <;> by_cases h2 : 768 ≤ (n + 1) <;> by_cases h3 : (n + 1) < 768
      all_goals first | (exfalso; omega) | (rw [outsAt0_A m c ⟨n + 1, h⟩ h0 h1 h2 h3]; dsimp only; unfold scAt0_2; rw [dif_pos h0, dif_pos h1, dif_neg h2, dif_pos h3] <;> try rfl) | (rw [outsAt0_B m c ⟨n + 1, h⟩ h0 h1 h2 h3]; dsimp only; unfold scAt0_2; rw [dif_neg h0, dif_neg h1, dif_neg h2, dif_pos h3] <;> try rfl) | (rw [outsAt0_C m c ⟨n + 1, h⟩ h0 h1 h2 h3]; dsimp only; unfold scAt0_2; rw [dif_neg h0, dif_pos h1, dif_neg h2, dif_pos h3] <;> try rfl) | (rw [outsAt0_D m c ⟨n + 1, h⟩ h0 h1 h2 h3]; dsimp only; unfold scAt0_2; rw [dif_neg h0, dif_pos h1, dif_pos h2, dif_neg h3] <;> try rfl) | (rw [outsAt0_E m c ⟨n + 1, h⟩ h0 h1 h2 h3]; dsimp only; unfold scAt0_2; rw [dif_neg h0, dif_neg h1, dif_pos h2, dif_neg h3] <;> try rfl))
    (by decide) t.val t.isLt _

end Cert.GateUpIdeal.Value

end
-- ==== Proof.GateUpArrays.lean ====
/- THE CODES OF THE GATE-UP CALL: every row of the array is the row of gated activations (GateUpMath.lean), quantised. The points of the
   first row of blocks write blocks that the second row writes again, one point for each; every later block is written once. -/
module

public import proofs.«01_k».proof.Proof.GateUpWalk
public import proofs.«01_k».proof.Proof.GateUpIdealValue

@[expose] public section

noncomputable section

namespace Cert.GateUpIdeal.Kernel

open Cert.GateUpIdeal Cert.GateUpIdeal.Gen Cert.GateUpIdeal.Blocks Cert.GateUpIdeal.Walk
open Idealize.ShloMosaic Idealize.ShloMosaic.TcCoe Idealize.SL.Sem
open Cert.Gated

variable (m : (ℓ : Loc nD τ sig) → Buf (Elt Ideal) ℓ) (c : Dev nD)

theorem flush6 : ∀ t : Fin cfg0.N, (cfg0.win 6).flush t = true := (by decide +kernel : ∀ t : Fin grid0.N, win0_6.flush t = true)

theorem mem_blk6 (t : Fin cfg0.N) (i : S24576x8192.Idx) :
    i ∈ ((cfg0.win 6).blk t).view.set ↔ ∀ a : Fin 2, win0_6.index t a * S512x512.size a ≤ (i a).val ∧ (i a).val < win0_6.index t a * S512x512.size a + S512x512.size a := by
  show i ∈ ((View.whole main_v5_0).slice (win0_6.rect t)).set ↔ _
  rw [View.set_slice_whole, Rect.mem_set_unit]
  exact Iff.rfl

/-- Every row's magnitude is one of which a float's exponent can be taken. -/
abbrev Bounded : Prop := ∀ R, mag (line m c R) < (((2 : ℝ) ^ (126 : ℤ) : ℝ) : EReal) ∨ mag (line m c R) = ⊤

/-- The whole array of codes. -/
def codes : S24576x8192.Idx → EReal := fun i => code (line m c (i 0)) (i 1)

/-- A block written from the second row of blocks on is a block of the array of codes. -/
theorem block_eq (hb : Bounded m c) (t : Fin cfg0.N) (h16 : 16 ≤ t.val) :
    (dats m 0 c).flushed 6 t = ((cfg0.win 6).blk t).view.read (Elt Ideal) (codes m c) := by
  have ht : t.val < 784 := lt_of_lt_of_eq t.isLt N_0
  show (cfg0.win 6).cut (grid0.coords t) ((dats m 0 c).after 6 t) = _
  rw [after0_6]
  funext y
  obtain ⟨r, q, rfl⟩ : ∃ (r : Fin 512) (q : Fin 512), y = ix2 r q := ⟨y 0, y 1, eq_ix2 y⟩
  refine (out_inv m c hb t.val ht h16 r q).trans ?_
  have e0 : ((cfg0.win 6).blk t).view.emb (ix2 r q) 0 = rowBefore t.val ht r := Fin.ext (by
    show win0_6.index t (0 : Fin 2) * 512 + 1 * r.val = _
    rw [idx6]; show (t.val / 16 - 1) * 512 + 1 * r.val = (t.val / 16 - 1) * 512 + r.val; omega)
  have e1 : ((cfg0.win 6).blk t).view.emb (ix2 r q) 1 = colOf t.val q := Fin.ext (by
    show win0_6.index t (1 : Fin 2) * 512 + 1 * q.val = _
    rw [idx6]; show t.val % 16 * 512 + 1 * q.val = t.val % 16 * 512 + q.val; omega)
  show _ = code (line m c (((cfg0.win 6).blk t).view.emb (ix2 r q) 0)) (((cfg0.win 6).blk t).view.emb (ix2 r q) 1)
  rw [e0, e1]

/-- An index of a block written from the second row of blocks on holds its code from then on. -/
theorem arr_at (hb : Bounded m c) (i : S24576x8192.Idx) (t : Fin cfg0.N) (h16 : 16 ≤ t.val) (hi : i ∈ ((cfg0.win 6).blk t).view.set) :
    ∀ n : ℕ, t.val < n → n ≤ cfg0.N → (dats m 0 c).arrAt 6 n i = codes m c i := by
  intro n
  induction n with
  | zero => intro h; exact absurd h (Nat.not_lt_zero _)
  | succ n ih =>
    intro h hN
    have hn : n < cfg0.N := hN
    rw [Pipeline.Dat.arrAt_succ_apply, dif_pos hn, if_pos (flush6 _), block_eq m c hb ⟨n, hn⟩ (by show 16 ≤ n; omega), View.write_read_eq_piecewise]
    by_cases hin : i ∈ ((cfg0.win 6).blk ⟨n, hn⟩).view.setOn Finset.univ
    · rw [Finset.piecewise_eq_of_mem _ _ _ hin]
    · rw [Finset.piecewise_eq_of_notMem _ _ _ hin]
      have htn : t.val ≠ n := fun e => hin (by rw [View.setOn_univ]; have : t = ⟨n, hn⟩ := Fin.ext e; exact this ▸ hi)
      exact ih (by omega) (by omega)

/-- THE ARRAY OF CODES. -/
theorem codes_eq (hb : Bounded m c) : (dats m 0 c).arrAt 6 cfg0.N = codes m c := by
  funext i
  have h0 : (i 0).val < 24576 := (i 0).isLt
  have h1 : (i 1).val < 8192 := (i 1).isLt
  have hp : 16 * ((i 0).val / 512 + 1) + (i 1).val / 512 < cfg0.N := lt_of_lt_of_eq (by omega) N_0.symm
  refine arr_at m c hb i ⟨16 * ((i 0).val / 512 + 1) + (i 1).val / 512, hp⟩ (by show 16 ≤ 16 * ((i 0).val / 512 + 1) + (i 1).val / 512; omega) ?_ cfg0.N hp le_rfl
  rw [mem_blk6, idx6]
  intro a
  match a with
  | ⟨0, _⟩ =>
    show ((16 * ((i 0).val / 512 + 1) + (i 1).val / 512) / 16 - 1) * 512 ≤ (i 0).val ∧ (i 0).val < ((16 * ((i 0).val / 512 + 1) + (i 1).val / 512) / 16 - 1) * 512 + 512
    omega
  | ⟨1, _⟩ =>
    show (16 * ((i 0).val / 512 + 1) + (i 1).val / 512) % 16 * 512 ≤ (i 1).val ∧ (i 1).val < (16 * ((i 0).val / 512 + 1) + (i 1).val / 512) % 16 * 512 + 512
    omega

end Cert.GateUpIdeal.Kernel

end
-- ==== Proof.GateUpReference.lean ====
/- THE CODES OF THE REFERENCE OF THE GATE-UP CALL: every row is the row of gated activations (GateUpMath.lean), quantised. The dot
   products are the two arrays that the reference's one kernel leaves. -/
module

public import proofs.«01_k».proof.Proof.Gen.GateUpRefIdeal.Run
public import proofs.«01_k».proof.Proof.Gen.GateUpRefIdeal.Read
public import proofs.«01_k».proof.Proof.GateUpMath
public import Idealize.ShloMosaic.Lib.Pipeline.ValueKit
public import Idealize.ShloMosaic.Lib.Pointwise

@[expose] public section

noncomputable section

namespace Cert.GateUpRefIdeal.Reference

open Cert.GateUpRefIdeal Cert.GateUpRefIdeal.Gen Cert.GateUpRefIdeal.Read Idealize.ShloMosaic Idealize.ShloMosaic.TcCoe Idealize.SL.Sem
open Cert.Norm (mabs)
open Cert.Gated

section Values

variable (x1 : (⟨S24576x1, .f32⟩ : BufTy).Contents (Elt Ideal)) (x3 x5 : (⟨S8192, .f32⟩ : BufTy).Contents (Elt Ideal))
  (r0 r1 : (⟨S24576x8192, .f32⟩ : BufTy).Contents (Elt Ideal))

/-- A row of gated activations, from the two arrays of dot products. -/
abbrev rowOf (r : Fin 24576) (k : Fin 8192) : EReal := act (r0 (ix2 r k) * x1 (ix2 r 0) * x3 (ix1 k)) (r1 (ix2 r k) * x1 (ix2 r 0) * x5 (ix1 k))

theorem gate_eq (r : Fin 24576) (k : Fin 8192) : val_main_v8 (F := Ideal) x1 x3 r0 (ix2 r k) = r0 (ix2 r k) * x1 (ix2 r 0) * x3 (ix1 k) := by
  pointwise [val_main_v8, val_main_v7, val_main_v6, val_main_v5, val_main_v4]

theorem up_eq (r : Fin 24576) (k : Fin 8192) : val_main_v13 (F := Ideal) x1 x5 r1 (ix2 r k) = r1 (ix2 r k) * x1 (ix2 r 0) * x5 (ix1 k) := by
  pointwise [val_main_v13, val_main_v12, val_main_v11, val_main_v10, val_main_v9]

theorem act_eq (r : Fin 24576) (k : Fin 8192) : val_main_v15 (F := Ideal) x1 x3 x5 r0 r1 (ix2 r k) = rowOf x1 x3 x5 r0 r1 r k := by
  unfold rowOf
  rw [← gate_eq, ← up_eq, val_main_v15_apply, val_main_v14_apply, val_main_call0_v5_apply, val_main_call0_v4_apply, val_main_call0_v3_apply,
    val_main_call0_v2_apply, val_main_call0_v1_apply, val_main_call0_v0_apply]
  generalize val_main_v8 (F := Ideal) x1 x3 r0 (ix2 r k) = g
  generalize val_main_v13 (F := Ideal) x1 x5 r1 (ix2 r k) = u
  have one : Ideal.ofBits .f32 0x3F800000#32 = (1 : EReal) := Scale.one_eq.trans EReal.coe_one
  show g * Ideal.div (Ideal.ofBits .f32 0x3F800000#32) (Ideal.ofBits .f32 0x3F800000#32 + Ideal.exp (-g)) * u = act g u
  rw [one]
  rfl

/-- The largest magnitude of a row's numbers. -/
theorem top_eq (r : Fin 24576) : val_main_v17 (F := Ideal) x1 x3 x5 r0 r1 (ix1 r) = top (rowOf x1 x3 x5 r0 r1 r) := by
  unfold top
  simp only [← act_eq]
  pointwise [val_main_v17]
  rfl

/-- The magnitude of a row. -/
theorem mag_eq (r : Fin 24576) : val_main_v19 (F := Ideal) x1 x3 x5 r0 r1 (ix1 r) = mag (rowOf x1 x3 x5 r0 r1 r) := by
  unfold mag
  rw [← top_eq, val_main_v19_apply, val_main_v18_apply]
  generalize val_main_v17 (F := Ideal) x1 x3 x5 r0 r1 (ix1 r) = y
  rfl

/-- The exponent of a row. -/
theorem expo_eq (r : Fin 24576) : val_main_v33 (F := Ideal) x1 x3 x5 r0 r1 (ix1 r) = Scale.expoQ (mag (rowOf x1 x3 x5 r0 r1 r)) := by
  rw [← mag_eq, val_main_v33_apply, val_main_v32_apply, val_main_v31_apply, val_main_v29_apply, val_main_v30_apply, val_main_v28_apply,
    val_main_call1_v1_apply, val_main_call1_v0_apply, val_main_v27_apply, val_main_v26_apply, val_main_v25_apply, val_main_v24_apply,
    val_main_v23_apply, val_main_v22_apply, val_main_v21_apply, val_main_v20_apply]
  unfold Scale.expoQ
  generalize val_main_v19 (F := Ideal) x1 x3 x5 r0 r1 (ix1 r) = y
  rfl

/-- The inverse scale of a row. -/
theorem inv_eq (r : Fin 24576) : val_main_v38 (F := Ideal) x1 x3 x5 r0 r1 (ix1 r)
    = Ideal.exp2 (Ideal.ofBits .f32 0x00000000#32 - Scale.expoF Scale.log2e (mag (rowOf x1 x3 x5 r0 r1 r))) := by
  rw [← Scale.inverse_eq, ← expo_eq, val_main_v38_apply, val_main_v37_apply, val_main_v36_apply]
  generalize val_main_v33 (F := Ideal) x1 x3 x5 r0 r1 (ix1 r) = y
  rfl

/-- The codes of a row. -/
theorem code_eq (r : Fin 24576) (k : Fin 8192) : val_main_v44_0 (F := Ideal) x1 x3 x5 r0 r1 (ix2 r k) = code (rowOf x1 x3 x5 r0 r1 r) k := by
  have i : idx_main_v39 (idx_main_v40 (ix2 r k)) = ix1 r := by funext d; fin_cases d; rfl
  unfold code
  rw [← inv_eq, ← act_eq, val_main_v44_0_apply, val_main_v43_apply, val_main_v42_apply, val_main_call2_v4_apply, val_main_call2_v3_apply,
    val_main_call2_v2_apply, val_main_call2_v1_apply, val_main_call2_v0_apply, val_main_v41_apply, val_main_v40_apply, val_main_v39_apply, i]
  generalize val_main_v38 (F := Ideal) x1 x3 x5 r0 r1 (ix1 r) = y
  generalize val_main_v15 (F := Ideal) x1 x3 x5 r0 r1 (ix2 r k) = z
  rfl

end Values

section Region

/-- The array of all dot products of the rows of codes with the columns of the weights. -/
def dots (A : S24576x2048.Idx → EReal) (W : S2048x8192.Idx → EReal) : S24576x8192.Idx → EReal :=
  fun i => ∑ j : Fin 2048, A (ix2 (i 0) j) * W (ix2 j (i 1))

theorem pay1_eq (A : Vec Ideal S24576x2048 .fp8e4m3) (W : Vec Ideal S2048x8192 .fp8e4m3) : k0_pay1 (F := Ideal) A W = dots A W := by
  funext i
  obtain ⟨r, k, rfl⟩ : ∃ r k, i = ix2 r k := ⟨i 0, i 1, eq_ix2 i⟩
  pointwise [k0_pay1]
  rfl

theorem pay2_eq (A : Vec Ideal S24576x2048 .fp8e4m3) (W : Vec Ideal S2048x8192 .fp8e4m3) : k0_pay2 (F := Ideal) A W = dots A W := by
  funext i
  obtain ⟨r, k, rfl⟩ : ∃ r k, i = ix2 r k := ⟨i 0, i 1, eq_ix2 i⟩
  pointwise [k0_pay2]
  rfl

variable (m : (ℓ : Loc nD τ sig) → Buf (Elt Ideal) ℓ) (c : Dev nD)

theorem x_eq : iblk m c 0 t0_0 = m ((c.tc : Thread nD τ).loc main_arg0) := by
  funext i
  blk_ext! [iblk, V, show win0_0.index t0_0 = ![0, 0] by decide]

theorem wg_eq : iblk m c 1 t0_0 = m ((c.tc : Thread nD τ).loc main_arg2) := by
  funext i
  blk_ext! [iblk, V, show win0_1.index t0_0 = ![0, 0] by decide]

theorem wu_eq : iblk m c 2 t0_0 = m ((c.tc : Thread nD τ).loc main_arg4) := by
  funext i
  blk_ext! [iblk, V, show win0_2.index t0_0 = ![0, 0] by decide]

/-- What the kernel that computes the products leaves: those of the gate. -/
theorem gates_eq : Value.reg_main_v3_0 m c = dots (m ((c.tc : Thread nD τ).loc main_arg0)) (m ((c.tc : Thread nD τ).loc main_arg2)) := by
  refine (dats m 0 c).arrAt_eq_of_after_last 3 t0_0 (by decide +kernel)
    (dots (m ((c.tc : Thread nD τ).loc main_arg0)) (m ((c.tc : Thread nD τ).loc main_arg2))) (fun j => ?_) (Memref.isWhole_whole _)
  blk_simp
  rw [after0_3]
  frame_out
  rw [pay1_eq, x_eq, wg_eq]

/-- And those of the other factor. -/
theorem ups_eq : Value.reg_main_v3_1 m c = dots (m ((c.tc : Thread nD τ).loc main_arg0)) (m ((c.tc : Thread nD τ).loc main_arg4)) := by
  refine (dats m 0 c).arrAt_eq_of_after_last 4 t0_0 (by decide +kernel)
    (dots (m ((c.tc : Thread nD τ).loc main_arg0)) (m ((c.tc : Thread nD τ).loc main_arg4))) (fun j => ?_) (Memref.isWhole_whole _)
  blk_simp
  rw [after0_4]
  frame_out
  rw [pay2_eq, x_eq, wu_eq]

end Region

variable (m : (ℓ : Loc nD τ sig) → Buf (Elt Ideal) ℓ) (c : Dev nD)

/-- Row `R` of the gated activations, from the arguments. -/
abbrev line (R : Fin 24576) : Fin 8192 → EReal :=
  row (fun j => m ((c.tc : Thread nD τ).loc main_arg0) (ix2 R j)) (m ((c.tc : Thread nD τ).loc main_arg1) (ix2 R 0))
    (fun j k => m ((c.tc : Thread nD τ).loc main_arg2) (ix2 j k)) (fun k => m ((c.tc : Thread nD τ).loc main_arg3) (ix1 k))
    (fun j k => m ((c.tc : Thread nD τ).loc main_arg4) (ix2 j k)) (fun k => m ((c.tc : Thread nD τ).loc main_arg5) (ix1 k))

/-- THE RUN: it leaves the codes, and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v44_0) = (fun i => code (line m c (i 0)) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨(h c).1.trans ?_, (h c).2⟩) (Value.run m ρ)
  rw [val_main_v44_0_eq, Value.exit_main_arg1, Value.exit_main_arg3, Value.exit_main_arg5, Value.exit_main_v3_0, Value.exit_main_v3_1, gates_eq, ups_eq]
  funext i
  obtain ⟨r, k, rfl⟩ : ∃ (r : Fin 24576) (k : Fin 8192), i = ix2 r k := ⟨i 0, i 1, eq_ix2 i⟩
  exact code_eq _ _ _ _ _ r k

end Cert.GateUpRefIdeal.Reference

end
-- ==== Proof.GateUpAgree.lean ====
/- THE VALUE CLAIM of the gate-up call: from equal arguments, codes and weights at most 448 and scales at most 65536 in magnitude, the
   kernel and the reference end with equal codes over the extended reals. -/
module

public import proofs.«01_k».proof.Defs
public import proofs.«01_k».proof.Proof.GateUpPre
public import proofs.«01_k».proof.Proof.GateUpArrays
public import proofs.«01_k».proof.Proof.GateUpReference

@[expose] public section

noncomputable section

namespace Cert.GateUpAgree

open Idealize.ShloMosaic Idealize.ShloMosaic.TcCoe Idealize.SL.Sem
open Cert.Norm (mabs)
open Cert.Gated

section Bounds

open Cert.Pre_gate_up_bounded

variable (a0 : FVec Ideal S24576x2048 .f32) (a1 : FVec Ideal S24576x1 .f32) (a2 : FVec Ideal S2048x8192 .f32) (a3 : FVec Ideal S8192 .f32)
  (a4 : FVec Ideal S2048x8192 .f32) (a5 : FVec Ideal S8192 .f32)

/-- Under the precondition every row's magnitude is below `2^126`. -/
theorem bounded (h : fn (F := Ideal) a0 a1 a2 a3 a4 a5 = fun _ => 1#1) (R : Fin 24576) :
    mag (row (fun j => a0 (ix2 R j)) (a1 (ix2 R 0)) (fun j k => a2 (ix2 j k)) (fun k => a3 (ix1 k)) (fun j k => a4 (ix2 j k)) (fun k => a5 (ix1 k)))
        < (((2 : ℝ) ^ (126 : ℤ) : ℝ) : EReal)
      ∨ mag (row (fun j => a0 (ix2 R j)) (a1 (ix2 R 0)) (fun j k => a2 (ix2 j k)) (fun k => a3 (ix1 k)) (fun j k => a4 (ix2 j k)) (fun k => a5 (ix1 k))) = ⊤ := by
  obtain ⟨h0, h2, h4, h1, h3, h5⟩ := split a0 a1 a2 a3 a4 a5 h
  exact row_bound _ _ _ _ _ _ (fun j => within_of_le _ _ (h0 (R, j))) (within_of_le _ _ (h1 (R, 0))) (fun j k => within_of_le _ _ (h2 (j, k)))
    (fun k => within_of_le _ _ (h3 k)) (fun j k => within_of_le _ _ (h4 (j, k))) (fun k => within_of_le _ _ (h5 k))

end Bounds

theorem algebraic : algebraic_GateUpIdeal_GateUpRefIdeal_pre_gate_up_bounded := by
  intro m g m' g' hpre hagree
  refine ⟨fun c => Cert.GateUpIdeal.Kernel.codes m c,
    (θ_run Cert.GateUpIdeal.defs _ _).mono (fun r h c => ⟨(h c).1.trans (Cert.GateUpIdeal.Kernel.codes_eq m c (bounded _ _ _ _ _ _ (hpre c))), (h c).2⟩)
      (Cert.GateUpIdeal.Value.run_blocks m g), ?_⟩
  have hl : ∀ c R, Cert.GateUpRefIdeal.Reference.line m' c R = Cert.GateUpIdeal.Blocks.line m c R := fun c R => by
    unfold Cert.GateUpRefIdeal.Reference.line
    rw [(hagree c).1, (hagree c).2.1, (hagree c).2.2.1, (hagree c).2.2.2.1, (hagree c).2.2.2.2.1, (hagree c).2.2.2.2.2]
  refine (θ_run Cert.GateUpRefIdeal.defs _ _).mono (fun r h c => ⟨(h c).1.trans ?_, (h c).2⟩) (Cert.GateUpRefIdeal.Reference.run m' g')
  funext i
  exact congrArg (fun f => code f (i 1)) (hl c (i 0))

end Cert.GateUpAgree

end
-- ==== Proof.lean ====
/- THE CERTIFICATE of `Cert.Claim` (proofs.«01_k».proof.Defs): the frames are the generated ones (that of `XnRefIdeal`, a program
   of host operations alone, is in XnReference.lean; those of `GateUp` and `GateUpIdeal` in GateUpFrame.lean and GateUpIdealFrame.lean), the preserved constant is log2 e, and the value claims are those of `Cert.Agree`, `Cert.XnAgree`,
   `Cert.DownAgree` and `Cert.GateUpAgree`. -/
module

public import proofs.«01_k».proof.Defs
public import proofs.«01_k».proof.Proof.Gen.Head.Frame
public import proofs.«01_k».proof.Proof.Gen.HeadIdeal.Frame
public import proofs.«01_k».proof.Proof.Gen.HeadRefIdeal.Frame
public import proofs.«01_k».proof.Proof.Gen.Pre_targets_in_vocab
public import proofs.«01_k».proof.Proof.Gen.Xn.Frame
public import proofs.«01_k».proof.Proof.Gen.XnIdeal.Frame
public import proofs.«01_k».proof.Proof.Gen.Pre_xn_weights_float
public import proofs.«01_k».proof.Proof.Gen.Down.Frame
public import proofs.«01_k».proof.Proof.Gen.DownIdeal.Frame
public import proofs.«01_k».proof.Proof.Gen.DownRefIdeal.Frame
public import proofs.«01_k».proof.Proof.Gen.Pre_down_weights_float
public import proofs.«01_k».proof.Proof.GateUpFrame
public import proofs.«01_k».proof.Proof.GateUpIdealFrame
public import proofs.«01_k».proof.Proof.Gen.GateUpRefIdeal.Frame
public import proofs.«01_k».proof.Proof.Gen.Pre_gate_up_bounded
public import proofs.«01_k».proof.Proof.Agree
public import proofs.«01_k».proof.Proof.XnAgree
public import proofs.«01_k».proof.Proof.DownAgree
public import proofs.«01_k».proof.Proof.GateUpAgree
public import Idealize.ShloMosaic.PureOps.IdealRules
public import Idealize.ShloMosaic.Adequacy
public import Idealize.ShloMosaic.Init

@[expose] public section

noncomputable section

namespace Cert.Proof

open Idealize.ShloMosaic Idealize.SL.Sem

/-- Every claim of the certificate. -/
theorem claim : Cert.Claim := ⟨Cert.Head.Gen.facts, Cert.HeadIdeal.Gen.facts, Cert.HeadRefIdeal.Gen.facts, Cert.Xn.Gen.facts, Cert.XnIdeal.Gen.facts, Cert.XnRefIdeal.Gen.facts,
  Cert.Down.Gen.facts, Cert.DownIdeal.Gen.facts, Cert.DownRefIdeal.Gen.facts, Cert.GateUp.Gen.facts, Cert.GateUpIdeal.Gen.facts, Cert.GateUpRefIdeal.Gen.facts,
  Cert.Pre_targets_in_vocab.Gen.facts, Cert.Pre_xn_weights_float.Gen.facts, Cert.Pre_down_weights_float.Gen.facts,
  Cert.Pre_gate_up_bounded.Gen.facts,
  fun m ρ _ => Cert.Head.Gen.frame m ρ,
  fun m ρ _ => Cert.HeadIdeal.Gen.frame m ρ,
  fun m ρ _ => Cert.HeadIdeal.Gen.frame m ρ,
  fun m ρ _ => Cert.HeadRefIdeal.Gen.frame m ρ,
  fun m ρ _ => Cert.HeadRefIdeal.Gen.frame m ρ,
  fun m ρ _ => Cert.Xn.Gen.frame m ρ,
  fun m ρ _ => Cert.XnIdeal.Gen.frame m ρ,
  fun m ρ _ => Cert.XnIdeal.Gen.frame m ρ,
  fun m ρ _ => Cert.XnRefIdeal.Reference.frame m ρ,
  fun m ρ _ => Cert.XnRefIdeal.Reference.frame m ρ,
  fun m ρ _ => Cert.Down.Gen.frame m ρ,
  fun m ρ _ => Cert.DownIdeal.Gen.frame m ρ,
  fun m ρ _ => Cert.DownIdeal.Gen.frame m ρ,
  fun m ρ _ => Cert.DownRefIdeal.Gen.frame m ρ,
  fun m ρ _ => Cert.DownRefIdeal.Gen.frame m ρ,
  fun m ρ _ => Cert.GateUp.Gen.frame m ρ,
  fun m ρ _ => Cert.GateUpIdeal.Gen.frame m ρ,
  fun m ρ _ => Cert.GateUpIdeal.Gen.frame m ρ,
  fun m ρ _ => Cert.GateUpRefIdeal.Gen.frame m ρ,
  fun m ρ _ => Cert.GateUpRefIdeal.Gen.frame m ρ,
  IdealRules.named_const.statement Cert.HeadIdeal.κ "log2e" .f32 0x3FB8AA3B#32 _ rfl,
  Cert.Agree.algebraic,
  trivial, Cert.XnAgree.algebraic,
  trivial, Cert.DownAgree.algebraic,
  trivial, Cert.GateUpAgree.algebraic⟩

end Cert.Proof

end
